-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Score (m : (ℓ : Loc Cert.Score.nD Cert.Score.τ Cert.Score.sig) → Buf (Elt Bits) ℓ) : Prop :=
  True

def Pre_ScoreIdeal (m : (ℓ : Loc Cert.ScoreIdeal.nD Cert.ScoreIdeal.τ Cert.ScoreIdeal.sig) → Buf (Elt Ideal) ℓ) : Prop :=
  True

def Pre_ScoreIdeal_below_infinity [hPre_below_infinity : Cert.Pre_below_infinity.Facts] (m : (ℓ : Loc Cert.ScoreIdeal.nD Cert.ScoreIdeal.τ Cert.ScoreIdeal.sig) → Buf (Elt Ideal) ℓ) : Prop :=
  ∀ c : Dev Cert.ScoreIdeal.nD,
    (Cert.Pre_below_infinity.fn (F := Ideal) (m ((c.tc : Thread Cert.ScoreIdeal.nD Cert.ScoreIdeal.τ).loc Cert.ScoreIdeal.main_arg0)) (m ((c.tc : Thread Cert.ScoreIdeal.nD Cert.ScoreIdeal.τ).loc Cert.ScoreIdeal.main_arg1)) (m ((c.tc : Thread Cert.ScoreIdeal.nD Cert.ScoreIdeal.τ).loc Cert.ScoreIdeal.main_arg2))) = (fun _ => 1#1)

def Pre_ScoreReferenceIdeal (m : (ℓ : Loc Cert.ScoreReferenceIdeal.nD Cert.ScoreReferenceIdeal.τ Cert.ScoreReferenceIdeal.sig) → Buf (Elt Ideal) ℓ) : Prop :=
  True

def Pre_ScoreReferenceIdeal_below_infinity [hPre_below_infinity : Cert.Pre_below_infinity.Facts] (m : (ℓ : Loc Cert.ScoreReferenceIdeal.nD Cert.ScoreReferenceIdeal.τ Cert.ScoreReferenceIdeal.sig) → Buf (Elt Ideal) ℓ) : Prop :=
  ∀ c : Dev Cert.ScoreReferenceIdeal.nD,
    (Cert.Pre_below_infinity.fn (F := Ideal) (m ((c.tc : Thread Cert.ScoreReferenceIdeal.nD Cert.ScoreReferenceIdeal.τ).loc Cert.ScoreReferenceIdeal.main_arg0)) (m ((c.tc : Thread Cert.ScoreReferenceIdeal.nD Cert.ScoreReferenceIdeal.τ).loc Cert.ScoreReferenceIdeal.main_arg1)) (m ((c.tc : Thread Cert.ScoreReferenceIdeal.nD Cert.ScoreReferenceIdeal.τ).loc Cert.ScoreReferenceIdeal.main_arg2))) = (fun _ => 1#1)

def Pre_Query [hPre_places_in_range : Cert.Pre_places_in_range.Facts] (m : (ℓ : Loc Cert.Query.nD Cert.Query.τ Cert.Query.sig) → Buf (Elt Bits) ℓ) : Prop :=
  ∀ c : Dev Cert.Query.nD,
    (Cert.Pre_places_in_range.fn (F := Bits) (m ((c.tc : Thread Cert.Query.nD Cert.Query.τ).loc Cert.Query.main_arg0)) (m ((c.tc : Thread Cert.Query.nD Cert.Query.τ).loc Cert.Query.main_arg1)) (m ((c.tc : Thread Cert.Query.nD Cert.Query.τ).loc Cert.Query.main_arg2))) = (fun _ => 1#1)

def Pre_QueryIdeal [hPre_places_in_range : Cert.Pre_places_in_range.Facts] (m : (ℓ : Loc Cert.QueryIdeal.nD Cert.QueryIdeal.τ Cert.QueryIdeal.sig) → Buf (Elt Ideal) ℓ) : Prop :=
  ∀ c : Dev Cert.QueryIdeal.nD,
    (Cert.Pre_places_in_range.fn (F := Ideal) (m ((c.tc : Thread Cert.QueryIdeal.nD Cert.QueryIdeal.τ).loc Cert.QueryIdeal.main_arg0)) (m ((c.tc : Thread Cert.QueryIdeal.nD Cert.QueryIdeal.τ).loc Cert.QueryIdeal.main_arg1)) (m ((c.tc : Thread Cert.QueryIdeal.nD Cert.QueryIdeal.τ).loc Cert.QueryIdeal.main_arg2))) = (fun _ => 1#1)

def Pre_QueryReferenceIdeal (m : (ℓ : Loc Cert.QueryReferenceIdeal.nD Cert.QueryReferenceIdeal.τ Cert.QueryReferenceIdeal.sig) → Buf (Elt Ideal) ℓ) : Prop :=
  True

def Pre_QueryReferenceIdeal_places_in_range [hPre_places_in_range : Cert.Pre_places_in_range.Facts] (m : (ℓ : Loc Cert.QueryReferenceIdeal.nD Cert.QueryReferenceIdeal.τ Cert.QueryReferenceIdeal.sig) → Buf (Elt Ideal) ℓ) : Prop :=
  ∀ c : Dev Cert.QueryReferenceIdeal.nD,
    (Cert.Pre_places_in_range.fn (F := Ideal) (m ((c.tc : Thread Cert.QueryReferenceIdeal.nD Cert.QueryReferenceIdeal.τ).loc Cert.QueryReferenceIdeal.main_arg0)) (m ((c.tc : Thread Cert.QueryReferenceIdeal.nD Cert.QueryReferenceIdeal.τ).loc Cert.QueryReferenceIdeal.main_arg1)) (m ((c.tc : Thread Cert.QueryReferenceIdeal.nD Cert.QueryReferenceIdeal.τ).loc Cert.QueryReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Score [hScore : Cert.Score.Facts] : Prop :=
  ∀ (m : (ℓ : Loc Cert.Score.nD Cert.Score.τ Cert.Score.sig) → Buf (Elt Bits) ℓ) (g : Dev Cert.Score.nD → PrngReg), Pre_Score m →
    θ_run (Cert.Score.defs (F := Bits)) (onTc (τ := Cert.Score.τ) (Cert.Score.main (F := Bits))) ⟨m, fun _ => 0, g⟩ (fun r => (∀ c : Dev Cert.Score.nD,
      r.2.mem ((c.tc : Thread Cert.Score.nD Cert.Score.τ).loc Cert.Score.main_arg0) = m ((c.tc : Thread Cert.Score.nD Cert.Score.τ).loc Cert.Score.main_arg0)
      ∧ r.2.mem ((c.tc : Thread Cert.Score.nD Cert.Score.τ).loc Cert.Score.main_arg1) = m ((c.tc : Thread Cert.Score.nD Cert.Score.τ).loc Cert.Score.main_arg1)
      ∧ r.2.mem ((c.tc : Thread Cert.Score.nD Cert.Score.τ).loc Cert.Score.main_arg2) = m ((c.tc : Thread Cert.Score.nD Cert.Score.τ).loc Cert.Score.main_arg2))
      ∧ r.2.sem = fun _ => 0)

def quiescent_ScoreIdeal [hScoreIdeal : Cert.ScoreIdeal.Facts] : Prop :=
  ∀ (m : (ℓ : Loc Cert.ScoreIdeal.nD Cert.ScoreIdeal.τ Cert.ScoreIdeal.sig) → Buf (Elt Ideal) ℓ) (g : Dev Cert.ScoreIdeal.nD → PrngReg), Pre_ScoreIdeal m →
    θ_run (Cert.ScoreIdeal.defs (F := Ideal)) (onTc (τ := Cert.ScoreIdeal.τ) (Cert.ScoreIdeal.main (F := Ideal))) ⟨m, fun _ => 0, g⟩ (fun r => (∀ c : Dev Cert.ScoreIdeal.nD,
      r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
      ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1)
      ∧ r.2.mem ((c.tc : Thread Cert.ScoreIdeal.nD Cert.ScoreIdeal.τ).loc Cert.ScoreIdeal.main_arg2) = m ((c.tc : Thread Cert.ScoreIdeal.nD Cert.ScoreIdeal.τ).loc Cert.ScoreIdeal.main_arg2))
      ∧ r.2.sem = fun _ => 0)

def quiescent_ScoreIdeal_pre_below_infinity [hScoreIdeal : Cert.ScoreIdeal.Facts] [hPre_below_infinity : Cert.Pre_below_infinity.Facts] : Prop :=
  ∀ (m : (ℓ : Loc Cert.ScoreIdeal.nD Cert.ScoreIdeal.τ Cert.ScoreIdeal.sig) → Buf (Elt Ideal) ℓ) (g : Dev Cert.ScoreIdeal.nD → PrngReg), Pre_ScoreIdeal_below_infinity m →
    θ_run (Cert.ScoreIdeal.defs (F := Ideal)) (onTc (τ := Cert.ScoreIdeal.τ) (Cert.ScoreIdeal.main (F := Ideal))) ⟨m, fun _ => 0, g⟩ (fun r => (∀ c : Dev Cert.ScoreIdeal.nD,
      r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
      ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1)
      ∧ r.2.mem ((c.tc : Thread Cert.ScoreIdeal.nD Cert.ScoreIdeal.τ).loc Cert.ScoreIdeal.main_arg2) = m ((c.tc : Thread Cert.ScoreIdeal.nD Cert.ScoreIdeal.τ).loc Cert.ScoreIdeal.main_arg2))
      ∧ r.2.sem = fun _ => 0)

def quiescent_ScoreReferenceIdeal [hScoreReferenceIdeal : Cert.ScoreReferenceIdeal.Facts] : Prop :=
  ∀ (m : (ℓ : Loc Cert.ScoreReferenceIdeal.nD Cert.ScoreReferenceIdeal.τ Cert.ScoreReferenceIdeal.sig) → Buf (Elt Ideal) ℓ) (g : Dev Cert.ScoreReferenceIdeal.nD → PrngReg), Pre_ScoreReferenceIdeal m →
    θ_run (Cert.ScoreReferenceIdeal.defs (F := Ideal)) (onTc (τ := Cert.ScoreReferenceIdeal.τ) (Cert.ScoreReferenceIdeal.main (F := Ideal))) ⟨m, fun _ => 0, g⟩ (fun r => (∀ c : Dev Cert.ScoreReferenceIdeal.nD,
      r.2.mem ((c.tc : Thread Cert.ScoreReferenceIdeal.nD Cert.ScoreReferenceIdeal.τ).loc Cert.ScoreReferenceIdeal.main_arg0) = m ((c.tc : Thread Cert.ScoreReferenceIdeal.nD Cert.ScoreReferenceIdeal.τ).loc Cert.ScoreReferenceIdeal.main_arg0)
      ∧ r.2.mem ((c.tc : Thread Cert.ScoreReferenceIdeal.nD Cert.ScoreReferenceIdeal.τ).loc Cert.ScoreReferenceIdeal.main_arg1) = m ((c.tc : Thread Cert.ScoreReferenceIdeal.nD Cert.ScoreReferenceIdeal.τ).loc Cert.ScoreReferenceIdeal.main_arg1)
      ∧ r.2.mem ((c.tc : Thread Cert.ScoreReferenceIdeal.nD Cert.ScoreReferenceIdeal.τ).loc Cert.ScoreReferenceIdeal.main_arg2) = m ((c.tc : Thread Cert.ScoreReferenceIdeal.nD Cert.ScoreReferenceIdeal.τ).loc Cert.ScoreReferenceIdeal.main_arg2))
      ∧ r.2.sem = fun _ => 0)

def quiescent_ScoreReferenceIdeal_pre_below_infinity [hScoreReferenceIdeal : Cert.ScoreReferenceIdeal.Facts] [hPre_below_infinity : Cert.Pre_below_infinity.Facts] : Prop :=
  ∀ (m : (ℓ : Loc Cert.ScoreReferenceIdeal.nD Cert.ScoreReferenceIdeal.τ Cert.ScoreReferenceIdeal.sig) → Buf (Elt Ideal) ℓ) (g : Dev Cert.ScoreReferenceIdeal.nD → PrngReg), Pre_ScoreReferenceIdeal_below_infinity m →
    θ_run (Cert.ScoreReferenceIdeal.defs (F := Ideal)) (onTc (τ := Cert.ScoreReferenceIdeal.τ) (Cert.ScoreReferenceIdeal.main (F := Ideal))) ⟨m, fun _ => 0, g⟩ (fun r => (∀ c : Dev Cert.ScoreReferenceIdeal.nD,
      r.2.mem ((c.tc : Thread Cert.ScoreReferenceIdeal.nD Cert.ScoreReferenceIdeal.τ).loc Cert.ScoreReferenceIdeal.main_arg0) = m ((c.tc : Thread Cert.ScoreReferenceIdeal.nD Cert.ScoreReferenceIdeal.τ).loc Cert.ScoreReferenceIdeal.main_arg0)
      ∧ r.2.mem ((c.tc : Thread Cert.ScoreReferenceIdeal.nD Cert.ScoreReferenceIdeal.τ).loc Cert.ScoreReferenceIdeal.main_arg1) = m ((c.tc : Thread Cert.ScoreReferenceIdeal.nD Cert.ScoreReferenceIdeal.τ).loc Cert.ScoreReferenceIdeal.main_arg1)
      ∧ r.2.mem ((c.tc : Thread Cert.ScoreReferenceIdeal.nD Cert.ScoreReferenceIdeal.τ).loc Cert.ScoreReferenceIdeal.main_arg2) = m ((c.tc : Thread Cert.ScoreReferenceIdeal.nD Cert.ScoreReferenceIdeal.τ).loc Cert.ScoreReferenceIdeal.main_arg2))
      ∧ r.2.sem = fun _ => 0)

def quiescent_Query [hQuery : Cert.Query.Facts] [hPre_places_in_range : Cert.Pre_places_in_range.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] [hPre_places_in_range : Cert.Pre_places_in_range.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2))
      ∧ r.2.sem = fun _ => 0)

def quiescent_QueryReferenceIdeal_pre_places_in_range [hQueryReferenceIdeal : Cert.QueryReferenceIdeal.Facts] [hPre_places_in_range : Cert.Pre_places_in_range.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal_places_in_range m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2))
      ∧ r.2.sem = fun _ => 0)

def preserves_Kernel_KernelIdeal : Prop :=
  IdealRules.named_const.Statement Cert.KernelIdeal.κ "inf" .f32 0x7F61B1E6#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v434) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Score_ScoreIdeal : Prop :=
  True

def algebraic_ScoreIdeal_ScoreReferenceIdeal_pre_below_infinity [hScoreIdeal : Cert.ScoreIdeal.Facts] [hScoreReferenceIdeal : Cert.ScoreReferenceIdeal.Facts] [hPre_below_infinity : Cert.Pre_below_infinity.Facts] : Prop :=
  ∀ (m : (ℓ : Loc Cert.ScoreIdeal.nD Cert.ScoreIdeal.τ Cert.ScoreIdeal.sig) → Buf (Elt Ideal) ℓ) (g : Dev Cert.ScoreIdeal.nD → PrngReg)
    (m' : (ℓ : Loc Cert.ScoreReferenceIdeal.nD Cert.ScoreReferenceIdeal.τ Cert.ScoreReferenceIdeal.sig) → Buf (Elt Ideal) ℓ) (g' : Dev Cert.ScoreReferenceIdeal.nD → PrngReg), Pre_ScoreIdeal_below_infinity m →
    (∀ c : Dev Cert.ScoreIdeal.nD,
      m' ((c.tc : Thread Cert.ScoreReferenceIdeal.nD Cert.ScoreReferenceIdeal.τ).loc Cert.ScoreReferenceIdeal.main_arg0) = m ((c.tc : Thread Cert.ScoreIdeal.nD Cert.ScoreIdeal.τ).loc Cert.ScoreIdeal.main_arg0)
      ∧ m' ((c.tc : Thread Cert.ScoreReferenceIdeal.nD Cert.ScoreReferenceIdeal.τ).loc Cert.ScoreReferenceIdeal.main_arg1) = m ((c.tc : Thread Cert.ScoreIdeal.nD Cert.ScoreIdeal.τ).loc Cert.ScoreIdeal.main_arg1)
      ∧ m' ((c.tc : Thread Cert.ScoreReferenceIdeal.nD Cert.ScoreReferenceIdeal.τ).loc Cert.ScoreReferenceIdeal.main_arg2) = m ((c.tc : Thread Cert.ScoreIdeal.nD Cert.ScoreIdeal.τ).loc Cert.ScoreIdeal.main_arg2)) →
    ∃ (v0 : (c : Dev Cert.ScoreIdeal.nD) → Buf (Elt Ideal) ((c.tc : Thread Cert.ScoreIdeal.nD Cert.ScoreIdeal.τ).loc Cert.ScoreIdeal.main_v0)),
      θ_run (Cert.ScoreIdeal.defs (F := Ideal)) (onTc (τ := Cert.ScoreIdeal.τ) (Cert.ScoreIdeal.main (F := Ideal))) ⟨m, fun _ => 0, g⟩ (fun r => ∀ c : Dev Cert.ScoreIdeal.nD,
          r.2.mem ((c.tc : Thread Cert.ScoreIdeal.nD Cert.ScoreIdeal.τ).loc Cert.ScoreIdeal.main_v0) = v0 c
          ∧ r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
          ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1)
          ∧ r.2.mem ((c.tc : Thread Cert.ScoreIdeal.nD Cert.ScoreIdeal.τ).loc Cert.ScoreIdeal.main_arg2) = m ((c.tc : Thread Cert.ScoreIdeal.nD Cert.ScoreIdeal.τ).loc Cert.ScoreIdeal.main_arg2))
      ∧ θ_run (Cert.ScoreReferenceIdeal.defs (F := Ideal)) (onTc (τ := Cert.ScoreReferenceIdeal.τ) (Cert.ScoreReferenceIdeal.main (F := Ideal))) ⟨m', fun _ => 0, g'⟩ (fun r => ∀ c : Dev Cert.ScoreReferenceIdeal.nD,
          r.2.mem ((c.tc : Thread Cert.ScoreReferenceIdeal.nD Cert.ScoreReferenceIdeal.τ).loc Cert.ScoreReferenceIdeal.main_v16) = v0 c
          ∧ r.2.mem ((c.tc : Thread Cert.ScoreReferenceIdeal.nD Cert.ScoreReferenceIdeal.τ).loc Cert.ScoreReferenceIdeal.main_arg0) = m' ((c.tc : Thread Cert.ScoreReferenceIdeal.nD Cert.ScoreReferenceIdeal.τ).loc Cert.ScoreReferenceIdeal.main_arg0)
          ∧ r.2.mem ((c.tc : Thread Cert.ScoreReferenceIdeal.nD Cert.ScoreReferenceIdeal.τ).loc Cert.ScoreReferenceIdeal.main_arg1) = m' ((c.tc : Thread Cert.ScoreReferenceIdeal.nD Cert.ScoreReferenceIdeal.τ).loc Cert.ScoreReferenceIdeal.main_arg1)
          ∧ r.2.mem ((c.tc : Thread Cert.ScoreReferenceIdeal.nD Cert.ScoreReferenceIdeal.τ).loc Cert.ScoreReferenceIdeal.main_arg2) = m' ((c.tc : Thread Cert.ScoreReferenceIdeal.nD Cert.ScoreReferenceIdeal.τ).loc Cert.ScoreReferenceIdeal.main_arg2))

def preserves_Query_QueryIdeal : Prop :=
  True

def algebraic_QueryIdeal_QueryReferenceIdeal [hQueryIdeal : Cert.QueryIdeal.Facts] [hQueryReferenceIdeal : Cert.QueryReferenceIdeal.Facts] [hPre_places_in_range : Cert.Pre_places_in_range.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v32) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2))

def Claim : Prop :=
  ∃ (hKernel : Cert.Kernel.Facts) (hKernelIdeal : Cert.KernelIdeal.Facts) (hReferenceIdeal : Cert.ReferenceIdeal.Facts) (hScore : Cert.Score.Facts) (hScoreIdeal : Cert.ScoreIdeal.Facts) (hScoreReferenceIdeal : Cert.ScoreReferenceIdeal.Facts) (hQuery : Cert.Query.Facts) (hQueryIdeal : Cert.QueryIdeal.Facts) (hQueryReferenceIdeal : Cert.QueryReferenceIdeal.Facts) (hPre_below_infinity : Cert.Pre_below_infinity.Facts) (hPre_places_in_range : Cert.Pre_places_in_range.Facts),
    quiescent_Kernel (hKernel := hKernel)
    ∧ quiescent_KernelIdeal (hKernelIdeal := hKernelIdeal)
    ∧ quiescent_ReferenceIdeal (hReferenceIdeal := hReferenceIdeal)
    ∧ quiescent_Score (hScore := hScore)
    ∧ quiescent_ScoreIdeal (hScoreIdeal := hScoreIdeal)
    ∧ quiescent_ScoreIdeal_pre_below_infinity (hScoreIdeal := hScoreIdeal) (hPre_below_infinity := hPre_below_infinity)
    ∧ quiescent_ScoreReferenceIdeal (hScoreReferenceIdeal := hScoreReferenceIdeal)
    ∧ quiescent_ScoreReferenceIdeal_pre_below_infinity (hScoreReferenceIdeal := hScoreReferenceIdeal) (hPre_below_infinity := hPre_below_infinity)
    ∧ quiescent_Query (hQuery := hQuery) (hPre_places_in_range := hPre_places_in_range)
    ∧ quiescent_QueryIdeal (hQueryIdeal := hQueryIdeal) (hPre_places_in_range := hPre_places_in_range)
    ∧ quiescent_QueryReferenceIdeal (hQueryReferenceIdeal := hQueryReferenceIdeal)
    ∧ quiescent_QueryReferenceIdeal_pre_places_in_range (hQueryReferenceIdeal := hQueryReferenceIdeal) (hPre_places_in_range := hPre_places_in_range)
    ∧ preserves_Kernel_KernelIdeal
    ∧ algebraic_KernelIdeal_ReferenceIdeal (hKernelIdeal := hKernelIdeal) (hReferenceIdeal := hReferenceIdeal)
    ∧ preserves_Score_ScoreIdeal
    ∧ algebraic_ScoreIdeal_ScoreReferenceIdeal_pre_below_infinity (hScoreIdeal := hScoreIdeal) (hScoreReferenceIdeal := hScoreReferenceIdeal) (hPre_below_infinity := hPre_below_infinity)
    ∧ preserves_Query_QueryIdeal
    ∧ algebraic_QueryIdeal_QueryReferenceIdeal (hQueryIdeal := hQueryIdeal) (hQueryReferenceIdeal := hQueryReferenceIdeal) (hPre_places_in_range := hPre_places_in_range)
-- ==== Pre_below_infinity.lean ====
abbrev S2x16384 : Shape := ⟨2, ![2, 16384]⟩
abbrev S2x1 : Shape := ⟨2, ![2, 1]⟩
abbrev S_ : Shape := ⟨0, ![]⟩

class Facts : Prop where
  bcast_S_S2x16384 : S_.BroadcastsInDim S2x16384 (![] : Fin 0 → Fin S2x16384.rank)

variable [Facts]

def fn {F : FTy → Type} [FloatOps F] (main_arg0 : FVec F S2x16384 .f32) (main_arg1 : FVec F S2x16384 .f32) (main_arg2 : FVec F S2x1 .f32) : IVec S2x16384 1 :=
  let main_cst : FVec F S_ .f32 := constant S_ .f32 0x7F800000#32
  let main_v0 : FVec F S2x16384 .f32 := broadcastInDim S2x16384 ![] bcast_S_S2x16384 main_cst
  let main_v1 : IVec S2x16384 1 := cmpf .olt main_arg0 main_v0
  main_v1
-- ==== Pre_places_in_range.lean ====
abbrev S18 : Shape := ⟨1, ![18]⟩
abbrev S1568x1536 : Shape := ⟨2, ![1568, 1536]⟩
abbrev S16384x1536 : Shape := ⟨2, ![16384, 1536]⟩
abbrev S_ : Shape := ⟨0, ![]⟩

class Facts : Prop where
  bcast_S_S18 : S_.BroadcastsInDim S18 (![] : Fin 0 → Fin S18.rank)

variable [Facts]

def fn_where {F : FTy → Type} [FloatOps F] (arg0 : IVec S18 1) (arg1 : IVec S_ 32) (arg2 : IVec S_ 32) : IVec S18 32 :=
  let v0 : IVec S18 32 := broadcastInDim S18 ![] bcast_S_S18 arg1
  let v1 : IVec S18 32 := broadcastInDim S18 ![] bcast_S_S18 arg2
  let v2 : IVec S18 32 := select arg0 v0 v1
  v2

def fn {F : FTy → Type} [FloatOps F] (main_arg0 : IVec S18 32) (main_arg1 : FVec F S1568x1536 .f32) (main_arg2 : FVec F S16384x1536 .f32) : IVec S18 1 :=
  let main_v0 : IVec S18 32 := iotaInDim S18 32 0
  let main_c : IVec S_ 32 := constantI S_ 32 16#32
  let main_v1 : IVec S18 32 := broadcastInDim S18 ![] bcast_S_S18 main_c
  let main_v2 : IVec S18 1 := cmpi .slt main_v0 main_v1
  let main_c_0 : IVec S_ 32 := constantI S_ 32 1568#32
  let main_c_1 : IVec S_ 32 := constantI S_ 32 16384#32
  let main_v3 : IVec S18 32 := fn_where (F := F) main_v2 main_c_0 main_c_1
  let main_c_2 : IVec S_ 32 := constantI S_ 32 0#32
  let main_v4 : IVec S18 32 := broadcastInDim S18 ![] bcast_S_S18 main_c_2
  let main_v5 : IVec S18 1 := cmpi .sge main_arg0 main_v4
  let main_v6 : IVec S18 32 := id main_v3
  let main_v7 : IVec S18 1 := cmpi .slt main_arg0 main_v6
  let main_v8 : IVec S18 1 := andi main_v5 main_v7
  main_v8
-- ==== Kernel.lean ====
abbrev S1568x1536 : Shape := ⟨2, ![1568, 1536]⟩
abbrev S16384x1536 : Shape := ⟨2, ![16384, 1536]⟩
abbrev S1568x1 : Shape := ⟨2, ![1568, 1]⟩
abbrev S1024x1536 : Shape := ⟨2, ![1024, 1536]⟩
abbrev S1x1024 : Shape := ⟨2, ![1, 1024]⟩
abbrev S1568x1024 : Shape := ⟨2, ![1568, 1024]⟩
abbrev S112x1536 : Shape := ⟨2, ![112, 1536]⟩
abbrev S112 : Shape := ⟨1, ![112]⟩
abbrev S112x1 : Shape := ⟨2, ![112, 1]⟩
abbrev S128x1536 : Shape := ⟨2, ![128, 1536]⟩
abbrev S1x1536 : Shape := ⟨2, ![1, 1536]⟩
abbrev S1x128 : Shape := ⟨2, ![1, 128]⟩
abbrev S112x1024 : Shape := ⟨2, ![112, 1024]⟩
abbrev S2x784 : Shape := ⟨2, ![2, 784]⟩
abbrev S1x18 : Shape := ⟨2, ![1, 18]⟩
abbrev S2x1 : Shape := ⟨2, ![2, 1]⟩
abbrev S2 : Shape := ⟨1, ![2]⟩
abbrev S1x1 : Shape := ⟨2, ![1, 1]⟩
abbrev S1x8 : Shape := ⟨2, ![1, 8]⟩
abbrev S1x2 : Shape := ⟨2, ![1, 2]⟩
abbrev S2x28x28 : Shape := ⟨3, ![2, 28, 28]⟩
abbrev S33 : Shape := ⟨1, ![33]⟩
abbrev S_ : Shape := ⟨0, ![]⟩
abbrev S224x33x28 : Shape := ⟨3, ![224, 33, 28]⟩
abbrev S1x33x1 : Shape := ⟨3, ![1, 33, 1]⟩
abbrev S224x28 : Shape := ⟨2, ![224, 28]⟩
abbrev S2x1x224x224 : Shape := ⟨4, ![2, 1, 224, 224]⟩
abbrev S1x28x28 : Shape := ⟨3, ![1, 28, 28]⟩
abbrev S28x28 : Shape := ⟨2, ![28, 28]⟩
abbrev S224x224 : Shape := ⟨2, ![224, 224]⟩
abbrev S1x1x224x224 : Shape := ⟨4, ![1, 1, 224, 224]⟩

abbrev nBuf : Space → Nat
  | .hbm => 62
  | .vmem => 18
  | .smem => 0
  | _ => 0

abbrev bufTy : (tb : Table) → Fin (tcTables nBuf tb) → BufTy
  | .hbm, ⟨0, _⟩ => ⟨S1568x1536, .f32⟩
  | .hbm, ⟨1, _⟩ => ⟨S16384x1536, .f32⟩
  | .hbm, ⟨2, _⟩ => ⟨S1568x1, .f32⟩
  | .hbm, ⟨3, _⟩ => ⟨S1568x1, .i32⟩
  | .hbm, ⟨4, _⟩ => ⟨S1568x1, .f32⟩
  | .hbm, ⟨5, _⟩ => ⟨S2x784, .f32⟩
  | .hbm, ⟨6, _⟩ => ⟨S2x784, .f32⟩
  | .hbm, ⟨7, _⟩ => ⟨S2x784, .i32⟩
  | .hbm, ⟨8, _⟩ => ⟨S2x784, .f32⟩
  | .hbm, ⟨9, _⟩ => ⟨S1x18, .i32⟩
  | .hbm, ⟨10, _⟩ => ⟨S2x28x28, .f32⟩
  | .hbm, ⟨11, _⟩ => ⟨S33, .f32⟩
  | .hbm, ⟨12, _⟩ => ⟨S_, .f32⟩
  | .hbm, ⟨13, _⟩ => ⟨S33, .f32⟩
  | .hbm, ⟨14, _⟩ => ⟨S33, .f32⟩
  | .hbm, ⟨15, _⟩ => ⟨S_, .f32⟩
  | .hbm, ⟨16, _⟩ => ⟨S33, .f32⟩
  | .hbm, ⟨17, _⟩ => ⟨S33, .f32⟩
  | .hbm, ⟨18, _⟩ => ⟨S33, .f32⟩
  | .hbm, ⟨19, _⟩ => ⟨S_, .f32⟩
  | .hbm, ⟨20, _⟩ => ⟨S33, .f32⟩
  | .hbm, ⟨21, _⟩ => ⟨S33, .f32⟩
  | .hbm, ⟨22, _⟩ => ⟨S33, .f32⟩
  | .hbm, ⟨23, _⟩ => ⟨S_, .f32⟩
  | .hbm, ⟨24, _⟩ => ⟨S_, .f32⟩
  | .hbm, ⟨25, _⟩ => ⟨S33, .f32⟩
  | .hbm, ⟨26, _⟩ => ⟨S33, .f32⟩
  | .hbm, ⟨27, _⟩ => ⟨S224x33x28, .i32⟩
  | .hbm, ⟨28, _⟩ => ⟨S224x33x28, .i32⟩
  | .hbm, ⟨29, _⟩ => ⟨S224x33x28, .i32⟩
  | .hbm, ⟨30, _⟩ => ⟨S_, .i32⟩
  | .hbm, ⟨31, _⟩ => ⟨S224x33x28, .i32⟩
  | .hbm, ⟨32, _⟩ => ⟨S224x33x28, .i32⟩
  | .hbm, ⟨33, _⟩ => ⟨S224x33x28, .i32⟩
  | .hbm, ⟨34, _⟩ => ⟨S_, .i32⟩
  | .hbm, ⟨35, _⟩ => ⟨S224x33x28, .i32⟩
  | .hbm, ⟨36, _⟩ => ⟨S224x33x28, .i1⟩
  | .hbm, ⟨37, _⟩ => ⟨S224x33x28, .i32⟩
  | .hbm, ⟨38, _⟩ => ⟨S_, .i32⟩
  | .hbm, ⟨39, _⟩ => ⟨S224x33x28, .i32⟩
  | .hbm, ⟨40, _⟩ => ⟨S224x33x28, .i1⟩
  | .hbm, ⟨41, _⟩ => ⟨S_, .i32⟩
  | .hbm, ⟨42, _⟩ => ⟨S224x33x28, .i32⟩
  | .hbm, ⟨43, _⟩ => ⟨S224x33x28, .i32⟩
  | .hbm, ⟨44, _⟩ => ⟨S224x33x28, .i32⟩
  | .hbm, ⟨45, _⟩ => ⟨S224x33x28, .i32⟩
  | .hbm, ⟨46, _⟩ => ⟨S_, .i32⟩
  | .hbm, ⟨47, _⟩ => ⟨S224x33x28, .i32⟩
  | .hbm, ⟨48, _⟩ => ⟨S224x33x28, .i32⟩
  | .hbm, ⟨49, _⟩ => ⟨S_, .i32⟩
  | .hbm, ⟨50, _⟩ => ⟨S224x33x28, .i32⟩
  | .hbm, ⟨51, _⟩ => ⟨S224x33x28, .i32⟩
  | .hbm, ⟨52, _⟩ => ⟨S224x33x28, .i1⟩
  | .hbm, ⟨53, _⟩ => ⟨S1x33x1, .f32⟩
  | .hbm, ⟨54, _⟩ => ⟨S_, .f32⟩
  | .hbm, ⟨55, _⟩ => ⟨S_, .f32⟩
  | .hbm, ⟨56, _⟩ => ⟨S224x33x28, .f32⟩
  | .hbm, ⟨57, _⟩ => ⟨S224x33x28, .f32⟩
  | .hbm, ⟨58, _⟩ => ⟨S224x33x28, .f32⟩
  | .hbm, ⟨59, _⟩ => ⟨S_, .f32⟩
  | .hbm, ⟨60, _⟩ => ⟨S224x28, .f32⟩
  | .hbm, ⟨61, _⟩ => ⟨S2x1x224x224, .f32⟩
  | .local _ .vmem, ⟨0, _⟩ => ⟨S1568x1536, .f32⟩
  | .local _ .vmem, ⟨1, _⟩ => ⟨S1024x1536, .f32⟩
  | .local _ .vmem, ⟨2, _⟩ => ⟨S1024x1536, .f32⟩
  | .local _ .vmem, ⟨3, _⟩ => ⟨S1568x1, .f32⟩
  | .local _ .vmem, ⟨4, _⟩ => ⟨S1568x1, .i32⟩
  | .local _ .vmem, ⟨5, _⟩ => ⟨S1568x1, .f32⟩
  | .local _ .vmem, ⟨6, _⟩ => ⟨S1568x1536, .bf16⟩
  | .local _ .vmem, ⟨7, _⟩ => ⟨S1024x1536, .bf16⟩
  | .local _ .vmem, ⟨8, _⟩ => ⟨S1x1024, .f32⟩
  | .local _ .vmem, ⟨9, _⟩ => ⟨S1568x1024, .f32⟩
  | .local _ .vmem, ⟨10, _⟩ => ⟨S2x784, .f32⟩
  | .local _ .vmem, ⟨11, _⟩ => ⟨S2x784, .f32⟩
  | .local _ .vmem, ⟨12, _⟩ => ⟨S2x784, .i32⟩
  | .local _ .vmem, ⟨13, _⟩ => ⟨S2x784, .f32⟩
  | .local _ .vmem, ⟨14, _⟩ => ⟨S1x18, .i32⟩
  | .local _ .vmem, ⟨15, _⟩ => ⟨S2x28x28, .f32⟩
  | .local _ .vmem, ⟨16, _⟩ => ⟨S224x28, .f32⟩
  | .local _ .vmem, ⟨17, _⟩ => ⟨S2x1x224x224, .f32⟩
  | _, _ => ⟨S1568x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc2_sem0_0 : DmaSem sig := 11
abbrev cc2_sem1_0 : DmaSem sig := 12
abbrev cc2_sem2_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c14_i32_12 : BitVec 32 := 14#32
  let v11 : BitVec 32 := Scalar.addi c0_i32_11 c14_i32_12
  let c1_i32_13 : BitVec 32 := 1#32
  ⟨c0_i32_11, v11, c1_i32_13⟩
def k0_off1 (k0_t1 : Fin k0_t1_loop.trips) : Fin 2 → Nat :=
  let c0_i32_11 : BitVec 32 := 0#32
  let c1_i32_13 : BitVec 32 := 1#32
  let arg10 : BitVec 32 := Scf.iv c0_i32_11 c1_i32_13 k0_t1
  let c112_i32 : BitVec 32 := 112#32
  let v12 : BitVec 32 := Scalar.muli arg10 c112_i32
  let v13 : Index := Scalar.indexCast v12
  let c0_15 : Index := 0#32
  ![v13.toNat, 0]
def k0_off2 (k0_t1 : Fin k0_t1_loop.trips) : Fin 2 → Nat :=
  let c0_i32_11 : BitVec 32 := 0#32
  let c1_i32_13 : BitVec 32 := 1#32
  let arg10 : BitVec 32 := Scf.iv c0_i32_11 c1_i32_13 k0_t1
  let c112_i32 : BitVec 32 := 112#32
  let v12 : BitVec 32 := Scalar.muli arg10 c112_i32
  let v23 : Index := Scalar.indexCast v12
  let c0_18 : Index := 0#32
  ![v23.toNat, 0]
@[reducible] def k0_t2_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_off3 (k0_t2 : Fin k0_t2_loop.trips) : Fin 2 → Nat :=
  let c0_i32_1 : BitVec 32 := 0#32
  let c1_i32 : BitVec 32 := 1#32
  let arg10 : BitVec 32 := Scf.iv c0_i32_1 c1_i32 k0_t2
  let c128_i32 : BitVec 32 := 128#32
  let v11 : BitVec 32 := Scalar.muli arg10 c128_i32
  let v12 : Index := Scalar.indexCast v11
  let c0_11 : Index := 0#32
  ![v12.toNat, 0]
def k0_off4 (k0_t2 : Fin k0_t2_loop.trips) : Fin 2 → Nat :=
  let c0_16 : Index := 0#32
  let c0_i32_1 : BitVec 32 := 0#32
  let c1_i32 : BitVec 32 := 1#32
  let arg10 : BitVec 32 := Scf.iv c0_i32_1 c1_i32 k0_t2
  let c128_i32_15 : BitVec 32 := 128#32
  let v22 : BitVec 32 := Scalar.muli arg10 c128_i32_15
  let v23 : Index := Scalar.indexCast v22
  ![0, v23.toNat]
@[reducible] def k0_t3_loop : Scf.Loop 32 :=
  let c0_i32_8 : BitVec 32 := 0#32
  let c14_i32 : BitVec 32 := 14#32
  let v10 : BitVec 32 := Scalar.addi c0_i32_8 c14_i32
  let c1_i32_9 : BitVec 32 := 1#32
  ⟨c0_i32_8, v10, c1_i32_9⟩
def k0_off5 (k0_t3 : Fin k0_t3_loop.trips) : Fin 2 → Nat :=
  let c0_i32_8 : BitVec 32 := 0#32
  let c1_i32_9 : BitVec 32 := 1#32
  let arg10 : BitVec 32 := Scf.iv c0_i32_8 c1_i32_9 k0_t3
  let c112_i32 : BitVec 32 := 112#32
  let v11 : BitVec 32 := Scalar.muli arg10 c112_i32
  let v13 : Index := Scalar.indexCast v11
  let c0_13 : Index := 0#32
  ![v13.toNat, 0]
def k0_off6 (k0_t3 : Fin k0_t3_loop.trips) : Fin 2 → Nat :=
  let c0_i32_8 : BitVec 32 := 0#32
  let c1_i32_9 : BitVec 32 := 1#32
  let arg10 : BitVec 32 := Scf.iv c0_i32_8 c1_i32_9 k0_t3
  let c112_i32 : BitVec 32 := 112#32
  let v11 : BitVec 32 := Scalar.muli arg10 c112_i32
  let v31 : Index := Scalar.indexCast v11
  let c0_17 : Index := 0#32
  ![v31.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1568x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1568x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1568x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1568x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := .none

abbrev stage1_0 : Fin 1 → Memref sig .tc .vmem S2x784 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x784 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x784 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x784 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x18 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := .none

abbrev stage2_0 : Fin 1 → Memref sig .tc .vmem S2x28x28 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S224x28 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2x1x224x224 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
-- ==== KernelIdeal.lean ====
variable {F : FTy → Type} [FloatOps F] [Named F]
def κ : String → Option EReal := fun
  | "inf" => some ⊤
  | _ => none
-- ==== ReferenceIdeal.lean ====
abbrev S1568x1536 : Shape := ⟨2, ![1568, 1536]⟩
abbrev S16384x1536 : Shape := ⟨2, ![16384, 1536]⟩
abbrev S_ : Shape := ⟨0, ![]⟩
abbrev S1568 : Shape := ⟨1, ![1568]⟩
abbrev S1568x1 : Shape := ⟨2, ![1568, 1]⟩
abbrev S16384 : Shape := ⟨1, ![16384]⟩
abbrev S1x16384 : Shape := ⟨2, ![1, 16384]⟩
abbrev S1568x16384 : Shape := ⟨2, ![1568, 16384]⟩
abbrev S1536x16384 : Shape := ⟨2, ![1536, 16384]⟩
abbrev S2x1x28x28 : Shape := ⟨4, ![2, 1, 28, 28]⟩
abbrev S2x1x28x8x28 : Shape := ⟨5, ![2, 1, 28, 8, 28]⟩
abbrev S2x1x224x28 : Shape := ⟨4, ![2, 1, 224, 28]⟩
abbrev S2x1x224x28x8 : Shape := ⟨5, ![2, 1, 224, 28, 8]⟩
abbrev S2x1x224x224 : Shape := ⟨4, ![2, 1, 224, 224]⟩
abbrev S33 : Shape := ⟨1, ![33]⟩
abbrev S2x1x1x224 : Shape := ⟨4, ![2, 1, 1, 224]⟩
abbrev S2x1x16x224 : Shape := ⟨4, ![2, 1, 16, 224]⟩
abbrev S2x1x240x224 : Shape := ⟨4, ![2, 1, 240, 224]⟩
abbrev S2x1x256x224 : Shape := ⟨4, ![2, 1, 256, 224]⟩
abbrev S1 : Shape := ⟨1, ![1]⟩
abbrev S2x1x224x1 : Shape := ⟨4, ![2, 1, 224, 1]⟩
abbrev S2x1x224x16 : Shape := ⟨4, ![2, 1, 224, 16]⟩
abbrev S2x1x224x240 : Shape := ⟨4, ![2, 1, 224, 240]⟩
abbrev S2x1x224x256 : Shape := ⟨4, ![2, 1, 224, 256]⟩

abbrev nBuf : Space → Nat
  | .hbm => 464
  | .vmem => 0
  | .smem => 0
  | _ => 0

abbrev hbmTy0_0 (i : Nat) : BufTy := match i % 128 with
  | 0 => ⟨S1568x1536, .f32⟩
  | 1 => ⟨S16384x1536, .f32⟩
  | 2 => ⟨S1568x1536, .f32⟩
  | 3 => ⟨S_, .f32⟩
  | 4 => ⟨S1568, .f32⟩
  | 5 => ⟨S1568x1, .f32⟩
  | 6 => ⟨S16384x1536, .f32⟩
  | 7 => ⟨S_, .f32⟩
  | 8 => ⟨S16384, .f32⟩
  | 9 => ⟨S1x16384, .f32⟩
  | 10 => ⟨S1568x16384, .f32⟩
  | 11 => ⟨S1568x16384, .f32⟩
  | 12 => ⟨S1568x16384, .f32⟩
  | 13 => ⟨S1536x16384, .f32⟩
  | 14 => ⟨S1568x16384, .f32⟩
  | 15 => ⟨S_, .f32⟩
  | 16 => ⟨S1568x16384, .f32⟩
  | 17 => ⟨S1568x16384, .f32⟩
  | 18 => ⟨S1568x16384, .f32⟩
  | 19 => ⟨S_, .f32⟩
  | 20 => ⟨S1568x16384, .f32⟩
  | 21 => ⟨S1568x16384, .f32⟩
  | 22 => ⟨S1568x16384, .f32⟩
  | 23 => ⟨S_, .f32⟩
  | 24 => ⟨S1568, .f32⟩
  | 25 => ⟨S2x1x28x28, .f32⟩
  | 26 => ⟨S2x1x28x8x28, .f32⟩
  | 27 => ⟨S2x1x224x28, .f32⟩
  | 28 => ⟨S2x1x224x28x8, .f32⟩
  | 29 => ⟨S2x1x224x224, .f32⟩
  | 30 => ⟨S33, .f32⟩
  | 31 => ⟨S_, .f32⟩
  | 32 => ⟨S33, .f32⟩
  | 33 => ⟨S33, .f32⟩
  | 34 => ⟨S_, .f32⟩
  | 35 => ⟨S33, .f32⟩
  | 36 => ⟨S33, .f32⟩
  | 37 => ⟨S33, .f32⟩
  | 38 => ⟨S_, .f32⟩
  | 39 => ⟨S33, .f32⟩
  | 40 => ⟨S33, .f32⟩
  | 41 => ⟨S33, .f32⟩
  | 42 => ⟨S_, .f32⟩
  | 43 => ⟨S_, .f32⟩
  | 44 => ⟨S33, .f32⟩
  | 45 => ⟨S33, .f32⟩
  | 46 => ⟨S_, .i32⟩
  | 47 => ⟨S2x1x1x224, .f32⟩
  | 48 => ⟨S2x1x16x224, .f32⟩
  | 49 => ⟨S2x1x16x224, .f32⟩
  | 50 => ⟨S2x1x240x224, .f32⟩
  | 51 => ⟨S2x1x1x224, .f32⟩
  | 52 => ⟨S2x1x16x224, .f32⟩
  | 53 => ⟨S2x1x16x224, .f32⟩
  | 54 => ⟨S2x1x256x224, .f32⟩
  | 55 => ⟨S1, .f32⟩
  | 56 => ⟨S_, .f32⟩
  | 57 => ⟨S2x1x224x224, .f32⟩
  | 58 => ⟨S2x1x224x224, .f32⟩
  | 59 => ⟨S2x1x224x224, .f32⟩
  | 60 => ⟨S_, .f32⟩
  | 61 => ⟨S2x1x224x224, .f32⟩
  | 62 => ⟨S2x1x224x224, .f32⟩
  | 63 => ⟨S1, .f32⟩
  | 64 => ⟨S_, .f32⟩
  | 65 => ⟨S2x1x224x224, .f32⟩
  | 66 => ⟨S2x1x224x224, .f32⟩
  | 67 => ⟨S2x1x224x224, .f32⟩
  | 68 => ⟨S2x1x224x224, .f32⟩
  | 69 => ⟨S1, .f32⟩
  | 70 => ⟨S_, .f32⟩
  | 71 => ⟨S2x1x224x224, .f32⟩
  | 72 => ⟨S2x1x224x224, .f32⟩
  | 73 => ⟨S2x1x224x224, .f32⟩
  | 74 => ⟨S2x1x224x224, .f32⟩
  | 75 => ⟨S1, .f32⟩
  | 76 => ⟨S_, .f32⟩
  | 77 => ⟨S2x1x224x224, .f32⟩
  | 78 => ⟨S2x1x224x224, .f32⟩
  | 79 => ⟨S2x1x224x224, .f32⟩
  | 80 => ⟨S2x1x224x224, .f32⟩
  | 81 => ⟨S1, .f32⟩
  | 82 => ⟨S_, .f32⟩
  | 83 => ⟨S2x1x224x224, .f32⟩
  | 84 => ⟨S2x1x224x224, .f32⟩
  | 85 => ⟨S2x1x224x224, .f32⟩
  | 86 => ⟨S2x1x224x224, .f32⟩
  | 87 => ⟨S1, .f32⟩
  | 88 => ⟨S_, .f32⟩
  | 89 => ⟨S2x1x224x224, .f32⟩
  | 90 => ⟨S2x1x224x224, .f32⟩
  | 91 => ⟨S2x1x224x224, .f32⟩
  | 92 => ⟨S2x1x224x224, .f32⟩
  | 93 => ⟨S1, .f32⟩
  | 94 => ⟨S_, .f32⟩
  | 95 => ⟨S2x1x224x224, .f32⟩
  | 96 => ⟨S2x1x224x224, .f32⟩
  | 97 => ⟨S2x1x224x224, .f32⟩
  | 98 => ⟨S2x1x224x224, .f32⟩
  | 99 => ⟨S1, .f32⟩
  | 100 => ⟨S_, .f32⟩
  | 101 => ⟨S2x1x224x224, .f32⟩
  | 102 => ⟨S2x1x224x224, .f32⟩
  | 103 => ⟨S2x1x224x224, .f32⟩
  | 104 => ⟨S2x1x224x224, .f32⟩
  | 105 => ⟨S1, .f32⟩
  | 106 => ⟨S_, .f32⟩
  | 107 => ⟨S2x1x224x224, .f32⟩
  | 108 => ⟨S2x1x224x224, .f32⟩
  | 109 => ⟨S2x1x224x224, .f32⟩
  | 110 => ⟨S2x1x224x224, .f32⟩
  | 111 => ⟨S1, .f32⟩
  | 112 => ⟨S_, .f32⟩
  | 113 => ⟨S2x1x224x224, .f32⟩
  | 114 => ⟨S2x1x224x224, .f32⟩
  | 115 => ⟨S2x1x224x224, .f32⟩
  | 116 => ⟨S2x1x224x224, .f32⟩
  | 117 => ⟨S1, .f32⟩
  | 118 => ⟨S_, .f32⟩
  | 119 => ⟨S2x1x224x224, .f32⟩
  | 120 => ⟨S2x1x224x224, .f32⟩
  | 121 => ⟨S2x1x224x224, .f32⟩
  | 122 => ⟨S2x1x224x224, .f32⟩
  | 123 => ⟨S1, .f32⟩
  | 124 => ⟨S_, .f32⟩
  | 125 => ⟨S2x1x224x224, .f32⟩
  | 126 => ⟨S2x1x224x224, .f32⟩
  | 127 => ⟨S2x1x224x224, .f32⟩
  | _ => ⟨S1568x1536, .f32⟩

abbrev hbmTy0_1 (i : Nat) : BufTy := match i % 128 with
  | 0 => ⟨S2x1x224x224, .f32⟩
  | 1 => ⟨S1, .f32⟩
  | 2 => ⟨S_, .f32⟩
  | 3 => ⟨S2x1x224x224, .f32⟩
  | 4 => ⟨S2x1x224x224, .f32⟩
  | 5 => ⟨S2x1x224x224, .f32⟩
  | 6 => ⟨S2x1x224x224, .f32⟩
  | 7 => ⟨S1, .f32⟩
  | 8 => ⟨S_, .f32⟩
  | 9 => ⟨S2x1x224x224, .f32⟩
  | 10 => ⟨S2x1x224x224, .f32⟩
  | 11 => ⟨S2x1x224x224, .f32⟩
  | 12 => ⟨S2x1x224x224, .f32⟩
  | 13 => ⟨S1, .f32⟩
  | 14 => ⟨S_, .f32⟩
  | 15 => ⟨S2x1x224x224, .f32⟩
  | 16 => ⟨S2x1x224x224, .f32⟩
  | 17 => ⟨S2x1x224x224, .f32⟩
  | 18 => ⟨S2x1x224x224, .f32⟩
  | 19 => ⟨S1, .f32⟩
  | 20 => ⟨S_, .f32⟩
  | 21 => ⟨S2x1x224x224, .f32⟩
  | 22 => ⟨S2x1x224x224, .f32⟩
  | 23 => ⟨S2x1x224x224, .f32⟩
  | 24 => ⟨S2x1x224x224, .f32⟩
  | 25 => ⟨S1, .f32⟩
  | 26 => ⟨S_, .f32⟩
  | 27 => ⟨S2x1x224x224, .f32⟩
  | 28 => ⟨S2x1x224x224, .f32⟩
  | 29 => ⟨S2x1x224x224, .f32⟩
  | 30 => ⟨S2x1x224x224, .f32⟩
  | 31 => ⟨S1, .f32⟩
  | 32 => ⟨S_, .f32⟩
  | 33 => ⟨S2x1x224x224, .f32⟩
  | 34 => ⟨S2x1x224x224, .f32⟩
  | 35 => ⟨S2x1x224x224, .f32⟩
  | 36 => ⟨S2x1x224x224, .f32⟩
  | 37 => ⟨S1, .f32⟩
  | 38 => ⟨S_, .f32⟩
  | 39 => ⟨S2x1x224x224, .f32⟩
  | 40 => ⟨S2x1x224x224, .f32⟩
  | 41 => ⟨S2x1x224x224, .f32⟩
  | 42 => ⟨S2x1x224x224, .f32⟩
  | 43 => ⟨S1, .f32⟩
  | 44 => ⟨S_, .f32⟩
  | 45 => ⟨S2x1x224x224, .f32⟩
  | 46 => ⟨S2x1x224x224, .f32⟩
  | 47 => ⟨S2x1x224x224, .f32⟩
  | 48 => ⟨S2x1x224x224, .f32⟩
  | 49 => ⟨S1, .f32⟩
  | 50 => ⟨S_, .f32⟩
  | 51 => ⟨S2x1x224x224, .f32⟩
  | 52 => ⟨S2x1x224x224, .f32⟩
  | 53 => ⟨S2x1x224x224, .f32⟩
  | 54 => ⟨S2x1x224x224, .f32⟩
  | 55 => ⟨S1, .f32⟩
  | 56 => ⟨S_, .f32⟩
  | 57 => ⟨S2x1x224x224, .f32⟩
  | 58 => ⟨S2x1x224x224, .f32⟩
  | 59 => ⟨S2x1x224x224, .f32⟩
  | 60 => ⟨S2x1x224x224, .f32⟩
  | 61 => ⟨S1, .f32⟩
  | 62 => ⟨S_, .f32⟩
  | 63 => ⟨S2x1x224x224, .f32⟩
  | 64 => ⟨S2x1x224x224, .f32⟩
  | 65 => ⟨S2x1x224x224, .f32⟩
  | 66 => ⟨S2x1x224x224, .f32⟩
  | 67 => ⟨S1, .f32⟩
  | 68 => ⟨S_, .f32⟩
  | 69 => ⟨S2x1x224x224, .f32⟩
  | 70 => ⟨S2x1x224x224, .f32⟩
  | 71 => ⟨S2x1x224x224, .f32⟩
  | 72 => ⟨S2x1x224x224, .f32⟩
  | 73 => ⟨S1, .f32⟩
  | 74 => ⟨S_, .f32⟩
  | 75 => ⟨S2x1x224x224, .f32⟩
  | 76 => ⟨S2x1x224x224, .f32⟩
  | 77 => ⟨S2x1x224x224, .f32⟩
  | 78 => ⟨S2x1x224x224, .f32⟩
  | 79 => ⟨S1, .f32⟩
  | 80 => ⟨S_, .f32⟩
  | 81 => ⟨S2x1x224x224, .f32⟩
  | 82 => ⟨S2x1x224x224, .f32⟩
  | 83 => ⟨S2x1x224x224, .f32⟩
  | 84 => ⟨S2x1x224x224, .f32⟩
  | 85 => ⟨S1, .f32⟩
  | 86 => ⟨S_, .f32⟩
  | 87 => ⟨S2x1x224x224, .f32⟩
  | 88 => ⟨S2x1x224x224, .f32⟩
  | 89 => ⟨S2x1x224x224, .f32⟩
  | 90 => ⟨S2x1x224x224, .f32⟩
  | 91 => ⟨S1, .f32⟩
  | 92 => ⟨S_, .f32⟩
  | 93 => ⟨S2x1x224x224, .f32⟩
  | 94 => ⟨S2x1x224x224, .f32⟩
  | 95 => ⟨S2x1x224x224, .f32⟩
  | 96 => ⟨S2x1x224x224, .f32⟩
  | 97 => ⟨S1, .f32⟩
  | 98 => ⟨S_, .f32⟩
  | 99 => ⟨S2x1x224x224, .f32⟩
  | 100 => ⟨S2x1x224x224, .f32⟩
  | 101 => ⟨S2x1x224x224, .f32⟩
  | 102 => ⟨S2x1x224x224, .f32⟩
  | 103 => ⟨S1, .f32⟩
  | 104 => ⟨S_, .f32⟩
  | 105 => ⟨S2x1x224x224, .f32⟩
  | 106 => ⟨S2x1x224x224, .f32⟩
  | 107 => ⟨S2x1x224x224, .f32⟩
  | 108 => ⟨S2x1x224x224, .f32⟩
  | 109 => ⟨S1, .f32⟩
  | 110 => ⟨S_, .f32⟩
  | 111 => ⟨S2x1x224x224, .f32⟩
  | 112 => ⟨S2x1x224x224, .f32⟩
  | 113 => ⟨S2x1x224x224, .f32⟩
  | 114 => ⟨S2x1x224x224, .f32⟩
  | 115 => ⟨S1, .f32⟩
  | 116 => ⟨S_, .f32⟩
  | 117 => ⟨S2x1x224x224, .f32⟩
  | 118 => ⟨S2x1x224x224, .f32⟩
  | 119 => ⟨S2x1x224x224, .f32⟩
  | 120 => ⟨S2x1x224x224, .f32⟩
  | 121 => ⟨S1, .f32⟩
  | 122 => ⟨S_, .f32⟩
  | 123 => ⟨S2x1x224x224, .f32⟩
  | 124 => ⟨S2x1x224x224, .f32⟩
  | 125 => ⟨S2x1x224x224, .f32⟩
  | 126 => ⟨S2x1x224x224, .f32⟩
  | 127 => ⟨S_, .i32⟩
  | _ => ⟨S1568x1536, .f32⟩

abbrev hbmTy0_2 (i : Nat) : BufTy := match i % 128 with
  | 0 => ⟨S2x1x224x1, .f32⟩
  | 1 => ⟨S2x1x224x16, .f32⟩
  | 2 => ⟨S2x1x224x16, .f32⟩
  | 3 => ⟨S2x1x224x240, .f32⟩
  | 4 => ⟨S2x1x224x1, .f32⟩
  | 5 => ⟨S2x1x224x16, .f32⟩
  | 6 => ⟨S2x1x224x16, .f32⟩
  | 7 => ⟨S2x1x224x256, .f32⟩
  | 8 => ⟨S1, .f32⟩
  | 9 => ⟨S_, .f32⟩
  | 10 => ⟨S2x1x224x224, .f32⟩
  | 11 => ⟨S2x1x224x224, .f32⟩
  | 12 => ⟨S2x1x224x224, .f32⟩
  | 13 => ⟨S_, .f32⟩
  | 14 => ⟨S2x1x224x224, .f32⟩
  | 15 => ⟨S2x1x224x224, .f32⟩
  | 16 => ⟨S1, .f32⟩
  | 17 => ⟨S_, .f32⟩
  | 18 => ⟨S2x1x224x224, .f32⟩
  | 19 => ⟨S2x1x224x224, .f32⟩
  | 20 => ⟨S2x1x224x224, .f32⟩
  | 21 => ⟨S2x1x224x224, .f32⟩
  | 22 => ⟨S1, .f32⟩
  | 23 => ⟨S_, .f32⟩
  | 24 => ⟨S2x1x224x224, .f32⟩
  | 25 => ⟨S2x1x224x224, .f32⟩
  | 26 => ⟨S2x1x224x224, .f32⟩
  | 27 => ⟨S2x1x224x224, .f32⟩
  | 28 => ⟨S1, .f32⟩
  | 29 => ⟨S_, .f32⟩
  | 30 => ⟨S2x1x224x224, .f32⟩
  | 31 => ⟨S2x1x224x224, .f32⟩
  | 32 => ⟨S2x1x224x224, .f32⟩
  | 33 => ⟨S2x1x224x224, .f32⟩
  | 34 => ⟨S1, .f32⟩
  | 35 => ⟨S_, .f32⟩
  | 36 => ⟨S2x1x224x224, .f32⟩
  | 37 => ⟨S2x1x224x224, .f32⟩
  | 38 => ⟨S2x1x224x224, .f32⟩
  | 39 => ⟨S2x1x224x224, .f32⟩
  | 40 => ⟨S1, .f32⟩
  | 41 => ⟨S_, .f32⟩
  | 42 => ⟨S2x1x224x224, .f32⟩
  | 43 => ⟨S2x1x224x224, .f32⟩
  | 44 => ⟨S2x1x224x224, .f32⟩
  | 45 => ⟨S2x1x224x224, .f32⟩
  | 46 => ⟨S1, .f32⟩
  | 47 => ⟨S_, .f32⟩
  | 48 => ⟨S2x1x224x224, .f32⟩
  | 49 => ⟨S2x1x224x224, .f32⟩
  | 50 => ⟨S2x1x224x224, .f32⟩
  | 51 => ⟨S2x1x224x224, .f32⟩
  | 52 => ⟨S1, .f32⟩
  | 53 => ⟨S_, .f32⟩
  | 54 => ⟨S2x1x224x224, .f32⟩
  | 55 => ⟨S2x1x224x224, .f32⟩
  | 56 => ⟨S2x1x224x224, .f32⟩
  | 57 => ⟨S2x1x224x224, .f32⟩
  | 58 => ⟨S1, .f32⟩
  | 59 => ⟨S_, .f32⟩
  | 60 => ⟨S2x1x224x224, .f32⟩
  | 61 => ⟨S2x1x224x224, .f32⟩
  | 62 => ⟨S2x1x224x224, .f32⟩
  | 63 => ⟨S2x1x224x224, .f32⟩
  | 64 => ⟨S1, .f32⟩
  | 65 => ⟨S_, .f32⟩
  | 66 => ⟨S2x1x224x224, .f32⟩
  | 67 => ⟨S2x1x224x224, .f32⟩
  | 68 => ⟨S2x1x224x224, .f32⟩
  | 69 => ⟨S2x1x224x224, .f32⟩
  | 70 => ⟨S1, .f32⟩
  | 71 => ⟨S_, .f32⟩
  | 72 => ⟨S2x1x224x224, .f32⟩
  | 73 => ⟨S2x1x224x224, .f32⟩
  | 74 => ⟨S2x1x224x224, .f32⟩
  | 75 => ⟨S2x1x224x224, .f32⟩
  | 76 => ⟨S1, .f32⟩
  | 77 => ⟨S_, .f32⟩
  | 78 => ⟨S2x1x224x224, .f32⟩
  | 79 => ⟨S2x1x224x224, .f32⟩
  | 80 => ⟨S2x1x224x224, .f32⟩
  | 81 => ⟨S2x1x224x224, .f32⟩
  | 82 => ⟨S1, .f32⟩
  | 83 => ⟨S_, .f32⟩
  | 84 => ⟨S2x1x224x224, .f32⟩
  | 85 => ⟨S2x1x224x224, .f32⟩
  | 86 => ⟨S2x1x224x224, .f32⟩
  | 87 => ⟨S2x1x224x224, .f32⟩
  | 88 => ⟨S1, .f32⟩
  | 89 => ⟨S_, .f32⟩
  | 90 => ⟨S2x1x224x224, .f32⟩
  | 91 => ⟨S2x1x224x224, .f32⟩
  | 92 => ⟨S2x1x224x224, .f32⟩
  | 93 => ⟨S2x1x224x224, .f32⟩
  | 94 => ⟨S1, .f32⟩
  | 95 => ⟨S_, .f32⟩
  | 96 => ⟨S2x1x224x224, .f32⟩
  | 97 => ⟨S2x1x224x224, .f32⟩
  | 98 => ⟨S2x1x224x224, .f32⟩
  | 99 => ⟨S2x1x224x224, .f32⟩
  | 100 => ⟨S1, .f32⟩
  | 101 => ⟨S_, .f32⟩
  | 102 => ⟨S2x1x224x224, .f32⟩
  | 103 => ⟨S2x1x224x224, .f32⟩
  | 104 => ⟨S2x1x224x224, .f32⟩
  | 105 => ⟨S2x1x224x224, .f32⟩
  | 106 => ⟨S1, .f32⟩
  | 107 => ⟨S_, .f32⟩
  | 108 => ⟨S2x1x224x224, .f32⟩
  | 109 => ⟨S2x1x224x224, .f32⟩
  | 110 => ⟨S2x1x224x224, .f32⟩
  | 111 => ⟨S2x1x224x224, .f32⟩
  | 112 => ⟨S1, .f32⟩
  | 113 => ⟨S_, .f32⟩
  | 114 => ⟨S2x1x224x224, .f32⟩
  | 115 => ⟨S2x1x224x224, .f32⟩
  | 116 => ⟨S2x1x224x224, .f32⟩
  | 117 => ⟨S2x1x224x224, .f32⟩
  | 118 => ⟨S1, .f32⟩
  | 119 => ⟨S_, .f32⟩
  | 120 => ⟨S2x1x224x224, .f32⟩
  | 121 => ⟨S2x1x224x224, .f32⟩
  | 122 => ⟨S2x1x224x224, .f32⟩
  | 123 => ⟨S2x1x224x224, .f32⟩
  | 124 => ⟨S1, .f32⟩
  | 125 => ⟨S_, .f32⟩
  | 126 => ⟨S2x1x224x224, .f32⟩
  | 127 => ⟨S2x1x224x224, .f32⟩
  | _ => ⟨S1568x1536, .f32⟩

abbrev hbmTy0_3 (i : Nat) : BufTy := match i % 128 with
  | 0 => ⟨S2x1x224x224, .f32⟩
  | 1 => ⟨S2x1x224x224, .f32⟩
  | 2 => ⟨S1, .f32⟩
  | 3 => ⟨S_, .f32⟩
  | 4 => ⟨S2x1x224x224, .f32⟩
  | 5 => ⟨S2x1x224x224, .f32⟩
  | 6 => ⟨S2x1x224x224, .f32⟩
  | 7 => ⟨S2x1x224x224, .f32⟩
  | 8 => ⟨S1, .f32⟩
  | 9 => ⟨S_, .f32⟩
  | 10 => ⟨S2x1x224x224, .f32⟩
  | 11 => ⟨S2x1x224x224, .f32⟩
  | 12 => ⟨S2x1x224x224, .f32⟩
  | 13 => ⟨S2x1x224x224, .f32⟩
  | 14 => ⟨S1, .f32⟩
  | 15 => ⟨S_, .f32⟩
  | 16 => ⟨S2x1x224x224, .f32⟩
  | 17 => ⟨S2x1x224x224, .f32⟩
  | 18 => ⟨S2x1x224x224, .f32⟩
  | 19 => ⟨S2x1x224x224, .f32⟩
  | 20 => ⟨S1, .f32⟩
  | 21 => ⟨S_, .f32⟩
  | 22 => ⟨S2x1x224x224, .f32⟩
  | 23 => ⟨S2x1x224x224, .f32⟩
  | 24 => ⟨S2x1x224x224, .f32⟩
  | 25 => ⟨S2x1x224x224, .f32⟩
  | 26 => ⟨S1, .f32⟩
  | 27 => ⟨S_, .f32⟩
  | 28 => ⟨S2x1x224x224, .f32⟩
  | 29 => ⟨S2x1x224x224, .f32⟩
  | 30 => ⟨S2x1x224x224, .f32⟩
  | 31 => ⟨S2x1x224x224, .f32⟩
  | 32 => ⟨S1, .f32⟩
  | 33 => ⟨S_, .f32⟩
  | 34 => ⟨S2x1x224x224, .f32⟩
  | 35 => ⟨S2x1x224x224, .f32⟩
  | 36 => ⟨S2x1x224x224, .f32⟩
  | 37 => ⟨S2x1x224x224, .f32⟩
  | 38 => ⟨S1, .f32⟩
  | 39 => ⟨S_, .f32⟩
  | 40 => ⟨S2x1x224x224, .f32⟩
  | 41 => ⟨S2x1x224x224, .f32⟩
  | 42 => ⟨S2x1x224x224, .f32⟩
  | 43 => ⟨S2x1x224x224, .f32⟩
  | 44 => ⟨S1, .f32⟩
  | 45 => ⟨S_, .f32⟩
  | 46 => ⟨S2x1x224x224, .f32⟩
  | 47 => ⟨S2x1x224x224, .f32⟩
  | 48 => ⟨S2x1x224x224, .f32⟩
  | 49 => ⟨S2x1x224x224, .f32⟩
  | 50 => ⟨S1, .f32⟩
  | 51 => ⟨S_, .f32⟩
  | 52 => ⟨S2x1x224x224, .f32⟩
  | 53 => ⟨S2x1x224x224, .f32⟩
  | 54 => ⟨S2x1x224x224, .f32⟩
  | 55 => ⟨S2x1x224x224, .f32⟩
  | 56 => ⟨S1, .f32⟩
  | 57 => ⟨S_, .f32⟩
  | 58 => ⟨S2x1x224x224, .f32⟩
  | 59 => ⟨S2x1x224x224, .f32⟩
  | 60 => ⟨S2x1x224x224, .f32⟩
  | 61 => ⟨S2x1x224x224, .f32⟩
  | 62 => ⟨S1, .f32⟩
  | 63 => ⟨S_, .f32⟩
  | 64 => ⟨S2x1x224x224, .f32⟩
  | 65 => ⟨S2x1x224x224, .f32⟩
  | 66 => ⟨S2x1x224x224, .f32⟩
  | 67 => ⟨S2x1x224x224, .f32⟩
  | 68 => ⟨S1, .f32⟩
  | 69 => ⟨S_, .f32⟩
  | 70 => ⟨S2x1x224x224, .f32⟩
  | 71 => ⟨S2x1x224x224, .f32⟩
  | 72 => ⟨S2x1x224x224, .f32⟩
  | 73 => ⟨S2x1x224x224, .f32⟩
  | 74 => ⟨S1, .f32⟩
  | 75 => ⟨S_, .f32⟩
  | 76 => ⟨S2x1x224x224, .f32⟩
  | 77 => ⟨S2x1x224x224, .f32⟩
  | 78 => ⟨S2x1x224x224, .f32⟩
  | 79 => ⟨S2x1x224x224, .f32⟩
  | _ => ⟨S1568x1536, .f32⟩

abbrev hbmTy (i : Nat) : BufTy := match i / 128 with
  | 0 => hbmTy0_0 i
  | 1 => hbmTy0_1 i
  | 2 => hbmTy0_2 i
  | 3 => hbmTy0_3 i
  | _ => ⟨S1568x1536, .f32⟩

abbrev bufTy : (tb : Table) → Fin (tcTables nBuf tb) → BufTy
  | .hbm, ⟨i, _⟩ => hbmTy i
  | _, _ => ⟨S1568x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_c_9 : Ref sig .tc := ⟨.hbm, 255, rfl⟩
abbrev main_call1_v0 : Ref sig .tc := ⟨.hbm, 256, rfl⟩
abbrev main_call1_v1 : Ref sig .tc := ⟨.hbm, 257, rfl⟩
abbrev main_call1_v2 : Ref sig .tc := ⟨.hbm, 258, rfl⟩
abbrev main_call1_v3 : Ref sig .tc := ⟨.hbm, 259, rfl⟩
abbrev main_call1_v4 : Ref sig .tc := ⟨.hbm, 260, rfl⟩
abbrev main_call1_v5 : Ref sig .tc := ⟨.hbm, 261, rfl⟩
abbrev main_call1_v6 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_cst_10 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_v269 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_v296 : Ref sig .tc := ⟨.hbm, 325, rfl⟩
abbrev main_v297 : Ref sig .tc := ⟨.hbm, 326, rfl⟩
abbrev main_v298 : Ref sig .tc := ⟨.hbm, 327, rfl⟩
abbrev main_v299 : Ref sig .tc := ⟨.hbm, 328, rfl⟩
abbrev main_v300 : Ref sig .tc := ⟨.hbm, 329, rfl⟩
abbrev main_v301 : Ref sig .tc := ⟨.hbm, 330, rfl⟩
abbrev main_v302 : Ref sig .tc := ⟨.hbm, 331, rfl⟩
abbrev main_v303 : Ref sig .tc := ⟨.hbm, 332, rfl⟩
abbrev main_v304 : Ref sig .tc := ⟨.hbm, 333, rfl⟩
abbrev main_v305 : Ref sig .tc := ⟨.hbm, 334, rfl⟩
abbrev main_v306 : Ref sig .tc := ⟨.hbm, 335, rfl⟩
abbrev main_v307 : Ref sig .tc := ⟨.hbm, 336, rfl⟩
abbrev main_v308 : Ref sig .tc := ⟨.hbm, 337, rfl⟩
abbrev main_v309 : Ref sig .tc := ⟨.hbm, 338, rfl⟩
abbrev main_v310 : Ref sig .tc := ⟨.hbm, 339, rfl⟩
abbrev main_v311 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_v315 : Ref sig .tc := ⟨.hbm, 344, rfl⟩
abbrev main_v316 : Ref sig .tc := ⟨.hbm, 345, rfl⟩
abbrev main_v317 : Ref sig .tc := ⟨.hbm, 346, rfl⟩
abbrev main_v318 : Ref sig .tc := ⟨.hbm, 347, rfl⟩
abbrev main_v319 : Ref sig .tc := ⟨.hbm, 348, rfl⟩
abbrev main_v320 : Ref sig .tc := ⟨.hbm, 349, rfl⟩
abbrev main_v321 : Ref sig .tc := ⟨.hbm, 350, rfl⟩
abbrev main_v322 : Ref sig .tc := ⟨.hbm, 351, rfl⟩
abbrev main_v323 : Ref sig .tc := ⟨.hbm, 352, rfl⟩
abbrev main_v324 : Ref sig .tc := ⟨.hbm, 353, rfl⟩
abbrev main_v325 : Ref sig .tc := ⟨.hbm, 354, rfl⟩
abbrev main_v326 : Ref sig .tc := ⟨.hbm, 355, rfl⟩
abbrev main_v327 : Ref sig .tc := ⟨.hbm, 356, rfl⟩
abbrev main_v328 : Ref sig .tc := ⟨.hbm, 357, rfl⟩
abbrev main_v329 : Ref sig .tc := ⟨.hbm, 358, rfl⟩
abbrev main_v330 : Ref sig .tc := ⟨.hbm, 359, rfl⟩
abbrev main_v331 : Ref sig .tc := ⟨.hbm, 360, rfl⟩
abbrev main_v332 : Ref sig .tc := ⟨.hbm, 361, rfl⟩
abbrev main_v333 : Ref sig .tc := ⟨.hbm, 362, rfl⟩
abbrev main_v334 : Ref sig .tc := ⟨.hbm, 363, rfl⟩
abbrev main_v335 : Ref sig .tc := ⟨.hbm, 364, rfl⟩
abbrev main_v336 : Ref sig .tc := ⟨.hbm, 365, rfl⟩
abbrev main_v337 : Ref sig .tc := ⟨.hbm, 366, rfl⟩
abbrev main_v338 : Ref sig .tc := ⟨.hbm, 367, rfl⟩
abbrev main_v339 : Ref sig .tc := ⟨.hbm, 368, rfl⟩
abbrev main_v340 : Ref sig .tc := ⟨.hbm, 369, rfl⟩
abbrev main_v341 : Ref sig .tc := ⟨.hbm, 370, rfl⟩
abbrev main_v342 : Ref sig .tc := ⟨.hbm, 371, rfl⟩
abbrev main_v343 : Ref sig .tc := ⟨.hbm, 372, rfl⟩
abbrev main_v344 : Ref sig .tc := ⟨.hbm, 373, rfl⟩
abbrev main_v345 : Ref sig .tc := ⟨.hbm, 374, rfl⟩
abbrev main_v346 : Ref sig .tc := ⟨.hbm, 375, rfl⟩
abbrev main_v347 : Ref sig .tc := ⟨.hbm, 376, rfl⟩
abbrev main_v348 : Ref sig .tc := ⟨.hbm, 377, rfl⟩
abbrev main_v349 : Ref sig .tc := ⟨.hbm, 378, rfl⟩
abbrev main_v350 : Ref sig .tc := ⟨.hbm, 379, rfl⟩
abbrev main_v351 : Ref sig .tc := ⟨.hbm, 380, rfl⟩
abbrev main_v352 : Ref sig .tc := ⟨.hbm, 381, rfl⟩
abbrev main_v353 : Ref sig .tc := ⟨.hbm, 382, rfl⟩
abbrev main_v354 : Ref sig .tc := ⟨.hbm, 383, rfl⟩
abbrev main_v355 : Ref sig .tc := ⟨.hbm, 384, rfl⟩
abbrev main_v356 : Ref sig .tc := ⟨.hbm, 385, rfl⟩
abbrev main_v357 : Ref sig .tc := ⟨.hbm, 386, rfl⟩
abbrev main_v358 : Ref sig .tc := ⟨.hbm, 387, rfl⟩
abbrev main_v359 : Ref sig .tc := ⟨.hbm, 388, rfl⟩
abbrev main_v360 : Ref sig .tc := ⟨.hbm, 389, rfl⟩
abbrev main_v361 : Ref sig .tc := ⟨.hbm, 390, rfl⟩
abbrev main_v362 : Ref sig .tc := ⟨.hbm, 391, rfl⟩
abbrev main_v363 : Ref sig .tc := ⟨.hbm, 392, rfl⟩
abbrev main_v364 : Ref sig .tc := ⟨.hbm, 393, rfl⟩
abbrev main_v365 : Ref sig .tc := ⟨.hbm, 394, rfl⟩
abbrev main_v366 : Ref sig .tc := ⟨.hbm, 395, rfl⟩
abbrev main_v367 : Ref sig .tc := ⟨.hbm, 396, rfl⟩
abbrev main_v368 : Ref sig .tc := ⟨.hbm, 397, rfl⟩
abbrev main_v369 : Ref sig .tc := ⟨.hbm, 398, rfl⟩
abbrev main_v370 : Ref sig .tc := ⟨.hbm, 399, rfl⟩
abbrev main_v371 : Ref sig .tc := ⟨.hbm, 400, rfl⟩
abbrev main_v372 : Ref sig .tc := ⟨.hbm, 401, rfl⟩
abbrev main_v373 : Ref sig .tc := ⟨.hbm, 402, rfl⟩
abbrev main_v374 : Ref sig .tc := ⟨.hbm, 403, rfl⟩
abbrev main_v375 : Ref sig .tc := ⟨.hbm, 404, rfl⟩
abbrev main_v376 : Ref sig .tc := ⟨.hbm, 405, rfl⟩
abbrev main_v377 : Ref sig .tc := ⟨.hbm, 406, rfl⟩
abbrev main_v378 : Ref sig .tc := ⟨.hbm, 407, rfl⟩
abbrev main_v379 : Ref sig .tc := ⟨.hbm, 408, rfl⟩
abbrev main_v380 : Ref sig .tc := ⟨.hbm, 409, rfl⟩
abbrev main_v381 : Ref sig .tc := ⟨.hbm, 410, rfl⟩
abbrev main_v382 : Ref sig .tc := ⟨.hbm, 411, rfl⟩
abbrev main_v383 : Ref sig .tc := ⟨.hbm, 412, rfl⟩
abbrev main_v384 : Ref sig .tc := ⟨.hbm, 413, rfl⟩
abbrev main_v385 : Ref sig .tc := ⟨.hbm, 414, rfl⟩
abbrev main_v386 : Ref sig .tc := ⟨.hbm, 415, rfl⟩
abbrev main_v387 : Ref sig .tc := ⟨.hbm, 416, rfl⟩
abbrev main_v388 : Ref sig .tc := ⟨.hbm, 417, rfl⟩
abbrev main_v389 : Ref sig .tc := ⟨.hbm, 418, rfl⟩
abbrev main_v390 : Ref sig .tc := ⟨.hbm, 419, rfl⟩
abbrev main_v391 : Ref sig .tc := ⟨.hbm, 420, rfl⟩
abbrev main_v392 : Ref sig .tc := ⟨.hbm, 421, rfl⟩
abbrev main_v393 : Ref sig .tc := ⟨.hbm, 422, rfl⟩
abbrev main_v394 : Ref sig .tc := ⟨.hbm, 423, rfl⟩
abbrev main_v395 : Ref sig .tc := ⟨.hbm, 424, rfl⟩
abbrev main_v396 : Ref sig .tc := ⟨.hbm, 425, rfl⟩
abbrev main_v397 : Ref sig .tc := ⟨.hbm, 426, rfl⟩
abbrev main_v398 : Ref sig .tc := ⟨.hbm, 427, rfl⟩
abbrev main_v399 : Ref sig .tc := ⟨.hbm, 428, rfl⟩
abbrev main_v400 : Ref sig .tc := ⟨.hbm, 429, rfl⟩
abbrev main_v401 : Ref sig .tc := ⟨.hbm, 430, rfl⟩
abbrev main_v402 : Ref sig .tc := ⟨.hbm, 431, rfl⟩
abbrev main_v403 : Ref sig .tc := ⟨.hbm, 432, rfl⟩
abbrev main_v404 : Ref sig .tc := ⟨.hbm, 433, rfl⟩
abbrev main_v405 : Ref sig .tc := ⟨.hbm, 434, rfl⟩
abbrev main_v406 : Ref sig .tc := ⟨.hbm, 435, rfl⟩
abbrev main_v407 : Ref sig .tc := ⟨.hbm, 436, rfl⟩
abbrev main_v408 : Ref sig .tc := ⟨.hbm, 437, rfl⟩
abbrev main_v409 : Ref sig .tc := ⟨.hbm, 438, rfl⟩
abbrev main_v410 : Ref sig .tc := ⟨.hbm, 439, rfl⟩
abbrev main_v411 : Ref sig .tc := ⟨.hbm, 440, rfl⟩
abbrev main_v412 : Ref sig .tc := ⟨.hbm, 441, rfl⟩
abbrev main_v413 : Ref sig .tc := ⟨.hbm, 442, rfl⟩
abbrev main_v414 : Ref sig .tc := ⟨.hbm, 443, rfl⟩
abbrev main_v415 : Ref sig .tc := ⟨.hbm, 444, rfl⟩
abbrev main_v416 : Ref sig .tc := ⟨.hbm, 445, rfl⟩
abbrev main_v417 : Ref sig .tc := ⟨.hbm, 446, rfl⟩
abbrev main_v418 : Ref sig .tc := ⟨.hbm, 447, rfl⟩
abbrev main_v419 : Ref sig .tc := ⟨.hbm, 448, rfl⟩
abbrev main_v420 : Ref sig .tc := ⟨.hbm, 449, rfl⟩
abbrev main_v421 : Ref sig .tc := ⟨.hbm, 450, rfl⟩
abbrev main_v422 : Ref sig .tc := ⟨.hbm, 451, rfl⟩
abbrev main_v423 : Ref sig .tc := ⟨.hbm, 452, rfl⟩
abbrev main_v424 : Ref sig .tc := ⟨.hbm, 453, rfl⟩
abbrev main_v425 : Ref sig .tc := ⟨.hbm, 454, rfl⟩
abbrev main_v426 : Ref sig .tc := ⟨.hbm, 455, rfl⟩
abbrev main_v427 : Ref sig .tc := ⟨.hbm, 456, rfl⟩
abbrev main_v428 : Ref sig .tc := ⟨.hbm, 457, rfl⟩
abbrev main_v429 : Ref sig .tc := ⟨.hbm, 458, rfl⟩
abbrev main_v430 : Ref sig .tc := ⟨.hbm, 459, rfl⟩
abbrev main_v431 : Ref sig .tc := ⟨.hbm, 460, rfl⟩
abbrev main_v432 : Ref sig .tc := ⟨.hbm, 461, rfl⟩
abbrev main_v433 : Ref sig .tc := ⟨.hbm, 462, rfl⟩
abbrev main_v434 : Ref sig .tc := ⟨.hbm, 463, rfl⟩

abbrev nD : Nat := 1
abbrev τ : Topo := Topo.v7x

variable {F : FTy → Type} [FloatOps F]
-- ==== Score.lean ====
abbrev S2x16384 : Shape := ⟨2, ![2, 16384]⟩
abbrev S2x1 : Shape := ⟨2, ![2, 1]⟩
abbrev S2 : Shape := ⟨1, ![2]⟩
abbrev S2x9 : Shape := ⟨2, ![2, 9]⟩

abbrev nBuf : Space → Nat
  | .hbm => 4
  | .vmem => 4
  | .smem => 0
  | _ => 0

abbrev bufTy : (tb : Table) → Fin (tcTables nBuf tb) → BufTy
  | .hbm, ⟨0, _⟩ => ⟨S2x16384, .f32⟩
  | .hbm, ⟨1, _⟩ => ⟨S2x16384, .f32⟩
  | .hbm, ⟨2, _⟩ => ⟨S2x1, .f32⟩
  | .hbm, ⟨3, _⟩ => ⟨S2x1, .f32⟩
  | .local _ .vmem, ⟨0, _⟩ => ⟨S2x16384, .f32⟩
  | .local _ .vmem, ⟨1, _⟩ => ⟨S2x16384, .f32⟩
  | .local _ .vmem, ⟨2, _⟩ => ⟨S2x1, .f32⟩
  | .local _ .vmem, ⟨3, _⟩ => ⟨S2x1, .f32⟩
  | _, _ => ⟨S2x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ScoreReferenceIdeal.lean ====
abbrev S2x16384 : Shape := ⟨2, ![2, 16384]⟩
abbrev S2x1 : Shape := ⟨2, ![2, 1]⟩
abbrev S2x9 : Shape := ⟨2, ![2, 9]⟩
abbrev S_ : Shape := ⟨0, ![]⟩
abbrev S2x9x1 : Shape := ⟨3, ![2, 9, 1]⟩
abbrev S2 : Shape := ⟨1, ![2]⟩

abbrev nBuf : Space → Nat
  | .hbm => 34
  | .vmem => 0
  | .smem => 0
  | _ => 0

abbrev bufTy : (tb : Table) → Fin (tcTables nBuf tb) → BufTy
  | .hbm, ⟨0, _⟩ => ⟨S2x16384, .f32⟩
  | .hbm, ⟨1, _⟩ => ⟨S2x16384, .f32⟩
  | .hbm, ⟨2, _⟩ => ⟨S2x1, .f32⟩
  | .hbm, ⟨3, _⟩ => ⟨S2x16384, .f32⟩
  | .hbm, ⟨4, _⟩ => ⟨S2x9, .f32⟩
  | .hbm, ⟨5, _⟩ => ⟨S2x9, .i32⟩
  | .hbm, ⟨6, _⟩ => ⟨S_, .i32⟩
  | .hbm, ⟨7, _⟩ => ⟨S2x9, .i32⟩
  | .hbm, ⟨8, _⟩ => ⟨S2x9, .i1⟩
  | .hbm, ⟨9, _⟩ => ⟨S_, .i32⟩
  | .hbm, ⟨10, _⟩ => ⟨S2x9, .i32⟩
  | .hbm, ⟨11, _⟩ => ⟨S2x9, .i32⟩
  | .hbm, ⟨12, _⟩ => ⟨S2x9, .i32⟩
  | .hbm, ⟨13, _⟩ => ⟨S2x9x1, .i32⟩
  | .hbm, ⟨14, _⟩ => ⟨S2x9, .f32⟩
  | .hbm, ⟨15, _⟩ => ⟨S_, .f32⟩
  | .hbm, ⟨16, _⟩ => ⟨S2, .f32⟩
  | .hbm, ⟨17, _⟩ => ⟨S_, .f32⟩
  | .hbm, ⟨18, _⟩ => ⟨S2, .f32⟩
  | .hbm, ⟨19, _⟩ => ⟨S2, .f32⟩
  | .hbm, ⟨20, _⟩ => ⟨S2x1, .f32⟩
  | .hbm, ⟨21, _⟩ => ⟨S2x9, .f32⟩
  | .hbm, ⟨22, _⟩ => ⟨S2x9, .f32⟩
  | .hbm, ⟨23, _⟩ => ⟨S2x9, .f32⟩
  | .hbm, ⟨24, _⟩ => ⟨S_, .f32⟩
  | .hbm, ⟨25, _⟩ => ⟨S2, .f32⟩
  | .hbm, ⟨26, _⟩ => ⟨S2x1, .f32⟩
  | .hbm, ⟨27, _⟩ => ⟨S2x9, .f32⟩
  | .hbm, ⟨28, _⟩ => ⟨S2x9, .f32⟩
  | .hbm, ⟨29, _⟩ => ⟨S_, .f32⟩
  | .hbm, ⟨30, _⟩ => ⟨S2x9, .f32⟩
  | .hbm, ⟨31, _⟩ => ⟨S2x9, .f32⟩
  | .hbm, ⟨32, _⟩ => ⟨S2x1, .f32⟩
  | .hbm, ⟨33, _⟩ => ⟨S2x1, .f32⟩
  | _, _ => ⟨S2x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_values : Ref sig .tc := ⟨.hbm, 4, rfl⟩
abbrev main_indices : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩

abbrev nD : Nat := 1
abbrev τ : Topo := Topo.v7x

variable {F : FTy → Type} [FloatOps F]
-- ==== Query.lean ====
abbrev S18 : Shape := ⟨1, ![18]⟩
abbrev S1568x1536 : Shape := ⟨2, ![1568, 1536]⟩
abbrev S16384x1536 : Shape := ⟨2, ![16384, 1536]⟩
abbrev S18x16384 : Shape := ⟨2, ![18, 16384]⟩
abbrev S1024x1536 : Shape := ⟨2, ![1024, 1536]⟩
abbrev S8x1536 : Shape := ⟨2, ![8, 1536]⟩
abbrev S1 : Shape := ⟨1, ![1]⟩
abbrev S18x1024 : Shape := ⟨2, ![18, 1024]⟩
abbrev S18x1536 : Shape := ⟨2, ![18, 1536]⟩
abbrev S1x1024 : Shape := ⟨2, ![1, 1024]⟩
abbrev S1x1536 : Shape := ⟨2, ![1, 1536]⟩
abbrev S128x1536 : Shape := ⟨2, ![128, 1536]⟩
abbrev S1x128 : Shape := ⟨2, ![1, 128]⟩
abbrev S18x1 : Shape := ⟨2, ![18, 1]⟩

abbrev nBuf : Space → Nat
  | .hbm => 3
  | .vmem => 9
  | .smem => 1
  | _ => 0

abbrev bufTy : (tb : Table) → Fin (tcTables nBuf tb) → BufTy
  | .hbm, ⟨0, _⟩ => ⟨S1568x1536, .f32⟩
  | .hbm, ⟨1, _⟩ => ⟨S16384x1536, .f32⟩
  | .hbm, ⟨2, _⟩ => ⟨S18x16384, .f32⟩
  | .local _ .vmem, ⟨0, _⟩ => ⟨S1568x1536, .f32⟩
  | .local _ .vmem, ⟨1, _⟩ => ⟨S1024x1536, .f32⟩
  | .local _ .vmem, ⟨2, _⟩ => ⟨S1024x1536, .f32⟩
  | .local _ .vmem, ⟨3, _⟩ => ⟨S8x1536, .f32⟩
  | .local _ .vmem, ⟨4, _⟩ => ⟨S8x1536, .f32⟩
  | .local _ .vmem, ⟨5, _⟩ => ⟨S18x1024, .f32⟩
  | .local _ .vmem, ⟨6, _⟩ => ⟨S18x1024, .f32⟩
  | .local _ .vmem, ⟨7, _⟩ => ⟨S18x1536, .f32⟩
  | .local _ .vmem, ⟨8, _⟩ => ⟨S1x1024, .f32⟩
  | .local _ .smem, ⟨0, _⟩ => ⟨S18, .i32⟩
  | _, _ => ⟨S1568x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v20 : BitVec 32) : Fin 2 → Nat :=
  let v21 : Index := Scalar.indexCast v20
  let c0_14 : Index := 0#32
  ![v21.toNat, 0]

def k0_chk1 (i : grid0.Coords) (v20 : BitVec 32) : Prop :=
  (∀ (k0_h1 : k0_cond1 i = 1#1), ∀ a, (k0_off1 v20) a + S1x1536.size a ≤ S1568x1536.size a)
theorem k0_off1_inb : ∀ (i : grid0.Coords) (v20 : BitVec 32) (k0_hw1 : k0_chk1 i v20), ∀ (k0_h1 : k0_cond1 i = 1#1), ∀ a, (k0_off1 v20) a + S1x1536.size a ≤ S1568x1536.size a := fun i v20 k0_hw1 k0_h1 => k0_hw1 k0_h1

def k0_off2 (v26 : BitVec 32) : Fin 2 → Nat :=
  let v27 : Index := Scalar.indexCast v26
  let c0_17 : Index := 0#32
  ![v27.toNat, 0]

def k0_chk2 (i : grid0.Coords) (v26 : BitVec 32) : Prop :=
  (∀ (k0_h1 : k0_cond1 i = 1#1), ∀ a, (k0_off2 v26) a + S1x1536.size a ≤ S1568x1536.size a)
theorem k0_off2_inb : ∀ (i : grid0.Coords) (v26 : BitVec 32) (k0_hw2 : k0_chk2 i v26), ∀ (k0_h1 : k0_cond1 i = 1#1), ∀ a, (k0_off2 v26) a + S1x1536.size a ≤ S1568x1536.size a := fun i v26 k0_hw2 k0_h1 => k0_hw2 k0_h1

def k0_off3 (v32 : BitVec 32) : Fin 2 → Nat :=
  let v33 : Index := Scalar.indexCast v32
  let c0_20 : Index := 0#32
  ![v33.toNat, 0]

def k0_chk3 (i : grid0.Coords) (v32 : BitVec 32) : Prop :=
  (∀ (k0_h1 : k0_cond1 i = 1#1), ∀ a, (k0_off3 v32) a + S1x1536.size a ≤ S1568x1536.size a)
theorem k0_off3_inb : ∀ (i : grid0.Coords) (v32 : BitVec 32) (k0_hw3 : k0_chk3 i v32), ∀ (k0_h1 : k0_cond1 i = 1#1), ∀ a, (k0_off3 v32) a + S1x1536.size a ≤ S1568x1536.size a := fun i v32 k0_hw3 k0_h1 => k0_hw3 k0_h1

def k0_off4 (v38 : BitVec 32) : Fin 2 → Nat :=
  let v39 : Index := Scalar.indexCast v38
  let c0_23 : Index := 0#32
  ![v39.toNat, 0]

def k0_chk4 (i : grid0.Coords) (v38 : BitVec 32) : Prop :=
  (∀ (k0_h1 : k0_cond1 i = 1#1), ∀ a, (k0_off4 v38) a + S1x1536.size a ≤ S1568x1536.size a)
theorem k0_off4_inb : ∀ (i : grid0.Coords) (v38 : BitVec 32) (k0_hw4 : k0_chk4 i v38), ∀ (k0_h1 : k0_cond1 i = 1#1), ∀ a, (k0_off4 v38) a + S1x1536.size a ≤ S1568x1536.size a := fun i v38 k0_hw4 k0_h1 => k0_hw4 k0_h1

def k0_off5 (v44 : BitVec 32) : Fin 2 → Nat :=
  let v45 : Index := Scalar.indexCast v44
  let c0_26 : Index := 0#32
  ![v45.toNat, 0]

def k0_chk5 (i : grid0.Coords) (v44 : BitVec 32) : Prop :=
  (∀ (k0_h1 : k0_cond1 i = 1#1), ∀ a, (k0_off5 v44) a + S1x1536.size a ≤ S1568x1536.size a)
theorem k0_off5_inb : ∀ (i : grid0.Coords) (v44 : BitVec 32) (k0_hw5 : k0_chk5 i v44), ∀ (k0_h1 : k0_cond1 i = 1#1), ∀ a, (k0_off5 v44) a + S1x1536.size a ≤ S1568x1536.size a := fun i v44 k0_hw5 k0_h1 => k0_hw5 k0_h1

def k0_off6 (v50 : BitVec 32) : Fin 2 → Nat :=
  let v51 : Index := Scalar.indexCast v50
  let c0_29 : Index := 0#32
  ![v51.toNat, 0]

def k0_chk6 (i : grid0.Coords) (v50 : BitVec 32) : Prop :=
  (∀ (k0_h1 : k0_cond1 i = 1#1), ∀ a, (k0_off6 v50) a + S1x1536.size a ≤ S1568x1536.size a)
theorem k0_off6_inb : ∀ (i : grid0.Coords) (v50 : BitVec 32) (k0_hw6 : k0_chk6 i v50), ∀ (k0_h1 : k0_cond1 i = 1#1), ∀ a, (k0_off6 v50) a + S1x1536.size a ≤ S1568x1536.size a := fun i v50 k0_hw6 k0_h1 => k0_hw6 k0_h1

def k0_off7 (v56 : BitVec 32) : Fin 2 → Nat :=
  let v57 : Index := Scalar.indexCast v56
  let c0_32 : Index := 0#32
  ![v57.toNat, 0]

def k0_chk7 (i : grid0.Coords) (v56 : BitVec 32) : Prop :=
  (∀ (k0_h1 : k0_cond1 i = 1#1), ∀ a, (k0_off7 v56) a + S1x1536.size a ≤ S1568x1536.size a)
theorem k0_off7_inb : ∀ (i : grid0.Coords) (v56 : BitVec 32) (k0_hw7 : k0_chk7 i v56), ∀ (k0_h1 : k0_cond1 i = 1#1), ∀ a, (k0_off7 v56) a + S1x1536.size a ≤ S1568x1536.size a := fun i v56 k0_hw7 k0_h1 => k0_hw7 k0_h1

def k0_off8 (v62 : BitVec 32) : Fin 2 → Nat :=
  let v63 : Index := Scalar.indexCast v62
  let c0_35 : Index := 0#32
  ![v63.toNat, 0]

def k0_chk8 (i : grid0.Coords) (v62 : BitVec 32) : Prop :=
  (∀ (k0_h1 : k0_cond1 i = 1#1), ∀ a, (k0_off8 v62) a + S1x1536.size a ≤ S1568x1536.size a)
theorem k0_off8_inb : ∀ (i : grid0.Coords) (v62 : BitVec 32) (k0_hw8 : k0_chk8 i v62), ∀ (k0_h1 : k0_cond1 i = 1#1), ∀ a, (k0_off8 v62) a + S1x1536.size a ≤ S1568x1536.size a := fun i v62 k0_hw8 k0_h1 => k0_hw8 k0_h1

def k0_off9 (v68 : BitVec 32) : Fin 2 → Nat :=
  let v69 : Index := Scalar.indexCast v68
  let c0_38 : Index := 0#32
  ![v69.toNat, 0]

def k0_chk9 (i : grid0.Coords) (v68 : BitVec 32) : Prop :=
  (∀ (k0_h1 : k0_cond1 i = 1#1), ∀ a, (k0_off9 v68) a + S1x1536.size a ≤ S1568x1536.size a)
theorem k0_off9_inb : ∀ (i : grid0.Coords) (v68 : BitVec 32) (k0_hw9 : k0_chk9 i v68), ∀ (k0_h1 : k0_cond1 i = 1#1), ∀ a, (k0_off9 v68) a + S1x1536.size a ≤ S1568x1536.size a := fun i v68 k0_hw9 k0_h1 => k0_hw9 k0_h1

def k0_off10 (v74 : BitVec 32) : Fin 2 → Nat :=
  let v75 : Index := Scalar.indexCast v74
  let c0_41 : Index := 0#32
  ![v75.toNat, 0]

def k0_chk10 (i : grid0.Coords) (v74 : BitVec 32) : Prop :=
  (∀ (k0_h1 : k0_cond1 i = 1#1), ∀ a, (k0_off10 v74) a + S1x1536.size a ≤ S1568x1536.size a)
theorem k0_off10_inb : ∀ (i : grid0.Coords) (v74 : BitVec 32) (k0_hw10 : k0_chk10 i v74), ∀ (k0_h1 : k0_cond1 i = 1#1), ∀ a, (k0_off10 v74) a + S1x1536.size a ≤ S1568x1536.size a := fun i v74 k0_hw10 k0_h1 => k0_hw10 k0_h1

def k0_off11 (v80 : BitVec 32) : Fin 2 → Nat :=
  let v81 : Index := Scalar.indexCast v80
  let c0_44 : Index := 0#32
  ![v81.toNat, 0]

def k0_chk11 (i : grid0.Coords) (v80 : BitVec 32) : Prop :=
  (∀ (k0_h1 : k0_cond1 i = 1#1), ∀ a, (k0_off11 v80) a + S1x1536.size a ≤ S1568x1536.size a)
theorem k0_off11_inb : ∀ (i : grid0.Coords) (v80 : BitVec 32) (k0_hw11 : k0_chk11 i v80), ∀ (k0_h1 : k0_cond1 i = 1#1), ∀ a, (k0_off11 v80) a + S1x1536.size a ≤ S1568x1536.size a := fun i v80 k0_hw11 k0_h1 => k0_hw11 k0_h1

def k0_off12 (v86 : BitVec 32) : Fin 2 → Nat :=
  let v87 : Index := Scalar.indexCast v86
  let c0_47 : Index := 0#32
  ![v87.toNat, 0]

def k0_chk12 (i : grid0.Coords) (v86 : BitVec 32) : Prop :=
  (∀ (k0_h1 : k0_cond1 i = 1#1), ∀ a, (k0_off12 v86) a + S1x1536.size a ≤ S1568x1536.size a)
theorem k0_off12_inb : ∀ (i : grid0.Coords) (v86 : BitVec 32) (k0_hw12 : k0_chk12 i v86), ∀ (k0_h1 : k0_cond1 i = 1#1), ∀ a, (k0_off12 v86) a + S1x1536.size a ≤ S1568x1536.size a := fun i v86 k0_hw12 k0_h1 => k0_hw12 k0_h1

def k0_off13 (v92 : BitVec 32) : Fin 2 → Nat :=
  let v93 : Index := Scalar.indexCast v92
  let c0_50 : Index := 0#32
  ![v93.toNat, 0]

def k0_chk13 (i : grid0.Coords) (v92 : BitVec 32) : Prop :=
  (∀ (k0_h1 : k0_cond1 i = 1#1), ∀ a, (k0_off13 v92) a + S1x1536.size a ≤ S1568x1536.size a)
theorem k0_off13_inb : ∀ (i : grid0.Coords) (v92 : BitVec 32) (k0_hw13 : k0_chk13 i v92), ∀ (k0_h1 : k0_cond1 i = 1#1), ∀ a, (k0_off13 v92) a + S1x1536.size a ≤ S1568x1536.size a := fun i v92 k0_hw13 k0_h1 => k0_hw13 k0_h1

def k0_off14 (v98 : BitVec 32) : Fin 2 → Nat :=
  let v99 : Index := Scalar.indexCast v98
  let c0_53 : Index := 0#32
  ![v99.toNat, 0]

def k0_chk14 (i : grid0.Coords) (v98 : BitVec 32) : Prop :=
  (∀ (k0_h1 : k0_cond1 i = 1#1), ∀ a, (k0_off14 v98) a + S1x1536.size a ≤ S1568x1536.size a)
theorem k0_off14_inb : ∀ (i : grid0.Coords) (v98 : BitVec 32) (k0_hw14 : k0_chk14 i v98), ∀ (k0_h1 : k0_cond1 i = 1#1), ∀ a, (k0_off14 v98) a + S1x1536.size a ≤ S1568x1536.size a := fun i v98 k0_hw14 k0_h1 => k0_hw14 k0_h1

def k0_off15 (v104 : BitVec 32) : Fin 2 → Nat :=
  let v105 : Index := Scalar.indexCast v104
  let c0_56 : Index := 0#32
  ![v105.toNat, 0]

def k0_chk15 (i : grid0.Coords) (v104 : BitVec 32) : Prop :=
  (∀ (k0_h1 : k0_cond1 i = 1#1), ∀ a, (k0_off15 v104) a + S1x1536.size a ≤ S1568x1536.size a)
theorem k0_off15_inb : ∀ (i : grid0.Coords) (v104 : BitVec 32) (k0_hw15 : k0_chk15 i v104), ∀ (k0_h1 : k0_cond1 i = 1#1), ∀ a, (k0_off15 v104) a + S1x1536.size a ≤ S1568x1536.size a := fun i v104 k0_hw15 k0_h1 => k0_hw15 k0_h1

def k0_off16 (v110 : BitVec 32) : Fin 2 → Nat :=
  let v111 : Index := Scalar.indexCast v110
  let c0_59 : Index := 0#32
  ![v111.toNat, 0]

def k0_chk16 (i : grid0.Coords) (v110 : BitVec 32) : Prop :=
  (∀ (k0_h1 : k0_cond1 i = 1#1), ∀ a, (k0_off16 v110) a + S1x1536.size a ≤ S1568x1536.size a)
theorem k0_off16_inb : ∀ (i : grid0.Coords) (v110 : BitVec 32) (k0_hw16 : k0_chk16 i v110), ∀ (k0_h1 : k0_cond1 i = 1#1), ∀ a, (k0_off16 v110) a + S1x1536.size a ≤ S1568x1536.size a := fun i v110 k0_hw16 k0_h1 => k0_hw16 k0_h1

def k0_off17 (v116 : BitVec 32) : Fin 2 → Nat :=
  let c8_i32_62 : BitVec 32 := 8#32
  let c0_i32_63 : BitVec 32 := 0#32
  let v117 : BitVec 1 := Scalar.cmpi .eq c8_i32_62 c0_i32_63
  let c1_i32_64 : BitVec 32 := 1#32
  let v118 : BitVec 32 := Scalar.select v117 c1_i32_64 c8_i32_62
  let v119 : BitVec 32 := Scalar.remsi v116 v118
  let c0_i32_66 : BitVec 32 := 0#32
  let v121 : BitVec 1 := Scalar.cmpi .slt v119 c0_i32_66
  let c0_i32_67 : BitVec 32 := 0#32
  let v122 : BitVec 1 := Scalar.cmpi .slt v118 c0_i32_67
  let v123 : BitVec 1 := Scalar.xori v121 v122
  let c0_i32_65 : BitVec 32 := 0#32
  let v120 : BitVec 1 := Scalar.cmpi .ne v119 c0_i32_65
  let v124 : BitVec 1 := Scalar.andi v123 v120
  let v125 : BitVec 32 := Scalar.addi v119 v118
  let v126 : BitVec 32 := Scalar.select v124 v125 v119
  let v127 : Index := Scalar.indexCast v126
  let c0_68 : Index := 0#32
  ![v127.toNat, 0]

def k0_chk17 (i : grid0.Coords) (v116 : BitVec 32) : Prop :=
  (∀ (k0_h1 : k0_cond1 i = 1#1), ∀ a, (k0_off17 v116) a + S1x1536.size a ≤ S8x1536.size a)
theorem k0_off17_inb : ∀ (i : grid0.Coords) (v116 : BitVec 32) (k0_hw17 : k0_chk17 i v116), ∀ (k0_h1 : k0_cond1 i = 1#1), ∀ a, (k0_off17 v116) a + S1x1536.size a ≤ S8x1536.size a := fun i v116 k0_hw17 k0_h1 => k0_hw17 k0_h1

def k0_off18 (v132 : BitVec 32) : Fin 2 → Nat :=
  let c8_i32_71 : BitVec 32 := 8#32
  let c0_i32_72 : BitVec 32 := 0#32
  let v133 : BitVec 1 := Scalar.cmpi .eq c8_i32_71 c0_i32_72
  let c1_i32_73 : BitVec 32 := 1#32
  let v134 : BitVec 32 := Scalar.select v133 c1_i32_73 c8_i32_71
  let v135 : BitVec 32 := Scalar.remsi v132 v134
  let c0_i32_75 : BitVec 32 := 0#32
  let v137 : BitVec 1 := Scalar.cmpi .slt v135 c0_i32_75
  let c0_i32_76 : BitVec 32 := 0#32
  let v138 : BitVec 1 := Scalar.cmpi .slt v134 c0_i32_76
  let v139 : BitVec 1 := Scalar.xori v137 v138
  let c0_i32_74 : BitVec 32 := 0#32
  let v136 : BitVec 1 := Scalar.cmpi .ne v135 c0_i32_74
  let v140 : BitVec 1 := Scalar.andi v139 v136
  let v141 : BitVec 32 := Scalar.addi v135 v134
  let v142 : BitVec 32 := Scalar.select v140 v141 v135
  let v143 : Index := Scalar.indexCast v142
  let c0_77 : Index := 0#32
  ![v143.toNat, 0]

def k0_chk18 (i : grid0.Coords) (v132 : BitVec 32) : Prop :=
  (∀ (k0_h1 : k0_cond1 i = 1#1), ∀ a, (k0_off18 v132) a + S1x1536.size a ≤ S8x1536.size a)
theorem k0_off18_inb : ∀ (i : grid0.Coords) (v132 : BitVec 32) (k0_hw18 : k0_chk18 i v132), ∀ (k0_h1 : k0_cond1 i = 1#1), ∀ a, (k0_off18 v132) a + S1x1536.size a ≤ S8x1536.size a := fun i v132 k0_hw18 k0_h1 => k0_hw18 k0_h1

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_off19 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v20 : BitVec 32 := Scalar.muli arg9 c128_i32
  let v21 : Index := Scalar.indexCast v20
  let c0_13 : Index := 0#32
  ![v21.toNat, 0]
def k0_off20 (k0_t1 : Fin k0_t1_loop.trips) : Fin 2 → Nat :=
  let c0_17 : Index := 0#32
  let c0_i32_1 : BitVec 32 := 0#32
  let c1_i32 : BitVec 32 := 1#32
  let arg9 : BitVec 32 := Scf.iv c0_i32_1 c1_i32 k0_t1
  let c128_i32_16 : BitVec 32 := 128#32
  let v26 : BitVec 32 := Scalar.muli arg9 c128_i32_16
  let v27 : Index := Scalar.indexCast v26
  ![0, v27.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (inb_S18_S1_16 : ∀ a, (![16] : Fin 1 → Nat) a + S1.size a ≤ S18.size a) (numel1_S1 : S1.numel = 1) (pf : pre0.Contents (Elt F)) (i : grid0.Coords) : Fin 2 → Nat :=
  let arg0 : BitVec 32 := BitVec.ofNat 32 (i 0).val
  let c16 : Index := 16#32
  let v0 : BitVec 32 := pf.at 0 (Rect.unit (s := S18) ![16] S1.size inb_S18_S1_16) numel1_S1
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_3 (inb_S18_S1_17 : ∀ a, (![17] : Fin 1 → Nat) a + S1.size a ≤ S18.size a) (numel1_S1 : S1.numel = 1) (pf : pre0.Contents (Elt F)) (i : grid0.Coords) : Fin 2 → Nat :=
  let arg0 : BitVec 32 := BitVec.ofNat 32 (i 0).val
  let c17 : Index := 17#32
  let v0 : BitVec 32 := pf.at 0 (Rect.unit (s := S18) ![17] S1.size inb_S18_S1_17) numel1_S1
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1568x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S18x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QueryReferenceIdeal.lean ====
abbrev S18 : Shape := ⟨1, ![18]⟩
abbrev S1568x1536 : Shape := ⟨2, ![1568, 1536]⟩
abbrev S16384x1536 : Shape := ⟨2, ![16384, 1536]⟩
abbrev S16 : Shape := ⟨1, ![16]⟩
abbrev S_ : Shape := ⟨0, ![]⟩
abbrev S16x1 : Shape := ⟨2, ![16, 1]⟩
abbrev S16x1536 : Shape := ⟨2, ![16, 1536]⟩
abbrev S2 : Shape := ⟨1, ![2]⟩
abbrev S2x1 : Shape := ⟨2, ![2, 1]⟩
abbrev S2x1536 : Shape := ⟨2, ![2, 1536]⟩
abbrev S18x1536 : Shape := ⟨2, ![18, 1536]⟩
abbrev S18x1 : Shape := ⟨2, ![18, 1]⟩
abbrev S16384 : Shape := ⟨1, ![16384]⟩
abbrev S1x16384 : Shape := ⟨2, ![1, 16384]⟩
abbrev S18x16384 : Shape := ⟨2, ![18, 16384]⟩
abbrev S1536x16384 : Shape := ⟨2, ![1536, 16384]⟩

abbrev nBuf : Space → Nat
  | .hbm => 44
  | .vmem => 0
  | .smem => 0
  | _ => 0

abbrev bufTy : (tb : Table) → Fin (tcTables nBuf tb) → BufTy
  | .hbm, ⟨0, _⟩ => ⟨S18, .i32⟩
  | .hbm, ⟨1, _⟩ => ⟨S1568x1536, .f32⟩
  | .hbm, ⟨2, _⟩ => ⟨S16384x1536, .f32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S16x1536, .f32⟩
  | .hbm, ⟨13, _⟩ => ⟨S2, .i32⟩
  | .hbm, ⟨14, _⟩ => ⟨S_, .i32⟩
  | .hbm, ⟨15, _⟩ => ⟨S2, .i32⟩
  | .hbm, ⟨16, _⟩ => ⟨S2, .i1⟩
  | .hbm, ⟨17, _⟩ => ⟨S_, .i32⟩
  | .hbm, ⟨18, _⟩ => ⟨S2, .i32⟩
  | .hbm, ⟨19, _⟩ => ⟨S2, .i32⟩
  | .hbm, ⟨20, _⟩ => ⟨S2, .i32⟩
  | .hbm, ⟨21, _⟩ => ⟨S2x1, .i32⟩
  | .hbm, ⟨22, _⟩ => ⟨S2x1536, .f32⟩
  | .hbm, ⟨23, _⟩ => ⟨S18x1536, .f32⟩
  | .hbm, ⟨24, _⟩ => ⟨S18x1536, .f32⟩
  | .hbm, ⟨25, _⟩ => ⟨S_, .f32⟩
  | .hbm, ⟨26, _⟩ => ⟨S18, .f32⟩
  | .hbm, ⟨27, _⟩ => ⟨S18x1, .f32⟩
  | .hbm, ⟨28, _⟩ => ⟨S16384x1536, .f32⟩
  | .hbm, ⟨29, _⟩ => ⟨S_, .f32⟩
  | .hbm, ⟨30, _⟩ => ⟨S16384, .f32⟩
  | .hbm, ⟨31, _⟩ => ⟨S1x16384, .f32⟩
  | .hbm, ⟨32, _⟩ => ⟨S18x16384, .f32⟩
  | .hbm, ⟨33, _⟩ => ⟨S18x16384, .f32⟩
  | .hbm, ⟨34, _⟩ => ⟨S18x16384, .f32⟩
  | .hbm, ⟨35, _⟩ => ⟨S1536x16384, .f32⟩
  | .hbm, ⟨36, _⟩ => ⟨S18x16384, .f32⟩
  | .hbm, ⟨37, _⟩ => ⟨S_, .f32⟩
  | .hbm, ⟨38, _⟩ => ⟨S18x16384, .f32⟩
  | .hbm, ⟨39, _⟩ => ⟨S18x16384, .f32⟩
  | .hbm, ⟨40, _⟩ => ⟨S18x16384, .f32⟩
  | .hbm, ⟨41, _⟩ => ⟨S_, .f32⟩
  | .hbm, ⟨42, _⟩ => ⟨S18x16384, .f32⟩
  | .hbm, ⟨43, _⟩ => ⟨S18x16384, .f32⟩
  | _, _ => ⟨S18, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proof.Common.lean ====
module

public import Idealize.ShloMosaic.Lib.Exec
public import Idealize.ShloMosaic.Lib.Tactic
public import Idealize.ShloMosaic.Lib.WritesUnit
public import Idealize.ShloMosaic.Lib.Pipeline.Kit
public import Idealize.ShloMosaic.Lib.Pipeline.Frame
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.WordCmp

/-! What the two kernel programs' proofs share: a loop's effect as the iteration of one step, and a buffer held whole
after one rectangle of it has been stored. -/

@[expose] public section

namespace Cert.Shared

open Idealize.ShloMosaic

/-- What the first `k` of `N` steps make of `b`. -/
def steps {N : ℕ} {β : Type} (f : Fin N → β → β) (b : β) : ℕ → β
  | 0 => b
  | k + 1 => if h : k < N then f ⟨k, h⟩ (steps f b k) else steps f b k

/-- One step more. -/
theorem steps_succ {N : ℕ} {β : Type} (f : Fin N → β → β) (b : β) (k : Fin N) :
    steps f b (k.val + 1) = f k (steps f b k.val) := dif_pos k.isLt

/-- Steps past the last do nothing. -/
theorem steps_past {N : ℕ} {β : Type} (f : Fin N → β → β) (b : β) (k : ℕ) (h : N ≤ k) :
    steps f b (k + 1) = steps f b k := dif_neg (Nat.not_lt.mpr h)

/-- Steps that lay rectangles over all of a buffer leave the same whatever the buffer held. -/
theorem steps_overlay_indep {N : ℕ} {s : Shape} {α : Type} (r : Fin N → Rect s) (w : ∀ k, (r k).shape.Idx → α)
    (hc : ∀ y, ∃ k, y ∈ (r k).set) (b b' : s.Idx → α) :
    steps (fun k X => (r k).overlay X (w k)) b N = steps (fun k X => (r k).overlay X (w k)) b' N := by
  have key : ∀ n, ∀ y, (∃ k : Fin N, k.val < n ∧ y ∈ (r k).set) →
      steps (fun k X => (r k).overlay X (w k)) b n y = steps (fun k X => (r k).overlay X (w k)) b' n y := by
    intro n
    induction n with
    | zero => rintro y ⟨k, hk, -⟩; exact absurd hk (Nat.not_lt_zero _)
    | succ n ih =>
      rintro y ⟨k, hk, hy⟩
      by_cases hn : n < N
      · rw [steps_succ (fun k X => (r k).overlay X (w k)) b ⟨n, hn⟩, steps_succ (fun k X => (r k).overlay X (w k)) b' ⟨n, hn⟩]
        by_cases hy' : y ∈ (r ⟨n, hn⟩).set
        · obtain ⟨x, rfl⟩ : ∃ x, (r ⟨n, hn⟩).emb x = y := (r ⟨n, hn⟩).exists_idx_of_mem hy'
          rw [Rect.overlay_emb, Rect.overlay_emb]
        · rw [Rect.overlay_of_not_mem _ _ _ hy', Rect.overlay_of_not_mem _ _ _ hy']
          refine ih y ⟨k, ?_, hy⟩
          rcases Nat.lt_succ_iff_lt_or_eq.mp hk with h | h
          · exact h
          · exact absurd (by rwa [show k = ⟨n, hn⟩ from Fin.ext h] at hy) hy'
      · rw [steps_past _ _ _ (Nat.not_lt.mp hn), steps_past _ _ _ (Nat.not_lt.mp hn)]
        exact ih y ⟨k, lt_of_lt_of_le k.isLt (Nat.not_lt.mp hn), hy⟩
  funext y
  obtain ⟨k, hk⟩ := hc y
  exact key N y ⟨k, k.isLt, hk⟩

/-- Steps that lay rectangles agreeing with `G` over all of a buffer leave `G`. -/
theorem steps_overlay_eq {N : ℕ} {s : Shape} {α : Type} (r : Fin N → Rect s) (w : ∀ k, (r k).shape.Idx → α)
    (hc : ∀ y, ∃ k, y ∈ (r k).set) (b G : s.Idx → α) (hG : ∀ k x, w k x = G ((r k).emb x)) :
    steps (fun k X => (r k).overlay X (w k)) b N = G := by
  rw [steps_overlay_indep r w hc b G]
  have key : ∀ n, steps (fun k X => (r k).overlay X (w k)) G n = G := by
    intro n
    induction n with
    | zero => rfl
    | succ n ih =>
      by_cases hn : n < N
      · rw [steps_succ (fun k X => (r k).overlay X (w k)) G ⟨n, hn⟩]
        show (r ⟨n, hn⟩).overlay (steps (fun k X => (r k).overlay X (w k)) G n) (w ⟨n, hn⟩) = G
        rw [ih]
        funext y
        by_cases hy' : y ∈ (r ⟨n, hn⟩).set
        · obtain ⟨x, rfl⟩ : ∃ x, (r ⟨n, hn⟩).emb x = y := (r ⟨n, hn⟩).exists_idx_of_mem hy'
          rw [Rect.overlay_emb, hG]
        · rw [Rect.overlay_of_not_mem _ _ _ hy']
      · rw [steps_past _ _ _ (Nat.not_lt.mp hn)]; exact ih
  exact key N

/-- A rectangle of whole rows holds the indices of those rows. -/
theorem mem_rows {d size off : Fin 2 → ℕ} {o : ℕ} (inb : ∀ a : Fin 2, off a + size a ≤ (⟨2, d⟩ : Shape).size a)
    (hoff : off = ![o, 0]) (hsz : size 1 = d 1) (y : (⟨2, d⟩ : Shape).Idx) (h : o ≤ (y 0).val)
    (h' : (y 0).val < o + size 0) : y ∈ (Rect.unit (s := ⟨2, d⟩) off size inb).set := by
  subst hoff
  refine Rect.mem_set_unit.mpr fun a => ?_
  match a with
  | ⟨0, _⟩ => exact ⟨h, h'⟩
  | ⟨1, _⟩ => exact ⟨Nat.zero_le _, by have := (y 1).isLt; show (y 1).val < 0 + size 1; rw [hsz, Nat.zero_add]; exact this⟩

/-- A rectangle of whole columns holds the indices of those columns. -/
theorem mem_cols {d size off : Fin 2 → ℕ} {o : ℕ} (inb : ∀ a : Fin 2, off a + size a ≤ (⟨2, d⟩ : Shape).size a)
    (hoff : off = ![0, o]) (hsz : size 0 = d 0) (y : (⟨2, d⟩ : Shape).Idx) (h : o ≤ (y 1).val)
    (h' : (y 1).val < o + size 1) : y ∈ (Rect.unit (s := ⟨2, d⟩) off size inb).set := by
  subst hoff
  refine Rect.mem_set_unit.mpr fun a => ?_
  match a with
  | ⟨0, _⟩ => exact ⟨Nat.zero_le _, by have := (y 0).isLt; show (y 0).val < 0 + size 0; rw [hsz, Nat.zero_add]; exact this⟩
  | ⟨1, _⟩ => exact ⟨h, h'⟩

variable {sig : RefSig} {κ : Kind} {sp : Space} {s : Shape} {e : EltTy} {Val : EltTy → Type}

/-- Reading a view after one store more: the stored rectangle laid over what was read before. -/
theorem read_writes_one (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [View.read_writes_cons_miss _ _ _ _ _ hy, Rect.overlay_of_not_mem _ _ _ hy, View.writes_nil]

/-- Reading a view after one store over all of it. -/
theorem read_writes_all (v : View sig κ sp s e) (f : v.ty.Contents Val) {off : Fin s.rank → ℕ} (h : off = fun _ => 0)
    (inb : ∀ a, off a + s.size a ≤ s.size a) (w : s.Idx → Val e) :
    v.read Val (v.writes Val f [⟨Rect.unit off s.size inb, w⟩]) = w := by
  subst h
  rw [read_writes_one]
  funext y
  exact (congrArg _ (Rect.emb_whole_apply s y).symm).trans (Rect.overlay_emb (Rect.whole s) _ w y)

/-- A whole buffer at contents `X`, one rectangle of it stored, is the whole buffer at `X` with the rectangle laid
over it. -/
theorem writes_unread {m : Memref sig κ sp s e} (h : m.IsWhole) (X : s.Idx → Val e) (r : Rect s)
    (w : r.shape.Idx → Val e) :
    m.view.writes Val (h.unread X) [⟨r, w⟩] = h.unread (r.overlay X w) := by
  apply h.eq_unread
  rw [read_writes_one]; exact congrArg (fun Y => r.overlay Y w) (h.read_unread X)

end Cert.Shared
-- ==== Proof.I.Loops.lean ====
module

public import proofs.«01_k».proof.Proof.Common
public import proofs.«01_k».proof.Proof.Gen.KernelIdeal.Skeleton

/-! The three loops of the distance kernel's body, each by an invariant that names what every buffer holds before trip
`k`: the first `k` steps applied to what it held at the loop's start. -/

@[expose] public section

set_option maxRecDepth 16384
set_option maxHeartbeats 2000000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Shared Gen

variable {F : FTy → Type} [FloatOps F] [Named F]

local notation "𝕄" => MT nD τ sig Unit (Elt F) ℕ (UR sig nD τ) ℕ

/-! ## A trip's rectangles -/

theorem inb1 (k : Fin k0_t1_loop.trips) : ∀ a, (k0_off1 k) a + S112x1536.size a ≤ S1568x1536.size a := by
  revert k; decide +kernel
theorem inb2 (k : Fin k0_t1_loop.trips) : ∀ a, (k0_off2 k) a + S112x1.size a ≤ S1568x1.size a := by
  revert k; decide +kernel

/-- Rows `112 k …` of the embedding. -/
abbrev r1 (k : Fin k0_t1_loop.trips) : Rect S1568x1536 := Rect.unit (s := S1568x1536) (k0_off1 k) S112x1536.size (inb1 k)
/-- Rows `112 k …` of a column of the initialisation. -/
abbrev r2 (k : Fin k0_t1_loop.trips) : Rect S1568x1 := Rect.unit (s := S1568x1) (k0_off2 k) S112x1.size (inb2 k)
/-- Rows `128 k …` of a block of the bank. -/
abbrev r3 (k : Fin k0_t2_loop.trips) : Rect S1024x1536 := Rect.unit (s := S1024x1536) (k0_off3 k) S128x1536.size (k0_off3_inb k)
/-- Columns `128 k …` of the row of squared norms. -/
abbrev r4 (k : Fin k0_t2_loop.trips) : Rect S1x1024 := Rect.unit (s := S1x1024) (k0_off4 k) S1x128.size (k0_off4_inb k)
/-- Rows `112 k …` of the products. -/
abbrev r5 (k : Fin k0_t3_loop.trips) : Rect S1568x1024 := Rect.unit (s := S1568x1024) (k0_off5 k) S112x1024.size (k0_off5_inb k)
/-- Rows `112 k …` of a column of running minima. -/
abbrev r6 (k : Fin k0_t3_loop.trips) : Rect S1568x1 := Rect.unit (s := S1568x1) (k0_off6 k) S112x1.size (k0_off6_inb k)

/-! ## A trip's step on what the buffers hold -/

/-- The embedding's rows, narrowed. -/
def ehStep (x : Vec F S1568x1536 .f32) (k : Fin k0_t1_loop.trips) (X : Vec F S1568x1536 .bf16) : Vec F S1568x1536 .bf16 :=
  (r1 k).overlay X (k0_pay1 (View.ld x (r1 k)))
/-- The embedding's squared norms. -/
def e2Step (x : Vec F S1568x1536 .f32) (k : Fin k0_t1_loop.trips) (X : Vec F S1568x1 .f32) : Vec F S1568x1 .f32 :=
  (r2 k).overlay X (k0_pay2 (View.ld x (r1 k)))
/-- The start of the running minimum. -/
def mincStep (k : Fin k0_t1_loop.trips) (X : Vec F S1568x1 .f32) : Vec F S1568x1 .f32 :=
  (r2 k).overlay X k0_pay3
/-- The start of the minimum's place. -/
def locStep (k : Fin k0_t1_loop.trips) (X : Vec F S1568x1 .i32) : Vec F S1568x1 .i32 :=
  (r2 k).overlay X (k0_pay4 : IVec S112x1 32)
/-- The bank's rows, narrowed. -/
def bhStep (b : Vec F S1024x1536 .f32) (k : Fin k0_t2_loop.trips) (X : Vec F S1024x1536 .bf16) : Vec F S1024x1536 .bf16 :=
  (r3 k).overlay X (k0_pay5 (View.ld b (r3 k)))
/-- The bank's squared norms. -/
def b2Step (b : Vec F S1024x1536 .f32) (k : Fin k0_t2_loop.trips) (X : Vec F S1x1024 .f32) : Vec F S1x1024 .f32 :=
  (r4 k).overlay X (k0_pay6 (View.ld b (r3 k)))
/-- The running minimum and its place, taken over one block's products `s` and squared norms `b2`. -/
def minStep (i : grid0.Coords) (b2 : Vec F S1x1024 .f32) (s : Vec F S1568x1024 .f32) (k : Fin k0_t3_loop.trips)
    (X : Vec F S1568x1 .f32 × Vec F S1568x1 .i32) : Vec F S1568x1 .f32 × Vec F S1568x1 .i32 :=
  ((r6 k).overlay X.1 (k0_pay12 b2 (View.ld s (r5 k)) (View.ld X.1 (r6 k)) (View.ld X.1 (r6 k))),
   (r6 k).overlay X.2 (k0_pay11 i b2 (View.ld s (r5 k)) (View.ld X.1 (r6 k)) (View.ld X.2 (r6 k))))

/-- Reading a whole buffer's rectangle. -/
theorem readAt_whole {κ : Kind} {sp : Space} {s : Shape} {e : EltTy} {m : Memref sig κ sp s e} (h : m.IsWhole)
    (X : s.Idx → Elt F e) (r : Rect s) : View.readAt (Elt F) m.view r.toLoadRect (h.unread X) = View.ld X r := by
  rw [View.readAt_eq_ld, h.read_unread]

/-- Reading all of the row of squared norms. -/
theorem ld_zero (X : Vec F S1x1024 .f32) (h) : View.ld X (Rect.unit (s := S1x1024) ![0, 0] S1x1024.size h) = X :=
  View.ld_unit_zero (by funext a; fin_cases a <;> rfl) _ _

/-! ## The loops -/

set_option warn.classDefReducibility false in
/-- The initialisation: the embedding narrowed, its squared norms, the running minimum and its place at their starts. -/
@[sl_loop] def loop1 (𝒱 : Variants) (c : Dev nD) (bd : Option 𝒱.V) (E : Set ℕ) (i : grid0.Coords)
    (arg1 : Memref sig .tc .vmem S1568x1536 .f32) (harg1 : arg1.IsWhole)
    (arg2 : Memref sig .tc .vmem S1024x1536 .f32) (harg2 : arg2.IsWhole)
    (arg3 : Memref sig .tc .vmem S1568x1 .f32) (harg3 : arg3.IsWhole)
    (arg4 : Memref sig .tc .vmem S1568x1 .i32) (harg4 : arg4.IsWhole)
    (arg5 : Memref sig .tc .vmem S1568x1 .f32) (harg5 : arg5.IsWhole)
    (arg6 : Memref sig .tc .vmem S1568x1536 .bf16) (harg6 : arg6.IsWhole)
    (arg7 : Memref sig .tc .vmem S1024x1536 .bf16) (harg7 : arg7.IsWhole)
    (arg8 : Memref sig .tc .vmem S1x1024 .f32) (harg8 : arg8.IsWhole)
    (arg9 : Memref sig .tc .vmem S1568x1024 .f32) (harg9 : arg9.IsWhole)
    (k0_h1 : k0_cond1 i = 1#1)
    (x : Vec F S1568x1536 .f32) (y3 : Vec F S1568x1 .f32) (y4 : Vec F S1568x1 .i32) (y5 : Vec F S1568x1 .f32)
    (y6 : Vec F S1568x1536 .bf16) :
    LoopInv (M := 𝕄) Idealize.ShloMosaic.frame (wpE (defs₀ (F := F)) 𝒱 (c : Thread nD τ) bd) E k0_t1_loop.lb k0_t1_loop.ub
      k0_t1_loop.st (k0_t1_ok i k0_h1) () (k0_t1_body (F := F) i arg1 harg1 arg2 harg2 arg3 harg3 arg4 harg4 arg5 harg5 arg6 harg6 arg7 harg7 arg8 harg8 arg9 harg9 k0_h1) where
  inv k _ := iprop((arg1.view.loc (c : Thread nD τ) ↦[arg1.view.set]{fullShare} harg1.unread x) ∗
      (∃ f, (arg3.view.loc (c : Thread nD τ) ↦[arg3.view.set]{fullShare} f) ∗ ⌜f = harg3.unread (steps (mincStep (F := F)) y3 k)⌝) ∗
      (∃ f, (arg4.view.loc (c : Thread nD τ) ↦[arg4.view.set]{fullShare} f) ∗ ⌜f = harg4.unread (steps (locStep (F := F)) y4 k)⌝) ∗
      (∃ f, (arg5.view.loc (c : Thread nD τ) ↦[arg5.view.set]{fullShare} f) ∗ ⌜f = harg5.unread (steps (e2Step x) y5 k)⌝) ∗
      (∃ f, (arg6.view.loc (c : Thread nD τ) ↦[arg6.view.set]{fullShare} f) ∗ ⌜f = harg6.unread (steps (ehStep x) y6 k)⌝))
  step k acc := by
    have hk : k.val < 14 := Nat.lt_of_lt_of_le k.isLt k0_t1_abs.2.1
    unfold k0_t1_body
    iintro ⟨HR_arg1, ⟨%f_arg3, HW_arg3, %h_arg3⟩, ⟨%f_arg4, HW_arg4, %h_arg4⟩, ⟨%f_arg5, HW_arg5, %h_arg5⟩, ⟨%f_arg6, HW_arg6, %h_arg6⟩⟩
    subst h_arg3; subst h_arg4; subst h_arg5; subst h_arg6
    sl_exec
    sl_step
    isplitl [HR_arg1]; · iexact HR_arg1
    isplitl [HW_arg3]
    · iexists _; isplitl [HW_arg3]; · iexact HW_arg3
      ipureintro; rw [steps_succ]; exact (writes_unread _ _ _ _).trans (by simp only [readAt_whole]; rfl)
    isplitl [HW_arg4]
    · iexists _; isplitl [HW_arg4]; · iexact HW_arg4
      ipureintro; rw [steps_succ]; exact (writes_unread _ _ _ _).trans (by simp only [readAt_whole]; rfl)
    isplitl [HW_arg5]
    · iexists _; isplitl [HW_arg5]; · iexact HW_arg5
      ipureintro; rw [steps_succ]; exact (writes_unread _ _ _ _).trans (by simp only [readAt_whole]; rfl)
    iexists _; isplitl [HW_arg6]; · iexact HW_arg6
    ipureintro; rw [steps_succ]; exact (writes_unread _ _ _ _).trans (by simp only [readAt_whole]; rfl)

set_option warn.classDefReducibility false in
/-- A block of the bank: narrowed, and its squared norms. -/
@[sl_loop] def loop2 (𝒱 : Variants) (c : Dev nD) (bd : Option 𝒱.V) (E : Set ℕ) (i : grid0.Coords)
    (arg1 : Memref sig .tc .vmem S1568x1536 .f32) (harg1 : arg1.IsWhole)
    (arg2 : Memref sig .tc .vmem S1024x1536 .f32) (harg2 : arg2.IsWhole)
    (arg3 : Memref sig .tc .vmem S1568x1 .f32) (harg3 : arg3.IsWhole)
    (arg4 : Memref sig .tc .vmem S1568x1 .i32) (harg4 : arg4.IsWhole)
    (arg5 : Memref sig .tc .vmem S1568x1 .f32) (harg5 : arg5.IsWhole)
    (arg6 : Memref sig .tc .vmem S1568x1536 .bf16) (harg6 : arg6.IsWhole)
    (arg7 : Memref sig .tc .vmem S1024x1536 .bf16) (harg7 : arg7.IsWhole)
    (arg8 : Memref sig .tc .vmem S1x1024 .f32) (harg8 : arg8.IsWhole)
    (arg9 : Memref sig .tc .vmem S1568x1024 .f32) (harg9 : arg9.IsWhole)
    (x : Vec F S1024x1536 .f32) (y7 : Vec F S1024x1536 .bf16) (y8 : Vec F S1x1024 .f32) :
    LoopInv (M := 𝕄) Idealize.ShloMosaic.frame (wpE (defs₀ (F := F)) 𝒱 (c : Thread nD τ) bd) E k0_t2_loop.lb k0_t2_loop.ub
      k0_t2_loop.st k0_t2_ok () (k0_t2_body (F := F) i arg1 harg1 arg2 harg2 arg3 harg3 arg4 harg4 arg5 harg5 arg6 harg6 arg7 harg7 arg8 harg8 arg9 harg9) where
  inv k _ := iprop((arg2.view.loc (c : Thread nD τ) ↦[arg2.view.set]{fullShare} harg2.unread x) ∗
      (∃ f, (arg7.view.loc (c : Thread nD τ) ↦[arg7.view.set]{fullShare} f) ∗ ⌜f = harg7.unread (steps (bhStep x) y7 k)⌝) ∗
      (∃ f, (arg8.view.loc (c : Thread nD τ) ↦[arg8.view.set]{fullShare} f) ∗ ⌜f = harg8.unread (steps (b2Step x) y8 k)⌝))
  step k acc := by
    have hk : k.val < 8 := Nat.lt_of_lt_of_le k.isLt k0_t2_abs.2.1
    unfold k0_t2_body
    iintro ⟨HR_arg2, ⟨%f_arg7, HW_arg7, %h_arg7⟩, ⟨%f_arg8, HW_arg8, %h_arg8⟩⟩
    subst h_arg7; subst h_arg8
    sl_exec
    sl_step
    isplitl [HR_arg2]; · iexact HR_arg2
    isplitl [HW_arg7]
    · iexists _; isplitl [HW_arg7]; · iexact HW_arg7
      ipureintro; rw [steps_succ]; exact (writes_unread _ _ _ _).trans (by simp only [readAt_whole]; rfl)
    iexists _; isplitl [HW_arg8]; · iexact HW_arg8
    ipureintro; rw [steps_succ]; exact (writes_unread _ _ _ _).trans (by simp only [readAt_whole]; rfl)

set_option warn.classDefReducibility false in
/-- The running minimum over one block of the bank. -/
@[sl_loop] def loop3 (𝒱 : Variants) (c : Dev nD) (bd : Option 𝒱.V) (E : Set ℕ) (i : grid0.Coords)
    (arg1 : Memref sig .tc .vmem S1568x1536 .f32) (harg1 : arg1.IsWhole)
    (arg2 : Memref sig .tc .vmem S1024x1536 .f32) (harg2 : arg2.IsWhole)
    (arg3 : Memref sig .tc .vmem S1568x1 .f32) (harg3 : arg3.IsWhole)
    (arg4 : Memref sig .tc .vmem S1568x1 .i32) (harg4 : arg4.IsWhole)
    (arg5 : Memref sig .tc .vmem S1568x1 .f32) (harg5 : arg5.IsWhole)
    (arg6 : Memref sig .tc .vmem S1568x1536 .bf16) (harg6 : arg6.IsWhole)
    (arg7 : Memref sig .tc .vmem S1024x1536 .bf16) (harg7 : arg7.IsWhole)
    (arg8 : Memref sig .tc .vmem S1x1024 .f32) (harg8 : arg8.IsWhole)
    (arg9 : Memref sig .tc .vmem S1568x1024 .f32) (harg9 : arg9.IsWhole)
    (b2 : Vec F S1x1024 .f32) (g : BufTy.Contents (Elt F) arg9.view.ty) (y3 : Vec F S1568x1 .f32)
    (y4 : Vec F S1568x1 .i32) :
    LoopInv (M := 𝕄) Idealize.ShloMosaic.frame (wpE (defs₀ (F := F)) 𝒱 (c : Thread nD τ) bd) E k0_t3_loop.lb k0_t3_loop.ub
      k0_t3_loop.st k0_t3_ok () (k0_t3_body (F := F) i arg1 harg1 arg2 harg2 arg3 harg3 arg4 harg4 arg5 harg5 arg6 harg6 arg7 harg7 arg8 harg8 arg9 harg9) where
  inv k _ := iprop((arg8.view.loc (c : Thread nD τ) ↦[arg8.view.set]{fullShare} harg8.unread b2) ∗ (arg9.view.loc (c : Thread nD τ) ↦[arg9.view.set]{fullShare} g) ∗
      (∃ f, (arg3.view.loc (c : Thread nD τ) ↦[arg3.view.set]{fullShare} f) ∗ ⌜f = harg3.unread ((steps (minStep i b2 (arg9.view.read (Elt F) g)) (y3, y4) k).1)⌝) ∗
      (∃ f, (arg4.view.loc (c : Thread nD τ) ↦[arg4.view.set]{fullShare} f) ∗ ⌜f = harg4.unread ((steps (minStep i b2 (arg9.view.read (Elt F) g)) (y3, y4) k).2)⌝))
  step k acc := by
    have hk : k.val < 14 := Nat.lt_of_lt_of_le k.isLt k0_t3_abs.2.1
    unfold k0_t3_body
    iintro ⟨HR_arg8, HR_arg9, ⟨%f_arg3, HW_arg3, %h_arg3⟩, ⟨%f_arg4, HW_arg4, %h_arg4⟩⟩
    subst h_arg3; subst h_arg4
    sl_exec
    sl_step
    isplitl [HR_arg8]; · iexact HR_arg8
    isplitl [HR_arg9]; · iexact HR_arg9
    isplitl [HW_arg3]
    · iexists _; isplitl [HW_arg3]; · iexact HW_arg3
      ipureintro; rw [steps_succ]; exact (writes_unread _ _ _ _).trans (by simp only [readAt_whole]; rw [ld_zero b2]; unfold minStep; simp only [View.readAt_eq_ld])
    iexists _; isplitl [HW_arg4]; · iexact HW_arg4
    ipureintro; rw [steps_succ]; exact (writes_unread _ _ _ _).trans (by simp only [readAt_whole]; rw [ld_zero b2]; unfold minStep; simp only [View.readAt_eq_ld])

end Cert.KernelIdeal
-- ==== Proof.I.Body.lean ====
module

public import proofs.«01_k».proof.Proof.I.Loops

/-! The distance kernel's body at one grid point: what it leaves in its outputs and in the scratch it keeps between
points, from what it found there. -/

@[expose] public section

set_option maxRecDepth 16384
set_option maxHeartbeats 2000000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Shared Gen

variable {F : FTy → Type} [FloatOps F] [Named F]

local notation "𝕄" => MT nD τ sig Unit (Elt F) ℕ (UR sig nD τ) ℕ

/-! ## What the loops leave -/

theorem trips1 : k0_t1_loop.trips = 14 := by decide
theorem trips2 : k0_t2_loop.trips = 8 := by decide
theorem trips3 : k0_t3_loop.trips = 14 := by decide

/-! The rectangles of each loop's trips cover the buffer. -/

theorem inr1 (k : Fin k0_t1_loop.trips) (y : S1568x1536.Idx) (h : 112 * k.val ≤ (y 0).val)
    (h' : (y 0).val < 112 * k.val + 112) : y ∈ (r1 k).set :=
  mem_rows (inb1 k) (k0_off1_eq k) rfl y h h'
theorem lt1 (y : S1568x1536.Idx) : (y 0).val < 1568 := (y 0).isLt
theorem cover1 (y : S1568x1536.Idx) : ∃ k, y ∈ (r1 k).set :=
  ⟨⟨(y 0).val / 112, lt_of_lt_of_eq (by have := lt1 y; omega) trips1.symm⟩,
    inr1 _ y (Nat.mul_div_le _ _) (Nat.lt_mul_div_succ (y 0).val (by omega : 0 < 112))⟩
theorem inr2 (k : Fin k0_t1_loop.trips) (y : S1568x1.Idx) (h : 112 * k.val ≤ (y 0).val)
    (h' : (y 0).val < 112 * k.val + 112) : y ∈ (r2 k).set :=
  mem_rows (inb2 k) (k0_off2_eq k) rfl y h h'
theorem lt2 (y : S1568x1.Idx) : (y 0).val < 1568 := (y 0).isLt
theorem cover2 (y : S1568x1.Idx) : ∃ k, y ∈ (r2 k).set :=
  ⟨⟨(y 0).val / 112, lt_of_lt_of_eq (by have := lt2 y; omega) trips1.symm⟩,
    inr2 _ y (Nat.mul_div_le _ _) (Nat.lt_mul_div_succ (y 0).val (by omega : 0 < 112))⟩
theorem inr3 (k : Fin k0_t2_loop.trips) (y : S1024x1536.Idx) (h : 128 * k.val ≤ (y 0).val)
    (h' : (y 0).val < 128 * k.val + 128) : y ∈ (r3 k).set :=
  mem_rows (k0_off3_inb k) (k0_off3_eq k) rfl y h h'
theorem lt3 (y : S1024x1536.Idx) : (y 0).val < 1024 := (y 0).isLt
theorem cover3 (y : S1024x1536.Idx) : ∃ k, y ∈ (r3 k).set :=
  ⟨⟨(y 0).val / 128, lt_of_lt_of_eq (by have := lt3 y; omega) trips2.symm⟩,
    inr3 _ y (Nat.mul_div_le _ _) (Nat.lt_mul_div_succ (y 0).val (by omega : 0 < 128))⟩
theorem inr4 (k : Fin k0_t2_loop.trips) (y : S1x1024.Idx) (h : 128 * k.val ≤ (y 1).val)
    (h' : (y 1).val < 128 * k.val + 128) : y ∈ (r4 k).set :=
  mem_cols (k0_off4_inb k) (k0_off4_eq k) rfl y h h'
theorem lt4 (y : S1x1024.Idx) : (y 1).val < 1024 := (y 1).isLt
theorem cover4 (y : S1x1024.Idx) : ∃ k, y ∈ (r4 k).set :=
  ⟨⟨(y 1).val / 128, lt_of_lt_of_eq (by have := lt4 y; omega) trips2.symm⟩,
    inr4 _ y (Nat.mul_div_le _ _) (Nat.lt_mul_div_succ (y 1).val (by omega : 0 < 128))⟩

/-- The embedding narrowed. -/
def ehOf (x : Vec F S1568x1536 .f32) : Vec F S1568x1536 .bf16 :=
  steps (ehStep x) (View.canon (Val := Elt F) []) k0_t1_loop.trips
/-- The embedding's squared norms. -/
def e2Of (x : Vec F S1568x1536 .f32) : Vec F S1568x1 .f32 :=
  steps (e2Step x) (View.canon (Val := Elt F) []) k0_t1_loop.trips
/-- The running minimum's start, and its place's. -/
def startOf : Vec F S1568x1 .f32 × Vec F S1568x1 .i32 :=
  (steps (mincStep (F := F)) (View.canon (Val := Elt F) []) k0_t1_loop.trips,
   steps (locStep (F := F)) (View.canon (Val := Elt F) []) k0_t1_loop.trips)
/-- A block of the bank narrowed. -/
def bhOf (b : Vec F S1024x1536 .f32) : Vec F S1024x1536 .bf16 :=
  steps (bhStep b) (View.canon (Val := Elt F) []) k0_t2_loop.trips
/-- A block's squared norms. -/
def b2Of (b : Vec F S1024x1536 .f32) : Vec F S1x1024 .f32 :=
  steps (b2Step b) (View.canon (Val := Elt F) []) k0_t2_loop.trips
/-- The running minimum and its place after the block `b` met at grid point `i`, the narrowed embedding being `eh`. -/
def meet (i : grid0.Coords) (eh : Vec F S1568x1536 .bf16) (b : Vec F S1024x1536 .f32)
    (X : Vec F S1568x1 .f32 × Vec F S1568x1 .i32) : Vec F S1568x1 .f32 × Vec F S1568x1 .i32 :=
  steps (minStep i (b2Of b) (k0_pay7 eh (bhOf b))) X k0_t3_loop.trips

theorem eh_any (x : Vec F S1568x1536 .f32) (y) : steps (ehStep x) y k0_t1_loop.trips = ehOf x :=
  steps_overlay_indep r1 (fun k => k0_pay1 (View.ld x (r1 k))) cover1 _ _
theorem e2_any (x : Vec F S1568x1536 .f32) (y) : steps (e2Step x) y k0_t1_loop.trips = e2Of x :=
  steps_overlay_indep r2 (fun k => k0_pay2 (View.ld x (r1 k))) cover2 _ _
theorem minc_any (y) : steps (mincStep (F := F)) y k0_t1_loop.trips = startOf.1 :=
  steps_overlay_indep r2 (fun _ => k0_pay3 (F := F)) cover2 _ _
theorem loc_any (y) : steps (locStep (F := F)) y k0_t1_loop.trips = startOf.2 :=
  steps_overlay_indep r2 (fun _ => (k0_pay4 : IVec S112x1 32)) cover2 _ _
theorem bh_any (b : Vec F S1024x1536 .f32) (y) : steps (bhStep b) y k0_t2_loop.trips = bhOf b :=
  steps_overlay_indep r3 (fun k => k0_pay5 (View.ld b (r3 k))) cover3 _ _
theorem b2_any (b : Vec F S1024x1536 .f32) (y) : steps (b2Step b) y k0_t2_loop.trips = b2Of b :=
  steps_overlay_indep r4 (fun k => k0_pay6 (View.ld b (r3 k))) cover4 _ _

/-! ## The body in its two parts -/

/-- The part every point runs: the block's products, and the running minimum over them. -/
def bodyTail (i : grid0.Coords)
    (arg1 : Memref sig .tc .vmem S1568x1536 .f32) (harg1 : arg1.IsWhole)
    (arg2 : Memref sig .tc .vmem S1024x1536 .f32) (harg2 : arg2.IsWhole)
    (arg3 : Memref sig .tc .vmem S1568x1 .f32) (harg3 : arg3.IsWhole)
    (arg4 : Memref sig .tc .vmem S1568x1 .i32) (harg4 : arg4.IsWhole)
    (arg5 : Memref sig .tc .vmem S1568x1 .f32) (harg5 : arg5.IsWhole)
    (arg6 : Memref sig .tc .vmem S1568x1536 .bf16) (harg6 : arg6.IsWhole)
    (arg7 : Memref sig .tc .vmem S1024x1536 .bf16) (harg7 : arg7.IsWhole)
    (arg8 : Memref sig .tc .vmem S1x1024 .f32) (harg8 : arg8.IsWhole)
    (arg9 : Memref sig .tc .vmem S1568x1024 .f32) (harg9 : arg9.IsWhole) :
    Prog (TpuEff nD τ sig (Elt F) Λ₀ .tc) PUnit := do
  Scf.Loop.for k0_t2_loop k0_t2_ok ⟨⟩ (k0_t2_body i arg1 harg1 arg2 harg2 arg3 harg3 arg4 harg4 arg5 harg5 arg6 harg6 arg7 harg7 arg8 harg8 arg9 harg9)
  let v4 : Vec F S1568x1536 .bf16 ← Prog.lift (.load arg6 (Rect.unit (s := S1568x1536) ![0, 0] S1568x1536.size inb_S1568x1536_S1568x1536_0_0).toLoadRect (View.loadsAt_vmem h_S1568x1536))
  let v5 : Vec F S1024x1536 .bf16 ← Prog.lift (.load arg7 (Rect.unit (s := S1024x1536) ![0, 0] S1024x1536.size inb_S1024x1536_S1024x1536_0_0).toLoadRect (View.loadsAt_vmem h_S1024x1536))
  let v7 : Vec F S1568x1024 .f32 ← Prog.lift (.load arg9 (Rect.unit (s := S1568x1024) ![0, 0] S1568x1024.size inb_S1568x1024_S1568x1024_0_0).toLoadRect (View.loadsAt_vmem h_S1568x1024))
  Prog.lift (.store arg9 (Rect.unit (s := S1568x1024) ![0, 0] S1568x1024.size inb_S1568x1024_S1568x1024_0_0) (k0_pay7 v4 v5) Finset.univ (View.stores_vmem_bits_univ h_S1568x1024 rfl) (.inl rfl))
  Scf.Loop.for k0_t3_loop k0_t3_ok ⟨⟩ (k0_t3_body i arg1 harg1 arg2 harg2 arg3 harg3 arg4 harg4 arg5 harg5 arg6 harg6 arg7 harg7 arg8 harg8 arg9 harg9)
  pure ⟨⟩

/-- The part the first point alone runs. -/
def bodyHead (i : grid0.Coords)
    (arg1 : Memref sig .tc .vmem S1568x1536 .f32) (harg1 : arg1.IsWhole)
    (arg2 : Memref sig .tc .vmem S1024x1536 .f32) (harg2 : arg2.IsWhole)
    (arg3 : Memref sig .tc .vmem S1568x1 .f32) (harg3 : arg3.IsWhole)
    (arg4 : Memref sig .tc .vmem S1568x1 .i32) (harg4 : arg4.IsWhole)
    (arg5 : Memref sig .tc .vmem S1568x1 .f32) (harg5 : arg5.IsWhole)
    (arg6 : Memref sig .tc .vmem S1568x1536 .bf16) (harg6 : arg6.IsWhole)
    (arg7 : Memref sig .tc .vmem S1024x1536 .bf16) (harg7 : arg7.IsWhole)
    (arg8 : Memref sig .tc .vmem S1x1024 .f32) (harg8 : arg8.IsWhole)
    (arg9 : Memref sig .tc .vmem S1568x1024 .f32) (harg9 : arg9.IsWhole) :
    Prog (TpuEff nD τ sig (Elt F) Λ₀ .tc) PUnit :=
  if k0_h1 : k0_cond1 i = 1#1 then do
    Scf.Loop.for k0_t1_loop (k0_t1_ok i k0_h1) ⟨⟩ (k0_t1_body i arg1 harg1 arg2 harg2 arg3 harg3 arg4 harg4 arg5 harg5 arg6 harg6 arg7 harg7 arg8 harg8 arg9 harg9 k0_h1)
    pure ⟨⟩
  else do
    pure ⟨⟩

theorem body_parts (i : grid0.Coords)
    (arg1 : Memref sig .tc .vmem S1568x1536 .f32) (harg1 : arg1.IsWhole)
    (arg2 : Memref sig .tc .vmem S1024x1536 .f32) (harg2 : arg2.IsWhole)
    (arg3 : Memref sig .tc .vmem S1568x1 .f32) (harg3 : arg3.IsWhole)
    (arg4 : Memref sig .tc .vmem S1568x1 .i32) (harg4 : arg4.IsWhole)
    (arg5 : Memref sig .tc .vmem S1568x1 .f32) (harg5 : arg5.IsWhole)
    (arg6 : Memref sig .tc .vmem S1568x1536 .bf16) (harg6 : arg6.IsWhole)
    (arg7 : Memref sig .tc .vmem S1024x1536 .bf16) (harg7 : arg7.IsWhole)
    (arg8 : Memref sig .tc .vmem S1x1024 .f32) (harg8 : arg8.IsWhole)
    (arg9 : Memref sig .tc .vmem S1568x1024 .f32) (harg9 : arg9.IsWhole) :
    cc0__k1_body (F := F) i arg1 harg1 arg2 harg2 arg3 harg3 arg4 harg4 arg5 harg5 arg6 harg6 arg7 harg7 arg8 harg8 arg9 harg9 = bodyHead i arg1 harg1 arg2 harg2 arg3 harg3 arg4 harg4 arg5 harg5 arg6 harg6 arg7 harg7 arg8 harg8 arg9 harg9 >>= fun _ => bodyTail i arg1 harg1 arg2 harg2 arg3 harg3 arg4 harg4 arg5 harg5 arg6 harg6 arg7 harg7 arg8 harg8 arg9 harg9 := by
  rw [cc0__k1_body_eq_skeleton]
  unfold cc0__k1_body_skel bodyHead
  by_cases h : k0_cond1 i = 1#1
  · simp only [dif_pos h, bind_assoc, pure_bind]; rfl
  · simp only [dif_neg h, pure_bind]; rfl

/-- The running minimum's iteration, as the run spells the products it reads. -/
theorem tail_eq (i : grid0.Coords) (arg6 : Memref sig .tc .vmem S1568x1536 .bf16) (harg6 : arg6.IsWhole)
    (arg7 : Memref sig .tc .vmem S1024x1536 .bf16) (harg7 : arg7.IsWhole) (arg9 : Memref sig .tc .vmem S1568x1024 .f32)
    (x1 : Vec F S1024x1536 .f32) (d7 : Vec F S1024x1536 .bf16) (d8 : Vec F S1x1024 .f32) (eh : Vec F S1568x1536 .bf16)
    (y : Vec F S1568x1 .f32 × Vec F S1568x1 .i32) (L : List (View.Piece (Elt F) S1568x1024 .f32))
    (hL : L = [⟨Rect.unit (s := S1568x1024) ![0, 0] S1568x1024.size inb_S1568x1024_S1568x1024_0_0,
      k0_pay7 (View.readAt (Elt F) arg6.view (Rect.unit (s := S1568x1536) ![0, 0] S1568x1536.size inb_S1568x1536_S1568x1536_0_0).toLoadRect (harg6.unread eh))
        (View.readAt (Elt F) arg7.view (Rect.unit (s := S1024x1536) ![0, 0] S1024x1536.size inb_S1024x1536_S1024x1536_0_0).toLoadRect
          (harg7.unread (steps (bhStep x1) d7 k0_t2_loop.trips)))⟩]) :
    steps (minStep i (steps (b2Step x1) d8 k0_t2_loop.trips)
      (View.read (Elt F) arg9.view (arg9.view.writes (Elt F) arg9.view.junk L))) (y.1, y.2) k0_t3_loop.trips = meet i eh x1 y := by
  have hz : (![0, 0] : Fin 2 → ℕ) = fun _ => 0 := by funext a; fin_cases a <;> rfl
  unfold meet
  rw [hL, b2_any, read_writes_all _ _ hz, readAt_whole, readAt_whole, View.ld_unit_zero (S := S1568x1536) hz,
    View.ld_unit_zero (S := S1024x1536) hz, bh_any]

/-- The part every point runs leaves the running minimum (and its place) met with the point's block. -/
theorem run_tail (c : Dev nD) (i : grid0.Coords)
    (arg1 : Memref sig .tc .vmem S1568x1536 .f32) (harg1 : arg1.IsWhole)
    (arg2 : Memref sig .tc .vmem S1024x1536 .f32) (harg2 : arg2.IsWhole)
    (arg3 : Memref sig .tc .vmem S1568x1 .f32) (harg3 : arg3.IsWhole)
    (arg4 : Memref sig .tc .vmem S1568x1 .i32) (harg4 : arg4.IsWhole)
    (arg5 : Memref sig .tc .vmem S1568x1 .f32) (harg5 : arg5.IsWhole)
    (arg6 : Memref sig .tc .vmem S1568x1536 .bf16) (harg6 : arg6.IsWhole)
    (arg7 : Memref sig .tc .vmem S1024x1536 .bf16) (harg7 : arg7.IsWhole)
    (arg8 : Memref sig .tc .vmem S1x1024 .f32) (harg8 : arg8.IsWhole)
    (arg9 : Memref sig .tc .vmem S1568x1024 .f32) (harg9 : arg9.IsWhole)
    (x1 : Vec F S1024x1536 .f32) (y : Vec F S1568x1 .f32 × Vec F S1568x1 .i32) (eh : Vec F S1568x1536 .bf16) (E : Set ℕ) (K : PUnit → sProp 𝕄) :
    iprop(owns (c : Thread nD τ) arg2 fullShare x1 ∗ owns (c : Thread nD τ) arg3 fullShare y.1 ∗ owns (c : Thread nD τ) arg4 fullShare y.2 ∗ owns (c : Thread nD τ) arg6 fullShare eh ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x1 ∗ owns (c : Thread nD τ) arg3 fullShare (meet i eh x1 y).1 ∗ owns (c : Thread nD τ) arg4 fullShare (meet i eh x1 y).2 ∗ owns (c : Thread nD τ) arg6 fullShare eh ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (bodyTail i arg1 harg1 arg2 harg2 arg3 harg3 arg4 harg4 arg5 harg5 arg6 harg6 arg7 harg7 arg8 harg8 arg9 harg9) K := by
  unfold bodyTail
  unfold owns
  iintro ⟨⟨%f2, %hf2, H2⟩, ⟨%f3, %hf3, H3⟩, ⟨%f4, %hf4, H4⟩, ⟨%f6, %hf6, H6⟩, ⟨%d7, %f7, %hf7, H7⟩, ⟨%d8, %f8, %hf8, H8⟩, ⟨%d9, %f9, %hf9, H9⟩, Hk⟩
  obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg9.eq_unread hf9
  sl_exec
  sl_step
  iapply Hk
  isplitl [H2]
  · iexists _; isplitr; swap; · iexact H2
    ipureintro; exact harg2.read_unread _
  isplitl [H3]
  · iexists _; isplitr; swap; · iexact H3
    ipureintro; refine (harg3.read_unread _).trans ?_; exact congrArg Prod.fst (tail_eq i arg6 harg6 arg7 harg7 arg9 x1 d7 d8 eh y _ (by sl_unfold_words; rfl))
  isplitl [H4]
  · iexists _; isplitr; swap; · iexact H4
    ipureintro; refine (harg4.read_unread _).trans ?_; exact congrArg Prod.snd (tail_eq i arg6 harg6 arg7 harg7 arg9 x1 d7 d8 eh y _ (by sl_unfold_words; rfl))
  isplitl [H6]
  · iexists _; isplitr; swap; · iexact H6
    ipureintro; exact harg6.read_unread _
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

/-- The first point's own part leaves the running minimum at its start, the squared norms and the narrowed embedding. -/
theorem run_head_first (c : Dev nD) (i : grid0.Coords)
    (arg1 : Memref sig .tc .vmem S1568x1536 .f32) (harg1 : arg1.IsWhole)
    (arg2 : Memref sig .tc .vmem S1024x1536 .f32) (harg2 : arg2.IsWhole)
    (arg3 : Memref sig .tc .vmem S1568x1 .f32) (harg3 : arg3.IsWhole)
    (arg4 : Memref sig .tc .vmem S1568x1 .i32) (harg4 : arg4.IsWhole)
    (arg5 : Memref sig .tc .vmem S1568x1 .f32) (harg5 : arg5.IsWhole)
    (arg6 : Memref sig .tc .vmem S1568x1536 .bf16) (harg6 : arg6.IsWhole)
    (arg7 : Memref sig .tc .vmem S1024x1536 .bf16) (harg7 : arg7.IsWhole)
    (arg8 : Memref sig .tc .vmem S1x1024 .f32) (harg8 : arg8.IsWhole)
    (arg9 : Memref sig .tc .vmem S1568x1024 .f32) (harg9 : arg9.IsWhole)
    (hc0 : k0_cond1 i = 1#1) (x0 : Vec F S1568x1536 .f32) (E : Set ℕ) (K : PUnit → sProp 𝕄) :
    iprop(owns (c : Thread nD τ) arg1 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg3 fullShare startOf.1 ∗ owns (c : Thread nD τ) arg4 fullShare (startOf (F := F)).2 ∗ owns (c : Thread nD τ) arg5 fullShare (e2Of x0) ∗ owns (c : Thread nD τ) arg6 fullShare (ehOf x0)) -∗ K ⟨⟩))
      ⊢ wp frame (wpE (defs₀ (F := F)) Variants.none c none) E (bodyHead i arg1 harg1 arg2 harg2 arg3 harg3 arg4 harg4 arg5 harg5 arg6 harg6 arg7 harg7 arg8 harg8 arg9 harg9) K := by
  unfold bodyHead
  unfold owns
  iintro ⟨⟨%f1, %hf1, H1⟩, ⟨%d3, %f3, %hf3, H3⟩, ⟨%d4, %f4, %hf4, H4⟩, ⟨%d5, %f5, %hf5, H5⟩, ⟨%d6, %f6, %hf6, H6⟩, Hk⟩
  obtain rfl := harg1.eq_unread hf1; obtain rfl := harg3.eq_unread hf3; obtain rfl := harg4.eq_unread hf4; obtain rfl := harg5.eq_unread hf5; obtain rfl := harg6.eq_unread hf6
  sl_exec (disch := first | sl_exact hc0)
  sl_step
  iapply Hk
  isplitl [H1]
  · iexists _; isplitr; swap; · iexact H1
    ipureintro; exact harg1.read_unread _
  isplitl [H3]
  · iexists _; isplitr; swap; · iexact H3
    ipureintro; exact (harg3.read_unread _).trans (minc_any _)
  isplitl [H4]
  · iexists _; isplitr; swap; · iexact H4
    ipureintro; exact (harg4.read_unread _).trans (loc_any _)
  isplitl [H5]
  · iexists _; isplitr; swap; · iexact H5
    ipureintro; exact (harg5.read_unread _).trans (e2_any _ _)
  iexists _; isplitr; swap; · iexact H6
  ipureintro; exact (harg6.read_unread _).trans (eh_any _ _)

end Cert.KernelIdeal
-- ==== Proof.I.Region0.lean ====
module

public import proofs.«01_k».proof.Proof.I.Body
public import proofs.«01_k».proof.Proof.Gen.KernelIdeal.Launch
public import proofs.«01_k».proof.Proof.Gen.KernelIdeal.Points

/-! The distance kernel's sixteen grid points: the running minimum over the bank's blocks. -/

@[expose] public section

set_option maxRecDepth 16384
set_option maxHeartbeats 2000000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Shared Gen

variable {F : FTy → Type} [FloatOps F] [Named F]

local notation "𝕄" => MT nD τ sig Unit (Elt F) ℕ (UR sig nD τ) ℕ

/-! ## The body at the first point, and at a later one -/

theorem cond_iff (t : Fin cfg0.N) : k0_cond1 (grid0.coords t) = 1#1 ↔ t.val = 0 := by
  have e0 : (grid0.coords t 0).val = t.val / 1 % 16 := Pipeline.Grid.coords_val t 0 (by decide) rfl
  have hN : t.val < 16 := lt_of_lt_of_eq t.isLt N_0
  simp only [k0_cond1, e0]
  have : t.val % 16 = 0 ↔ t.val = 0 := by omega
  rw [← this]
  word_cmp

/-- At the first point the body starts the running minimum and meets it with the first block. -/
theorem run_first (c : Dev nD) (i : grid0.Coords)
    (arg1 : Memref sig .tc .vmem S1568x1536 .f32) (harg1 : arg1.IsWhole)
    (arg2 : Memref sig .tc .vmem S1024x1536 .f32) (harg2 : arg2.IsWhole)
    (arg3 : Memref sig .tc .vmem S1568x1 .f32) (harg3 : arg3.IsWhole)
    (arg4 : Memref sig .tc .vmem S1568x1 .i32) (harg4 : arg4.IsWhole)
    (arg5 : Memref sig .tc .vmem S1568x1 .f32) (harg5 : arg5.IsWhole)
    (arg6 : Memref sig .tc .vmem S1568x1536 .bf16) (harg6 : arg6.IsWhole)
    (arg7 : Memref sig .tc .vmem S1024x1536 .bf16) (harg7 : arg7.IsWhole)
    (arg8 : Memref sig .tc .vmem S1x1024 .f32) (harg8 : arg8.IsWhole)
    (arg9 : Memref sig .tc .vmem S1568x1024 .f32) (harg9 : arg9.IsWhole)
    (hc0 : k0_cond1 i = 1#1) (x0 : Vec F S1568x1536 .f32) (x1 : Vec F S1024x1536 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare (meet i (ehOf x0) x1 startOf).1 ∗ owns (c : Thread nD τ) arg4 fullShare (meet i (ehOf x0) x1 startOf).2 ∗ owns (c : Thread nD τ) arg5 fullShare (e2Of x0) ∗ owns (c : Thread nD τ) arg6 fullShare (ehOf x0) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0__k1_body i arg1 harg1 arg2 harg2 arg3 harg3 arg4 harg4 arg5 harg5 arg6 harg6 arg7 harg7 arg8 harg8 arg9 harg9) K := by
  rw [body_parts, wp_bind]
  iintro ⟨H1, H2, H3, H4, H5, H6, H7, H8, H9, Hk⟩
  iapply (run_head_first c i arg1 harg1 arg2 harg2 arg3 harg3 arg4 harg4 arg5 harg5 arg6 harg6 arg7 harg7 arg8 harg8 arg9 harg9 hc0 x0 E _)
  isplitl [H1]; · iexact H1
  isplitl [H3]; · iexact H3
  isplitl [H4]; · iexact H4
  isplitl [H5]; · iexact H5
  isplitl [H6]; · iexact H6
  iintro ⟨H1, H3, H4, H5, H6⟩
  iapply (run_tail c i arg1 harg1 arg2 harg2 arg3 harg3 arg4 harg4 arg5 harg5 arg6 harg6 arg7 harg7 arg8 harg8 arg9 harg9 x1 startOf (ehOf x0) E _)
  isplitl [H2]; · iexact H2
  isplitl [H3]; · iexact H3
  isplitl [H4]; · iexact H4
  isplitl [H6]; · iexact H6
  isplitl [H7]; · iexact H7
  isplitl [H8]; · iexact H8
  isplitl [H9]; · iexact H9
  iintro ⟨H2, H3, H4, H6, H7, H8, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- At a later point the body meets the running minimum with that point's block and leaves the rest alone. -/
theorem run_later (c : Dev nD) (i : grid0.Coords)
    (arg1 : Memref sig .tc .vmem S1568x1536 .f32) (harg1 : arg1.IsWhole)
    (arg2 : Memref sig .tc .vmem S1024x1536 .f32) (harg2 : arg2.IsWhole)
    (arg3 : Memref sig .tc .vmem S1568x1 .f32) (harg3 : arg3.IsWhole)
    (arg4 : Memref sig .tc .vmem S1568x1 .i32) (harg4 : arg4.IsWhole)
    (arg5 : Memref sig .tc .vmem S1568x1 .f32) (harg5 : arg5.IsWhole)
    (arg6 : Memref sig .tc .vmem S1568x1536 .bf16) (harg6 : arg6.IsWhole)
    (arg7 : Memref sig .tc .vmem S1024x1536 .bf16) (harg7 : arg7.IsWhole)
    (arg8 : Memref sig .tc .vmem S1x1024 .f32) (harg8 : arg8.IsWhole)
    (arg9 : Memref sig .tc .vmem S1568x1024 .f32) (harg9 : arg9.IsWhole)
    (hc0 : ¬k0_cond1 i = 1#1) (x1 : Vec F S1024x1536 .f32) (y : Vec F S1568x1 .f32 × Vec F S1568x1 .i32) (eh : Vec F S1568x1536 .bf16) (E : Set ℕ) (K : PUnit → sProp 𝕄) :
    iprop(owns (c : Thread nD τ) arg2 fullShare x1 ∗ owns (c : Thread nD τ) arg3 fullShare y.1 ∗ owns (c : Thread nD τ) arg4 fullShare y.2 ∗ owns (c : Thread nD τ) arg6 fullShare eh ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x1 ∗ owns (c : Thread nD τ) arg3 fullShare (meet i eh x1 y).1 ∗ owns (c : Thread nD τ) arg4 fullShare (meet i eh x1 y).2 ∗ owns (c : Thread nD τ) arg6 fullShare eh ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0__k1_body i arg1 harg1 arg2 harg2 arg3 harg3 arg4 harg4 arg5 harg5 arg6 harg6 arg7 harg7 arg8 harg8 arg9 harg9) K := by
  rw [body_parts, show bodyHead (F := F) i arg1 harg1 arg2 harg2 arg3 harg3 arg4 harg4 arg5 harg5 arg6 harg6 arg7 harg7 arg8 harg8 arg9 harg9 = pure ⟨⟩ from dif_neg hc0, pure_bind]
  exact run_tail c i arg1 harg1 arg2 harg2 arg3 harg3 arg4 harg4 arg5 harg5 arg6 harg6 arg7 harg7 arg8 harg8 arg9 harg9 x1 y eh E K

section Region
variable (V : (c : Dev nD) → (b : Ref sig .tc) → Buf (Elt F) ((c : Thread nD τ).loc b))

/-! ## What the region computes -/

/-- Window `w`'s block at point `t`, of the arrays as the region finds them. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem pos0 : 0 < cfg0.N := by rw [show cfg0.N = 16 from N_0]; decide

/-- The embedding, as the region finds it. -/
def emb (c : Dev nD) : Vec F S1568x1536 .f32 := iblk0 V c 0 ⟨0, pos0⟩
/-- The embedding's block is the same at every point. -/
theorem emb_eq (c : Dev nD) (t : Fin cfg0.N) : iblk0 V c 0 t = emb V c := rfl

/-- The running minimum and its place once the first `n` blocks have been met. -/
def accAt (c : Dev nD) (n : ℕ) : Vec F S1568x1 .f32 × Vec F S1568x1 .i32 :=
  steps (fun t : Fin cfg0.N => meet (grid0.coords t) (ehOf (emb V c)) (iblk0 V c 1 t)) startOf n

theorem accAt_succ (c : Dev nD) (t : Fin cfg0.N) :
    accAt V c (t.val + 1) = meet (grid0.coords t) (ehOf (emb V c)) (iblk0 V c 1 t) (accAt V c t.val) :=
  steps_succ _ _ t

/-! ## The region's invariant -/

abbrev scM6 : Memref sig .tc .vmem S1568x1536 .bf16 := Memref.whole cc0_scratch0
abbrev scM7 : Memref sig .tc .vmem S1024x1536 .bf16 := Memref.whole cc0_scratch1
abbrev scM8 : Memref sig .tc .vmem S1x1024 .f32 := Memref.whole cc0_scratch2
abbrev scM9 : Memref sig .tc .vmem S1568x1024 .f32 := Memref.whole cc0_scratch3

/-- The buffers of the other regions, at anything. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f))

/-- Between points the first scratch holds the narrowed embedding, the others anything. -/
def held (c : Dev nD) : sProp 𝕄 :=
  iprop(iprop(owns (c : Thread nD τ) scM6 fullShare (ehOf (emb V c)) ∗ (∃ d, owns (c : Thread nD τ) scM7 fullShare d) ∗ (∃ d, owns (c : Thread nD τ) scM8 fullShare d) ∗ (∃ d, owns (c : Thread nD τ) scM9 fullShare d) ∗ others (F := F) c) ∗ (∃ r, prngReg c r))

/-- The invariant before point `n`: at the first, what the launch hands over; later, `held`. -/
def inv0 (c : Dev nD) : (n : ℕ) → n ≤ cfg0.N → sProp 𝕄
  | 0, _ => Pipeline.ΦA spec0 c
  | _ + 1, _ => held V c

theorem inv0_zero (c : Dev nD) (n : ℕ) (h : n ≤ cfg0.N) (hz : n = 0) : inv0 V c n h = Pipeline.ΦA spec0 c := by subst hz; rfl
theorem inv0_pos (c : Dev nD) (n : ℕ) (h : n ≤ cfg0.N) (hz : n ≠ 0) : inv0 V c n h = held V c := by
  cases n with
  | zero => exact absurd rfl hz
  | succ n => rfl

/-- What the launch hands over, its scratch as memrefs. -/
theorem given0_eq (c : Dev nD) :
    (Pipeline.ΦA spec0 c : sProp 𝕄)
      = iprop(iprop((∃ d, owns (c : Thread nD τ) scM6 fullShare d) ∗ (∃ d, owns (c : Thread nD τ) scM7 fullShare d) ∗ (∃ d, owns (c : Thread nD τ) scM8 fullShare d) ∗ (∃ d, owns (c : Thread nD τ) scM9 fullShare d) ∗ others (F := F) c) ∗ (∃ r, prngReg c r)) := by
  unfold Pipeline.ΦA others; rw [scopedRest0_eq]; simp only [scM6, scM7, scM8, scM9, owns_whole]; try rfl

/-! ## The proof data -/

/-- The region's proof data: the arrays as found; after point `t` the inputs' blocks in place, the running minimum
    and its place met with the blocks up to `t`'s, and the squared norms. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt V c (t.val + 1)).1
    | ⟨3, _⟩ => (accAt V c (t.val + 1)).2
    | ⟨4, _⟩ => e2Of (emb V c)
  Φ t := inv0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt V c (t.val + 1)).1 := by dsimp only [dat0]
theorem after0_3 (c : Dev nD) (t : Fin cfg0.N) : (dat0 V c).after 3 t = (accAt V c (t.val + 1)).2 := by dsimp only [dat0]
theorem after0_4 (c : Dev nD) (t : Fin cfg0.N) : (dat0 V c).after 4 t = e2Of (emb V c) := by dsimp only [dat0]

theorem inv_castSucc (c : Dev nD) (t : Fin cfg0.N) : (dat0 V c).Φ t.castSucc = inv0 V c t.val (Nat.le_of_lt t.isLt) := by
  dsimp only [dat0]; exact Pipeline.Dat.Φ_castSucc (inv0 V c) t

theorem live4 (t : Fin cfg0.N) (ht : t.val = 0) : cfg0.idle 4 (cfg0.grid.coords t) = false := by
  show (!(k0_cond1 (grid0.coords t) == 1#1)) = false
  rw [(cond_iff t).mpr ht]; rfl
theorem idle4 (t : Fin cfg0.N) (ht : t.val ≠ 0) : cfg0.idle 4 (cfg0.grid.coords t) = true := by
  show (!(k0_cond1 (grid0.coords t) == 1#1)) = true
  rw [beq_false_of_ne (fun h => ht ((cond_iff t).mp h))]; rfl

/-! The inputs' blocks are found in place at every point. -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

theorem noflush (w : Fin cfg0.W) (h : ∀ t : Fin cfg0.N, (cfg0.win w).flush t = true ↔ t.val % 16 = 15) (t : Fin cfg0.N) (ht : t.val ≠ 0) :
    (cfg0.win w).flush ⟨t.val - 1, Nat.lt_of_le_of_lt (Nat.sub_le _ _) t.isLt⟩ = false := by
  rw [← Bool.not_eq_true, h]
  have hN : t.val < 16 := lt_of_lt_of_eq t.isLt N_0
  dsimp only
  omega

/-- After the first point each output's buffer holds what the point before left in it. -/
theorem before0_2 (c : Dev nD) (t : Fin cfg0.N) (ht : t.val ≠ 0) (d) : (dat0 V c).before 2 t d = (accAt V c t.val).1 := by
  rw [(dat0 V c).before_out_kept 2 rfl t ht (noflush 2 flush0_2 t ht) (fun _ => rfl) (fun _ _ => rfl) d, after0_2]
  dsimp only; rw [Nat.sub_add_cancel (Nat.pos_of_ne_zero ht)]
theorem before0_3 (c : Dev nD) (t : Fin cfg0.N) (ht : t.val ≠ 0) (d) : (dat0 V c).before 3 t d = (accAt V c t.val).2 := by
  rw [(dat0 V c).before_out_kept 3 rfl t ht (noflush 3 flush0_3 t ht) (fun _ => rfl) (fun _ _ => rfl) d, after0_3]
  dsimp only; rw [Nat.sub_add_cancel (Nat.pos_of_ne_zero ht)]
/-- The squared norms, stored at the first point alone, stay in their buffer. -/
theorem before0_4 (c : Dev nD) (d) : ∀ (n : ℕ) (hn : n + 1 < cfg0.N), (dat0 V c).before 4 ⟨n + 1, hn⟩ d = e2Of (emb V c)
  | 0, hn => by
    rw [(dat0 V c).before_of_pos 4 ⟨0 + 1, hn⟩ (by simp) rfl d, noflush 4 flush0_4 ⟨0 + 1, hn⟩ (by simp), if_neg Bool.false_ne_true]
    unfold Dat.left
    rw [live4 ⟨0 + 1 - 1, _⟩ rfl]
    unfold Dat.kept
    rw [after0_4]
    rfl
  | n + 1, hn => by
    rw [(dat0 V c).before_of_pos 4 ⟨n + 1 + 1, hn⟩ (by simp) rfl d, noflush 4 flush0_4 ⟨n + 1 + 1, hn⟩ (by simp), if_neg Bool.false_ne_true]
    unfold Dat.left
    rw [idle4 ⟨n + 1 + 1 - 1, _⟩ (by simp)]
    exact before0_4 c d n (by omega)

theorem before0_4' (c : Dev nD) (t : Fin cfg0.N) (ht : t.val ≠ 0) (d) : (dat0 V c).before 4 t d = e2Of (emb V c) := by
  obtain ⟨n, hn⟩ := t
  cases n with
  | zero => exact absurd rfl ht
  | succ n => exact before0_4 V c d n hn

/-- What the body hands back of that buffer at any point. -/
theorem left4 (c : Dev nD) (t : Fin cfg0.N) :
    owns (c : Thread nD τ) (st0_4 t) fullShare (e2Of (emb V c)) ⊢ ((dat0 V c).leavesExact 4 t : sProp 𝕄) := by
  unfold Dat.leavesExact
  by_cases hz : t.val = 0
  · rw [live4 t hz, after0_4]; try exact Entails.rfl
  · rw [idle4 t hz]
    dsimp only
    cases (cfg0.win 4).flush t with
    | false =>
      dsimp only
      simp only [before0_4' V c t hz]
      iintro H
      iexists (e2Of (emb V c)); iexact H
    | true => dsimp only; rw [after0_4]; try exact Entails.rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ (dat0 V c).leavesExact 4 t)

/-- The body at any point: the first starts the running minimum, a later one goes on from what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = held V c from rfl, inv_castSucc, after0_0, after0_1, after0_2, after0_3, accAt_succ, emb_eq]
  by_cases hz : t.val = 0
  · rw [inv0_zero V c _ _ hz, given0_eq, show accAt V c t.val = startOf from by rw [hz]; rfl]
    unfold held
    iintro ⟨⟨⟨S6, S7, S8, S9, SR⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ _ _ _ _ _ _ ((cond_iff t).mpr hz) (emb V c) (iblk0 V c 1 t) Set.univ _)
    isplitl [H0]; · iexact H0
    isplitl [H1]; · iexact H1
    isplitl [H2]; · iexists _; iexact H2
    isplitl [H3]; · iexists _; iexact H3
    isplitl [H4]; · iexists _; iexact H4
    isplitl [S6]; · iexact S6
    isplitl [S7]; · iexact S7
    isplitl [S8]; · iexact S8
    isplitl [S9]; · iexact S9
    iintro ⟨H0, H1, H2, H3, H4, S6, S7, S8, S9⟩
    isplitl [S6 S7 S8 S9 SR Hg]
    · isplitl [S6 S7 S8 S9 SR]
      · isplitl [S6]; · iexact S6
        isplitl [S7]; · iexact S7
        isplitl [S8]; · iexact S8
        isplitl [S9]; · iexact S9
        iexact SR
      iexact Hg
    isplitl [Ho]; · iexact Ho
    isplitl [H0]; · iexact H0
    isplitl [H1]; · iexact H1
    isplitl [H2]; · iexact H2
    isplitl [H3]; · iexact H3
    iapply (left4 V c t); iexact H4
  · rw [inv0_pos V c _ _ hz]
    simp only [before0_2 V c t hz, before0_3 V c t hz, before0_4' V c t hz]
    unfold held
    iintro ⟨⟨⟨S6, S7, S8, S9, SR⟩, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ _ _ _ _ _ _ (fun h => hz ((cond_iff t).mp h)) (iblk0 V c 1 t) (accAt V c t.val) (ehOf (emb V c)) Set.univ _)
    isplitl [H1]; · iexact H1
    isplitl [H2]; · iexact H2
    isplitl [H3]; · iexact H3
    isplitl [S6]; · iexact S6
    isplitl [S7]; · iexact S7
    isplitl [S8]; · iexact S8
    isplitl [S9]; · iexact S9
    iintro ⟨H1, H2, H3, S6, S7, S8, S9⟩
    isplitl [S6 S7 S8 S9 SR Hg]
    · isplitl [S6 S7 S8 S9 SR]
      · isplitl [S6]; · iexact S6
        isplitl [S7]; · iexact S7
        isplitl [S8]; · iexact S8
        isplitl [S9]; · iexact S9
        iexact SR
      iexact Hg
    isplitl [Ho]; · iexact Ho
    isplitl [H0]; · iexact H0
    isplitl [H1]; · iexact H1
    isplitl [H2]; · iexact H2
    isplitl [H3]; · iexact H3
    iapply (left4 V c t); iexact H4

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region is the invariant before the first point, -/
theorem hin0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- and the invariant after the last gives it back. -/
theorem hout0 (c : Dev nD) : (dat0 V c).Φ (Fin.last cfg0.N) ⊢ Pipeline.ΦA spec0 c := by
  rw [show (dat0 V c).Φ (Fin.last cfg0.N) = inv0 V c cfg0.N le_rfl from rfl,
    inv0_pos V c _ _ (Nat.pos_iff_ne_zero.mp pos0), given0_eq]
  unfold held
  iintro ⟨⟨S6, S7, S8, S9, SR⟩, Hg⟩
  isplitl [S6 S7 S8 S9 SR]
  · isplitl [S6]; · iexists _; iexact S6
    isplitl [S7]; · iexact S7
    isplitl [S8]; · iexact S8
    isplitl [S9]; · iexact S9
    iexact SR
  iexact Hg

end Region

end Cert.KernelIdeal
-- ==== Proof.I.Region12.lean ====
module

public import proofs.«01_k».proof.Proof.I.Loops
public import proofs.«01_k».proof.Proof.Gen.KernelIdeal.Skeleton
public import proofs.«01_k».proof.Proof.Gen.KernelIdeal.Launch
public import proofs.«01_k».proof.Proof.Gen.KernelIdeal.Points

/-! The two small kernels, one grid point each: the patch scores' square root, and the map's two products. -/

@[expose] public section

set_option maxRecDepth 16384
set_option maxHeartbeats 2000000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Shared Gen

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

/-! # Region 1 -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at the point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's buffer holds its block at the point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's buffer holds its block at the point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2x784 := Rect.unit (s := S2x784) ![0, 0] S2x784.size inb_S2x784_S2x784_0_0
abbrev r1_1 : Rect S1x18 := Rect.unit (s := S1x18) ![0, 0] S1x18.size inb_S1x18_S1x18_0_0

/-! ## What the body leaves in each output window's buffer -/

/-! Values the body's stores share. -/

def k1_pay28 (x0 : Vec F S2x784 .f32) (x1 : Vec F S2x784 .f32) (x2 : Vec F S2x784 .i32) : IVec S2x784 32 :=
  iota .tc S2x784 32 [1] iota_S2x784_d1_w32 -- `v9`
def k1_pay29 (x0 : Vec F S2x784 .f32) (x1 : Vec F S2x784 .f32) (x2 : Vec F S2x784 .i32) : IVec S2x1 32 :=
  iota .tc S2x1 32 [0] iota_S2x1_d0_w32 -- `v10`
def k1_pay30 (x0 : Vec F S2x784 .f32) (x1 : Vec F S2x784 .f32) (x2 : Vec F S2x784 .i32) : FVec F S2x784 .f32 :=
  k1_pay7 (View.ld x1 r1_0) (View.ld x0 r1_0) -- `v33`
def k1_pay31 (x0 : Vec F S2x784 .f32) (x1 : Vec F S2x784 .f32) (x2 : Vec F S2x784 .i32) : IVec S2x784 32 :=
  k1_pay8 (View.ld x1 r1_0) (View.ld x0 r1_0) -- `v39`
def k1_pay32 (x0 : Vec F S2x784 .f32) (x1 : Vec F S2x784 .f32) (x2 : Vec F S2x784 .i32) : FVec F S2x784 .f32 :=
  k1_pay17 (k1_pay28 x0 x1 x2) (k1_pay30 x0 x1 x2) (k1_pay31 x0 x1 x2) -- `v78`
def k1_pay33 (x0 : Vec F S2x784 .f32) (x1 : Vec F S2x784 .f32) (x2 : Vec F S2x784 .i32) : IVec S2x784 32 :=
  k1_pay18 (k1_pay28 x0 x1 x2) (k1_pay30 x0 x1 x2) (k1_pay31 x0 x1 x2) -- `v84`

/-- What the body stores into window 3's buffer, from the input blocks. -/
def out1_3 (x0 : Vec F S2x784 .f32) (x1 : Vec F S2x784 .f32) (x2 : Vec F S2x784 .i32) : Vec F S2x784 .f32 :=
  View.canon [⟨r1_0, k1_pay3 (View.ld x1 r1_0) (View.ld x0 r1_0)⟩]

/-- Its stores cover the buffer. -/
theorem cover1_3 (p0 : Vec F S2x784 .f32) (y : S2x784.Idx) :
    ∃ pc ∈ ([⟨r1_0, p0⟩] : List (View.Piece (Elt F) S2x784 .f32)), y ∈ pc.1.set :=
  View.cover_of_tiled [⟨r1_0, p0⟩] S2x784.size (by rfl) y

/-- What the body stores into window 4's buffer, from the input blocks. -/
def out1_4 (x0 : Vec F S2x784 .f32) (x1 : Vec F S2x784 .f32) (x2 : Vec F S2x784 .i32) : Vec F S1x18 .i32 :=
  View.canon [⟨r1_1, k1_pay1 (k1_pay29 x0 x1 x2) (k1_pay5 (View.ld x1 r1_0) (View.ld x0 r1_0)) (k1_pay6 (View.ld x1 r1_0) (View.ld x0 r1_0) (View.ld x2 r1_0)) (k1_pay10 (k1_pay29 x0 x1 x2) (k1_pay31 x0 x1 x2)) (k1_pay13 (k1_pay28 x0 x1 x2) (k1_pay29 x0 x1 x2) (k1_pay30 x0 x1 x2) (k1_pay31 x0 x1 x2)) (k1_pay16 (k1_pay28 x0 x1 x2) (k1_pay29 x0 x1 x2) (k1_pay30 x0 x1 x2) (k1_pay31 x0 x1 x2)) (k1_pay20 (k1_pay29 x0 x1 x2) (k1_pay33 x0 x1 x2)) (k1_pay23 (k1_pay28 x0 x1 x2) (k1_pay29 x0 x1 x2) (k1_pay32 x0 x1 x2) (k1_pay33 x0 x1 x2)) (k1_pay26 (k1_pay28 x0 x1 x2) (k1_pay29 x0 x1 x2) (k1_pay32 x0 x1 x2) (k1_pay33 x0 x1 x2)) (k1_pay27 (k1_pay28 x0 x1 x2) (k1_pay32 x0 x1 x2) (k1_pay33 x0 x1 x2))⟩]

/-- Its stores cover the buffer. -/
theorem cover1_4 (p0 : Vec F S1x18 .i32) (y : S1x18.Idx) :
    ∃ pc ∈ ([⟨r1_1, p0⟩] : List (View.Piece (Elt F) S1x18 .i32)), y ∈ pc.1.set :=
  View.cover_of_tiled [⟨r1_1, p0⟩] S1x18.size (by rfl) y

/-! ## The body's triple -/

set_option maxHeartbeats 1000000 in
/-- The body leaves its inputs as they were and its outputs at what is stated above. -/
theorem sound_kernel1 (c : Dev nD) (E : Set ℕ) (arg0 : Memref sig .tc .vmem S2x784 .f32) (harg0 : arg0.IsWhole) (arg1 : Memref sig .tc .vmem S2x784 .f32) (harg1 : arg1.IsWhole) (arg2 : Memref sig .tc .vmem S2x784 .i32) (harg2 : arg2.IsWhole) (arg3 : Memref sig .tc .vmem S2x784 .f32) (harg3 : arg3.IsWhole) (arg4 : Memref sig .tc .vmem S1x18 .i32) (harg4 : arg4.IsWhole)
    (x0 : Vec F S2x784 .f32) (x1 : Vec F S2x784 .f32) (x2 : Vec F S2x784 .i32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2) ∗ owns (c : Thread nD τ) arg4 fullShare (out1_4 x0 x1 x2)) -∗ K ⟨⟩))
      ⊢ wp frame (wpE (defs₀ (F := F)) Variants.none c none) E (cc1__k2a_body arg0 harg0 arg1 harg1 arg2 harg2 arg3 harg3 arg4 harg4) K := by
  simp only [cc1__k2a_body_eq_skeleton]; unfold cc1__k2a_body_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_3 _)).trans ?_
    rfl
  iexists _; isplitr
  swap; · iexact H4
  ipureintro
  refine (View.read_writes_eq_canon _ _ _ (cover1_4 _)).trans ?_
  rfl

/-! ## The pipeline's proof data -/

/-- The region's proof data: the arrays as found, the inputs' blocks in place, the outputs at what the body stores. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the contents the region finds. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at the point is the body. -/
theorem defs₀_row1 (t : Fin cfg1.N) :
    defs₀ (F := F) .tc cfg1.body (cfg1.bodyArgs t (cfg1.slots t)) = bodyAt1 t := by
  unfold defs₀; rw [Defs.onTc_tc]

/-- The body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # Region 2 -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at the point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's buffer holds its block at the point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S224x28 := Rect.unit (s := S224x28) ![0, 0] S224x28.size inb_S224x28_S224x28_0_0
abbrev r2_1 : Rect S2x28x28 := Rect.unit (s := S2x28x28) ![0, 0, 0] S1x28x28.size inb_S2x28x28_S1x28x28_0_0_0
abbrev r2_2 : Rect S2x1x224x224 := Rect.unit (s := S2x1x224x224) ![0, 0, 0, 0] S1x1x224x224.size inb_S2x1x224x224_S1x1x224x224_0_0_0_0
abbrev r2_3 : Rect S2x28x28 := Rect.unit (s := S2x28x28) ![1, 0, 0] S1x28x28.size inb_S2x28x28_S1x28x28_1_0_0
abbrev r2_4 : Rect S2x1x224x224 := Rect.unit (s := S2x1x224x224) ![1, 0, 0, 0] S1x1x224x224.size inb_S2x1x224x224_S1x1x224x224_1_0_0_0

/-! ## What the body leaves in each output window's buffer -/

/-- What the body stores into window 2's buffer, from the input blocks. -/
def out2_2 (x0 : Vec F S2x28x28 .f32) (x1 : Vec F S224x28 .f32) : Vec F S2x1x224x224 .f32 :=
  View.canon [⟨r2_4, k2_pay3 (View.ld x1 r2_0) (View.ld x0 r2_3)⟩,
    ⟨r2_2, k2_pay2 (View.ld x1 r2_0) (View.ld x0 r2_1)⟩]

/-- Its stores cover the buffer. -/
theorem cover2_2 (p0 : Vec F S1x1x224x224 .f32) (p1 : Vec F S1x1x224x224 .f32) (y : S2x1x224x224.Idx) :
    ∃ pc ∈ ([⟨r2_4, p0⟩, ⟨r2_2, p1⟩] : List (View.Piece (Elt F) S2x1x224x224 .f32)), y ∈ pc.1.set :=
  View.cover_of_tiled [⟨r2_4, p0⟩, ⟨r2_2, p1⟩] S1x1x224x224.size (by rfl) y

/-! ## The body's triple -/

set_option maxHeartbeats 1000000 in
/-- The body leaves its inputs as they were and its outputs at what is stated above. -/
theorem sound_kernel2 (c : Dev nD) (E : Set ℕ) (arg0 : Memref sig .tc .vmem S2x28x28 .f32) (harg0 : arg0.IsWhole) (arg1 : Memref sig .tc .vmem S224x28 .f32) (harg1 : arg1.IsWhole) (arg2 : Memref sig .tc .vmem S2x1x224x224 .f32) (harg2 : arg2.IsWhole)
    (x0 : Vec F S2x28x28 .f32) (x1 : Vec F S224x28 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__k3_body arg0 harg0 arg1 harg1 arg2 harg2) K := by
  simp only [cc2__k3_body_eq_skeleton]; unfold cc2__k3_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _ _)

/-! ## The pipeline's proof data -/

/-- The region's proof data: the arrays as found, the inputs' blocks in place, the outputs at what the body stores. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the contents the region finds. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at the point is the body. -/
theorem defs₀_row2 (t : Fin cfg2.N) :
    defs₀ (F := F) .tc cfg2.body (cfg2.bodyArgs t (cfg2.slots t)) = bodyAt2 t := by
  unfold defs₀; rw [Defs.onTc_tc]

/-- The body obligation. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl
end Regions

end Cert.KernelIdeal
-- ==== Proof.I.Run.lean ====
module

public import proofs.«01_k».proof.Proof.I.Region0
public import proofs.«01_k».proof.Proof.I.Region12
public import proofs.«01_k».proof.Proof.Gen.KernelIdeal.Launch
public import proofs.«01_k».proof.Proof.Gen.KernelIdeal.Regions

/-! The program from launch to return: the three kernels with the host lines between them, and what the buffers hold at the end. -/

@[expose] public section

set_option maxRecDepth 16384
set_option maxHeartbeats 2000000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds
open Cert.Shared
open Gen hiding V0 V1 V2 V3 V4 V5 V6 V7 V8 V9 V10 V1_of V2_of V3_of V4_of V5_of V6_of V7_of V8_of V9_of V10_of

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1]

/-! ## The buffers at each boundary -/

/-- Core `c`'s buffers at launch. -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b
theorem W0_args (c : Dev nD) : ∀ a ∈ argRefs, W0 m ρ c (Proc.devRef .tc a) = m ((c : Thread nD τ).loc a) := fun _ _ => rfl

/-- After region 0: its arrays at what it leaves, every other buffer as it was. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- What is none of its output arrays it leaves. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (E0 m ρ) c).arrAt_in w (h w rfl) _).trans (A_eq0 (E0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After the host lines `hostOps1`. -/
abbrev W2 : Dev nD → Valuation τ sig (Elt F) := fun c => StableHlo.after hostOps1 (W1 m ρ c)
/-- What they do not write they leave. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a ((ListAll.forall_mem_of_all_decide (by decide +kernel) : ∀ a ∈ argRefs, a ∉ hostOps1_W) a ha)).trans (W1_args m ρ c a ha)
abbrev E2 : (c : Dev nD) → (b : Ref sig .tc) → Buf (Elt F) ((c : Thread nD τ).loc b) := fun c b => W2 m ρ c b

/-- After region 1: its arrays at what it leaves, every other buffer as it was. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- What is none of its output arrays it leaves. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (E2 m ρ) c).arrAt_in w (h w rfl) _).trans (A_eq1 (E2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- After the host lines `hostOps2`. -/
abbrev W4 : Dev nD → Valuation τ sig (Elt F) := fun c => StableHlo.after hostOps2 (W3 m ρ c)
/-- What they do not write they leave. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a ((ListAll.forall_mem_of_all_decide (by decide +kernel) : ∀ a ∈ argRefs, a ∉ hostOps2_W) a ha)).trans (W3_args m ρ c a ha)
abbrev E4 : (c : Dev nD) → (b : Ref sig .tc) → Buf (Elt F) ((c : Thread nD τ).loc b) := fun c b => W4 m ρ c b

/-- After the host lines `hostOps2_1`. -/
abbrev W5 : Dev nD → Valuation τ sig (Elt F) := fun c => StableHlo.after hostOps2_1 (W4 m ρ c)
/-- What they do not write they leave. -/
theorem W5_of (c : Dev nD) (r : Ref sig .tc) (h : r ∉ hostOps2_1_W) : W5 m ρ c (Proc.devRef .tc r) = W4 m ρ c (Proc.devRef .tc r) :=
  StableHlo.after_of_writes_sub hostOps2_1 _ hostOps2_1_writes h
theorem W5_args (c : Dev nD) : ∀ a ∈ argRefs, W5 m ρ c (Proc.devRef .tc a) = m ((c : Thread nD τ).loc a) :=
  fun a ha => (W5_of m ρ c a ((ListAll.forall_mem_of_all_decide (by decide +kernel) : ∀ a ∈ argRefs, a ∉ hostOps2_1_W) a ha)).trans (W4_args m ρ c a ha)
abbrev E5 : (c : Dev nD) → (b : Ref sig .tc) → Buf (Elt F) ((c : Thread nD τ).loc b) := fun c b => W5 m ρ c b

/-- After the host lines `hostOps2_2`. -/
abbrev W6 : Dev nD → Valuation τ sig (Elt F) := fun c => StableHlo.after hostOps2_2 (W5 m ρ c)
/-- What they do not write they leave. -/
theorem W6_of (c : Dev nD) (r : Ref sig .tc) (h : r ∉ hostOps2_2_W) : W6 m ρ c (Proc.devRef .tc r) = W5 m ρ c (Proc.devRef .tc r) :=
  StableHlo.after_of_writes_sub hostOps2_2 _ hostOps2_2_writes h
theorem W6_args (c : Dev nD) : ∀ a ∈ argRefs, W6 m ρ c (Proc.devRef .tc a) = m ((c : Thread nD τ).loc a) :=
  fun a ha => (W6_of m ρ c a ((ListAll.forall_mem_of_all_decide (by decide +kernel) : ∀ a ∈ argRefs, a ∉ hostOps2_2_W) a ha)).trans (W5_args m ρ c a ha)
abbrev E6 : (c : Dev nD) → (b : Ref sig .tc) → Buf (Elt F) ((c : Thread nD τ).loc b) := fun c b => W6 m ρ c b

/-- After the host lines `hostOps2_3`. -/
abbrev W7 : Dev nD → Valuation τ sig (Elt F) := fun c => StableHlo.after hostOps2_3 (W6 m ρ c)
/-- What they do not write they leave. -/
theorem W7_of (c : Dev nD) (r : Ref sig .tc) (h : r ∉ hostOps2_3_W) : W7 m ρ c (Proc.devRef .tc r) = W6 m ρ c (Proc.devRef .tc r) :=
  StableHlo.after_of_writes_sub hostOps2_3 _ hostOps2_3_writes h
theorem W7_args (c : Dev nD) : ∀ a ∈ argRefs, W7 m ρ c (Proc.devRef .tc a) = m ((c : Thread nD τ).loc a) :=
  fun a ha => (W7_of m ρ c a ((ListAll.forall_mem_of_all_decide (by decide +kernel) : ∀ a ∈ argRefs, a ∉ hostOps2_3_W) a ha)).trans (W6_args m ρ c a ha)
abbrev E7 : (c : Dev nD) → (b : Ref sig .tc) → Buf (Elt F) ((c : Thread nD τ).loc b) := fun c b => W7 m ρ c b

/-- After the host lines `hostOps2_4`. -/
abbrev W8 : Dev nD → Valuation τ sig (Elt F) := fun c => StableHlo.after hostOps2_4 (W7 m ρ c)
/-- What they do not write they leave. -/
theorem W8_of (c : Dev nD) (r : Ref sig .tc) (h : r ∉ hostOps2_4_W) : W8 m ρ c (Proc.devRef .tc r) = W7 m ρ c (Proc.devRef .tc r) :=
  StableHlo.after_of_writes_sub hostOps2_4 _ hostOps2_4_writes h
theorem W8_args (c : Dev nD) : ∀ a ∈ argRefs, W8 m ρ c (Proc.devRef .tc a) = m ((c : Thread nD τ).loc a) :=
  fun a ha => (W8_of m ρ c a ((ListAll.forall_mem_of_all_decide (by decide +kernel) : ∀ a ∈ argRefs, a ∉ hostOps2_4_W) a ha)).trans (W7_args m ρ c a ha)
abbrev E8 : (c : Dev nD) → (b : Ref sig .tc) → Buf (Elt F) ((c : Thread nD τ).loc b) := fun c b => W8 m ρ c b

/-- After the host lines `hostOps2_5`. -/
abbrev W9 : Dev nD → Valuation τ sig (Elt F) := fun c => StableHlo.after hostOps2_5 (W8 m ρ c)
/-- What they do not write they leave. -/
theorem W9_of (c : Dev nD) (r : Ref sig .tc) (h : r ∉ hostOps2_5_W) : W9 m ρ c (Proc.devRef .tc r) = W8 m ρ c (Proc.devRef .tc r) :=
  StableHlo.after_of_writes_sub hostOps2_5 _ hostOps2_5_writes h
theorem W9_args (c : Dev nD) : ∀ a ∈ argRefs, W9 m ρ c (Proc.devRef .tc a) = m ((c : Thread nD τ).loc a) :=
  fun a ha => (W9_of m ρ c a ((ListAll.forall_mem_of_all_decide (by decide +kernel) : ∀ a ∈ argRefs, a ∉ hostOps2_5_W) a ha)).trans (W8_args m ρ c a ha)
abbrev E9 : (c : Dev nD) → (b : Ref sig .tc) → Buf (Elt F) ((c : Thread nD τ).loc b) := fun c b => W9 m ρ c b

/-- After region 2: its arrays at what it leaves, every other buffer as it was. -/
def W10 (c : Dev nD) : Valuation τ sig (Elt F) :=
  Pipeline.withArrays spec2 c (W9 m ρ c) fun w => (dat2 (E9 m ρ) c).arrAt w cfg2.N
theorem W10_arr (c : Dev nD) (w : Fin cfg2.W) :
    W10 m ρ c (Proc.devRef .tc (Pipeline.arrRef spec2 w)) = (dat2 (E9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- What is none of its output arrays it leaves. -/
theorem W10_of (c : Dev nD) (r : Ref sig .tc) (h : ∀ w : Fin cfg2.W, Pipeline.arrRef spec2 w = r → (cfg2.win w).isOut = false) :
    W10 m ρ c (Proc.devRef .tc r) = W9 m ρ c (Proc.devRef .tc r) := by
  by_cases hw : ∃ w : Fin cfg2.W, Pipeline.arrRef spec2 w = r
  · obtain ⟨w, rfl⟩ := hw
    exact (W10_arr m ρ c w).trans (((dat2 (E9 m ρ) c).arrAt_in w (h w rfl) _).trans (A_eq2 (E9 m ρ) c w))
  · exact W10_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn2 a ha)).trans (W9_args m ρ c a ha)
abbrev E10 : (c : Dev nD) → (b : Ref sig .tc) → Buf (Elt F) ((c : Thread nD τ).loc b) := fun c b => W10 m ρ c b
theorem hF2 (c : Dev nD) (w : Fin cfg2.W) : (dat2 (E9 m ρ) c).arrAt w cfg2.N = E10 m ρ c (Pipeline.arrRef spec2 w) :=
  (W10_arr m ρ c w).symm
theorem hrest2 (c : Dev nD) : ∀ b, b ∉ Finset.univ.image (Pipeline.arrRef spec2) → E10 m ρ c b = E9 m ρ c b :=
  fun b hb => W10_of_ne m ρ c b fun w e => hb (Finset.mem_image.mpr ⟨w, Finset.mem_univ _, e⟩)

/-! ## The thread state, and the regions as segments -/

abbrev adm : (p : Fin 3) → (pcfgs (F := F) p).Adm := fun p => (cfgs p).toPCfg_adm
/-- Every region's proof data at its entry contents. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
  | ⟨2, _⟩ => fun c => dat2 (E9 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- Host lines as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the end's contents. -/
abbrev Tₙ (c : Dev nD) : sProp 𝕄 := iprop(StableHlo.held (c : Thread nD τ) (Pipeline.ucRefs τ sig) (W10 m ρ c) ∗ ∃ r, prngReg c r)

set_option backward.isDefEq.respectTransparency.types false in
/-- Region 0 over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) (A_eq0 (E0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m ρ) c)
    unfold Pipeline.ΦA
    iintro ⟨Hp, -, Hr⟩
    isplitl [Hr]; · iexact Hr
    iexact Hp
  hout c := by
    rw [Pipeline.ownSems0_none]
    refine (hout0 (E0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) (A_eq1 (E2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E9 m ρ c) (A_eq2 (E9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E9 m ρ c) (E10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- The program's items in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .host (hseg hostOps2_3 hostOps2_3_sub hostOps2_3_fresh (W6 m ρ)),
    .host (hseg hostOps2_4 hostOps2_4_sub hostOps2_4_fresh (W7 m ρ)),
    .host (hseg hostOps2_5 hostOps2_5_sub hostOps2_5_fresh (W8 m ρ)),
    .region (reg2 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every weakly fair execution terminates with every unscoped buffer at the end's contents and every counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W10 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

/-- The arguments end as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (W10_args m ρ c main_arg0 (by decide)),
     (h.1 c _ (mem_uc main_arg1 (by decide))).trans (W10_args m ρ c main_arg1 (by decide))⟩, h.2⟩) (run m ρ)

/-- The result ends at the end's contents of its buffer. -/
theorem result_run : θ_run defs (onTc (τ := τ) (main (F := F))) ⟨m, fun _ => 0, ρ⟩ (fun r => ∀ c : Dev nD,
      r.2.mem ((c.tc : Thread nD τ).loc main_v41) = W10 m ρ c (Proc.devRef .tc main_v41)) :=
  (θ_run defs _ _).mono (fun _ h c => h.1 c _ (mem_uc main_v41 (by decide))) (run m ρ)

end Cert.KernelIdeal
-- ==== Proof.Value.Algebra.lean ====
module

public import Idealize.ShloMosaic.Lib.Pointwise
public import Idealize.ShloMosaic.PureOps.Ideal.Laws

/-! Facts about the extended reals alone: sums weighted by non-negative numbers, the reflected tap of a blur, and the
square root's order. -/

@[expose] public section

noncomputable section

namespace Cert.Shared

open Idealize.ShloMosaic

/-- Thirty-three terms added one after another, from zero, are their sum. -/
theorem sum33 (f : Fin 33 → EReal) :
    0 + f 0 + f 1 + f 2 + f 3 + f 4 + f 5 + f 6 + f 7 + f 8 + f 9 + f 10 + f 11 + f 12 + f 13 + f 14 + f 15 + f 16
      + f 17 + f 18 + f 19 + f 20 + f 21 + f 22 + f 23 + f 24 + f 25 + f 26 + f 27 + f 28 + f 29 + f 30 + f 31 + f 32
      = ∑ k, f k := by
  have h : ∑ k, f k = ∑ k ∈ Finset.range 33, if h : k < 33 then f ⟨k, h⟩ else 0 := by
    rw [← Fin.sum_univ_eq_sum_range (fun k => if h : k < 33 then f ⟨k, h⟩ else 0)]
    exact Finset.sum_congr rfl fun k _ => by rw [dif_pos k.isLt]
  rw [h]
  simp only [Finset.sum_range_succ, Finset.sum_range_zero]
  rfl

/-- The row a reflected tap lands on: `a` counts from sixteen rows before the first. -/
def refl (a : ℕ) : ℕ := if a < 16 then 16 - a else if a < 240 then a - 16 else 462 - a

theorem refl_lt (i : Fin 224) (k : Fin 33) : refl (k.val + i.val) < 224 := by
  have := i.isLt; have := k.isLt
  unfold refl; split_ifs <;> omega

/-- The patch the tap's row belongs to. -/
def patch (i : Fin 224) (k : Fin 33) : Fin 28 := ⟨refl (k.val + i.val) / 8, by have := refl_lt i k; omega⟩

/-- A sum of non-negative numbers times a non-negative number. -/
theorem sum_mul_nonneg {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

/-- A non-negative number times a sum of non-negative numbers. -/
theorem mul_sum_nonneg {ι : Type} (s : Finset ι) (f : ι → EReal) (hf : ∀ i, 0 ≤ f i) (c : EReal) :
    c * (∑ i ∈ s, f i) = ∑ i ∈ s, c * f i := by
  rw [mul_comm, sum_mul_nonneg s f hf]
  exact Finset.sum_congr rfl fun i _ => mul_comm _ _

/-- Rows gathered by the taps that land on them: the sum over rows of the row's weight is the sum over taps. -/
theorem sum_taps {m n : ℕ} (g : Fin m → EReal) (hg : ∀ k, 0 ≤ g k) (ρ : Fin m → Fin n) (f : Fin n → EReal) :
    (∑ r, (∑ k, if ρ k = r then g k else 0) * f r) = ∑ k, g k * f (ρ k) := by
  have h1 : ∀ r, (∑ k, if ρ k = r then g k else 0) * f r = ∑ k, if ρ k = r then g k * f r else 0 := by
    intro r
    rw [sum_mul_nonneg _ _ (fun k => by split_ifs <;> [exact hg k; exact le_rfl])]
    exact Finset.sum_congr rfl fun k _ => by split_ifs <;> simp
  rw [Finset.sum_congr rfl fun r _ => h1 r, Finset.sum_comm]
  refine Finset.sum_congr rfl fun k _ => ?_
  rw [Finset.sum_ite_eq]; simp

/-- The blur by a matrix on both sides is the blur along one axis after the other. -/
theorem blur_eq {m n : ℕ} (g : Fin m → EReal) (hg : ∀ k, 0 ≤ g k) (ρ σ : Fin m → Fin n) (p : Fin n → Fin n → EReal)
    (hp : ∀ r c, 0 ≤ p r c) :
    (∑ c, (∑ r, (∑ k, if ρ k = r then g k else 0) * p r c) * (∑ k, if σ k = c then g k else 0))
      = ∑ l, g l * ∑ k, g k * p (ρ k) (σ l) := by
  have h : ∀ c, (∑ r, (∑ k, if ρ k = r then g k else 0) * p r c) * (∑ k, if σ k = c then g k else 0)
      = (∑ k, if σ k = c then g k else 0) * (∑ k, g k * p (ρ k) c) := fun c => by
    rw [sum_taps g hg ρ (fun r => p r c), mul_comm]
  rw [Finset.sum_congr rfl fun c _ => h c]
  exact sum_taps g hg σ (fun c => ∑ k, g k * p (ρ k) c)

/-- The square root keeps the order. -/
theorem sqrt_mono : Monotone Ideal.sqrt := by
  intro x y h
  induction x using EReal.rec with
  | bot => exact bot_le
  | top => rw [top_le_iff] at h; subst h; exact le_rfl
  | coe a =>
    induction y using EReal.rec with
    | bot => exact absurd h (by simp)
    | top => exact le_top
    | coe b =>
      have hab : a ≤ b := EReal.coe_le_coe_iff.mp h
      rw [Ideal.sqrt_coe, Ideal.sqrt_coe]
      by_cases ha : a < 0
      · rw [if_pos ha]; exact bot_le
      · rw [if_neg ha, if_neg (by linarith)]
        exact EReal.coe_le_coe_iff.mpr (Real.sqrt_le_sqrt hab)

/-- The square root of a non-negative number is one. -/
theorem sqrt_nonneg (x : EReal) (h : 0 ≤ x) : 0 ≤ Ideal.sqrt x := by
  have := sqrt_mono h
  have h0 : Ideal.sqrt 0 = 0 := by
    rw [← EReal.coe_zero, Ideal.sqrt_coe, if_neg (lt_irrefl _), Real.sqrt_zero]
  rwa [h0] at this

/-- A least number seen through a map that keeps the order. -/
theorem fold_min_map {ι : Type} (s : Finset ι) (F : EReal → EReal) (hF : Monotone F) (b : EReal) (f : ι → EReal) :
    s.fold min (F b) (fun i => F (f i)) = F (s.fold min b f) := by
  classical
  induction s using Finset.induction_on with
  | empty => simp
  | insert a s ha ih => rw [Finset.fold_insert ha, Finset.fold_insert ha, ih, hF.map_min]

/-- The distance from the squared parts: kept above `ε` and rooted. -/
def dist (ε e x : EReal) : EReal := Ideal.sqrt (max (e + x) ε)

theorem dist_mono (ε e : EReal) : Monotone (dist ε e) := fun _ _ h =>
  sqrt_mono (max_le_max (add_le_add le_rfl h) le_rfl)

theorem dist_top (ε e : EReal) (he : 0 ≤ e) : dist ε e ⊤ = ⊤ := by
  have : e + ⊤ = ⊤ := EReal.add_top_of_ne_bot (fun h => by subst h; exact absurd he (by simp))
  unfold dist
  rw [this, max_eq_left le_top, Ideal.sqrt_top]

theorem mul_self_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- The exponential is never negative. -/
theorem exp_nonneg (x : EReal) : 0 ≤ Ideal.exp x := by
  induction x using EReal.rec with
  | bot => exact le_rfl
  | top => exact le_top
  | coe a => exact EReal.coe_nonneg.mpr (Real.exp_pos a).le

theorem exp_pos (a : ℝ) : 0 < Ideal.exp (a : EReal) := EReal.coe_pos.mpr (Real.exp_pos a)

/-- A share of a positive total. -/
theorem div_nonneg' {x y : EReal} (hx : 0 ≤ x) (hy : 0 < y) : 0 ≤ Ideal.div x y := by
  unfold Ideal.div
  rw [if_neg hy.ne']
  exact mul_nonneg hx (EReal.inv_nonneg_of_nonneg hy.le)

/-! ## The weights of the blur's taps -/

/-- How far tap `k` is from the middle one, in standard deviations. -/
def off (k : Fin 33) : EReal :=
  Ideal.div (FloatOps.sitofp (F := Ideal) .f32 (BitVec.ofNat 32 k.val) - Ideal.ofBits .f32 0x41800000#32) (Ideal.ofBits .f32 0x40800000#32)
/-- The Gaussian's value at tap `k`. -/
def tap (k : Fin 33) : EReal := Ideal.exp (Ideal.ofBits .f32 0xBF000000#32 * (off k * off k))
/-- Tap `k`'s weight: its share of the total. -/
def weight (k : Fin 33) : EReal := Ideal.div (tap k) (∑ l, tap l)

theorem bits_16 : Ideal.ofBits .f32 0x41800000#32 = ((16 : ℝ) : EReal) := by
  simp [Ideal.ofBits, Ideal.ieee]
  rw [← EReal.coe_mul]
  norm_num
theorem bits_4 : Ideal.ofBits .f32 0x40800000#32 = ((4 : ℝ) : EReal) := by
  simp [Ideal.ofBits, Ideal.ieee]
  rw [← EReal.coe_mul]
  norm_num

theorem off_mid : off 16 = 0 := by
  unfold off
  have e : FloatOps.sitofp (F := Ideal) .f32 (BitVec.ofNat 32 (16 : Fin 33).val) = ((16 : ℝ) : EReal) := by
    show ((((BitVec.ofNat 32 (16 : Fin 33).val).toInt : ℝ)) : EReal) = _
    have : (BitVec.ofNat 32 (16 : Fin 33).val).toInt = 16 := by decide
    rw [this]
    norm_num
  rw [e, bits_16, bits_4]
  unfold Ideal.div
  have h4 : ((4 : ℝ) : EReal) ≠ 0 := by norm_num
  rw [if_neg h4, ← EReal.coe_sub, sub_self]
  simp

theorem tap_mid : 0 < tap 16 := by
  unfold tap
  rw [off_mid, mul_zero, mul_zero]
  exact exp_pos 0

theorem weight_nonneg (k : Fin 33) : 0 ≤ weight k :=
  div_nonneg' (exp_nonneg _) (lt_of_lt_of_le tap_mid (Finset.single_le_sum (f := tap) (fun l _ => exp_nonneg _) (Finset.mem_univ 16)))

end Cert.Shared
-- ==== Proof.Value.Arrays.lean ====
module

public import proofs.«01_k».proof.Proof.I.Run
public import proofs.«01_k».proof.Proof.Value.Algebra

/-! What the regions leave in their result arrays, and what they find in their operands: each window is the whole
array but the bank's, whose blocks are its rows a thousand and twenty-four at a time. -/

@[expose] public section

set_option maxRecDepth 16384

noncomputable section

namespace Cert.KernelIdeal

open Idealize.ShloMosaic Idealize.ShloMosaic.TcCoe
open Idealize.SL.Sem
open Idealize.ShloMosaic.Pipeline (Dat Cfg Window)
open Cert.Shared
open Gen hiding V0 V1 V2 V3 V4 V5 V6 V7 V8 V9 V10 V1_of V2_of V3_of V4_of V5_of V6_of V7_of V8_of V9_of V10_of

variable {F : FTy → Type} [FloatOps F] [Named F]

section Region0
variable (V : (c : Dev nD) → (b : Ref sig .tc) → Buf (Elt F) ((c : Thread nD τ).loc b))

/-- The embedding's window is the embedding. -/
theorem emb_whole (c : Dev nD) : emb V c = V c main_arg0 := by
  have hz : (fun a => win0_0.index ⟨0, pos0⟩ a * main_arg0.ty.shape.size a) = fun _ => 0 := funext fun a => by fin_cases a <;> decide
  exact Memref.read_access_unit_zero (Elt F) main_arg0 hz (fun a => by rw [congrFun hz a]; simp) (V c main_arg0)

/-- The last point. -/
abbrev last0 : Fin cfg0.N := ⟨15, by rw [show cfg0.N = 16 from N_0]; decide⟩

theorem flushed0_2 (c : Dev nD) (t : Fin cfg0.N) (hf : (cfg0.win 2).flush t = true) :
    (dat0 V c).flushed 2 t = ((cfg0.win 2).blk t).view.read (Elt F) (accAt V c 16).1 := by
  have hN : cfg0.N = 16 := N_0
  have h3 : t.val = 15 := by have := (flush0_2 t).mp hf; have := t.isLt; omega
  obtain rfl : t = last0 := Fin.ext h3
  have hz : (fun a => win0_2.index last0 a * main_v0_0.ty.shape.size a) = fun _ => 0 := funext fun a => by fin_cases a <;> decide
  exact (Memref.read_access_unit_zero (Elt F) main_v0_0 hz (fun a => by rw [congrFun hz a]; simp) (accAt V c 16).1).symm

theorem final0_2 (c : Dev nD) : (dat0 V c).arrAt 2 cfg0.N = (accAt V c 16).1 :=
  (dat0 V c).arrAt_eq_of_cover 2 (accAt V c 16).1 (flushed0_2 V c) fun i =>
    ⟨last0, (flush0_2 last0).mpr rfl, by
      show i ∈ ((View.whole main_v0_0).slice (win0_2.rect last0)).set
      rw [View.set_slice_whole, Rect.mem_set_unit]
      intro a
      have h0 : (i 0 : Nat) < 1568 := (i 0).isLt
      have h1 : (i 1 : Nat) < 1 := (i 1).isLt
      match a with
      | ⟨0, _⟩ => show win0_2.index last0 0 * win0_2.size 0 ≤ (i 0 : Nat) ∧ (i 0 : Nat) < win0_2.index last0 0 * win0_2.size 0 + win0_2.xsize (grid0.coords last0) 0
                  rw [show win0_2.index last0 0 * win0_2.size 0 = 0 from by decide +kernel, show win0_2.xsize (grid0.coords last0) 0 = 1568 from by decide +kernel]; omega
      | ⟨1, _⟩ => show win0_2.index last0 1 * win0_2.size 1 ≤ (i 1 : Nat) ∧ (i 1 : Nat) < win0_2.index last0 1 * win0_2.size 1 + win0_2.xsize (grid0.coords last0) 1
                  rw [show win0_2.index last0 1 * win0_2.size 1 = 0 from by decide +kernel, show win0_2.xsize (grid0.coords last0) 1 = 1 from by decide +kernel]; omega⟩

theorem flushed0_4 (c : Dev nD) (t : Fin cfg0.N) (hf : (cfg0.win 4).flush t = true) :
    (dat0 V c).flushed 4 t = ((cfg0.win 4).blk t).view.read (Elt F) (e2Of (emb V c)) := by
  have hN : cfg0.N = 16 := N_0
  have h3 : t.val = 15 := by have := (flush0_4 t).mp hf; have := t.isLt; omega
  obtain rfl : t = last0 := Fin.ext h3
  have hz : (fun a => win0_4.index last0 a * main_v0_2.ty.shape.size a) = fun _ => 0 := funext fun a => by fin_cases a <;> decide
  exact (Memref.read_access_unit_zero (Elt F) main_v0_2 hz (fun a => by rw [congrFun hz a]; simp) (e2Of (emb V c))).symm

theorem final0_4 (c : Dev nD) : (dat0 V c).arrAt 4 cfg0.N = e2Of (emb V c) :=
  (dat0 V c).arrAt_eq_of_cover 4 (e2Of (emb V c)) (flushed0_4 V c) fun i =>
    ⟨last0, (flush0_4 last0).mpr rfl, by
      show i ∈ ((View.whole main_v0_2).slice (win0_4.rect last0)).set
      rw [View.set_slice_whole, Rect.mem_set_unit]
      intro a
      have h0 : (i 0 : Nat) < 1568 := (i 0).isLt
      have h1 : (i 1 : Nat) < 1 := (i 1).isLt
      match a with
      | ⟨0, _⟩ => show win0_4.index last0 0 * win0_4.size 0 ≤ (i 0 : Nat) ∧ (i 0 : Nat) < win0_4.index last0 0 * win0_4.size 0 + win0_4.xsize (grid0.coords last0) 0
                  rw [show win0_4.index last0 0 * win0_4.size 0 = 0 from by decide +kernel, show win0_4.xsize (grid0.coords last0) 0 = 1568 from by decide +kernel]; omega
      | ⟨1, _⟩ => show win0_4.index last0 1 * win0_4.size 1 ≤ (i 1 : Nat) ∧ (i 1 : Nat) < win0_4.index last0 1 * win0_4.size 1 + win0_4.xsize (grid0.coords last0) 1
                  rw [show win0_4.index last0 1 * win0_4.size 1 = 0 from by decide +kernel, show win0_4.xsize (grid0.coords last0) 1 = 1 from by decide +kernel]; omega⟩

/-- Block `t` of the bank is its rows from `1024 t` on. -/
theorem bank_block (c : Dev nD) (t : Fin cfg0.N) (m : Fin 1024) (k : Fin 1536) (h : 1024 * t.val + m.val < 16384) :
    (iblk0 V c 1 t : Vec F S1024x1536 .f32) (ix2 m k) = (V c main_arg1 : Vec F S16384x1536 .f32) (ix2 ⟨1024 * t.val + m.val, h⟩ k) := by
  have e0 : (grid0.coords t 0).val = t.val / 1 % 16 := Pipeline.Grid.coords_val t 0 (by decide) rfl
  have hN : t.val < 16 := lt_of_lt_of_eq t.isLt N_0
  show (V c main_arg1 : Vec F S16384x1536 .f32) (((cfg0.win 1).blk t).view.emb (ix2 m k)) = _
  congr 1
  funext a
  refine Fin.ext ?_
  match a with
  | ⟨0, _⟩ =>
    show (BitVec.ofNat 32 (grid0.coords t 0).val).toNat * 1024 + 1 * m.val = 1024 * t.val + m.val
    rw [BitVec.toNat_ofNat, e0]; omega
  | ⟨1, _⟩ =>
    show 0 * 1536 + 1 * k.val = k.val
    omega

end Region0

/-! ## The patch scores -/

section Region1
variable (V : (c : Dev nD) → (b : Ref sig .tc) → Buf (Elt F) ((c : Thread nD τ).loc b))

theorem N1_0 (t : Fin cfg1.N) : t.val = 0 := by have := lt_of_lt_of_eq t.isLt (N_1 : cfg1.N = 1); omega
theorem zero2 : (![0, 0] : Fin 2 → ℕ) = fun _ => 0 := by funext a; fin_cases a <;> rfl

theorem iblk1_0 (c : Dev nD) (t : Fin cfg1.N) : (iblk1 V c 0 t : Vec F S2x784 .f32) = V c main_v1 := by
  have hz : (fun a => win1_0.index t a * main_v1.ty.shape.size a) = fun _ => 0 := funext fun a => by fin_cases a <;> rfl
  exact Memref.read_access_unit_zero (Elt F) main_v1 hz (fun a => by rw [congrFun hz a]; simp) (V c main_v1)
theorem iblk1_1 (c : Dev nD) (t : Fin cfg1.N) : (iblk1 V c 1 t : Vec F S2x784 .f32) = V c main_v2 := by
  have hz : (fun a => win1_1.index t a * main_v2.ty.shape.size a) = fun _ => 0 := funext fun a => by fin_cases a <;> rfl
  exact Memref.read_access_unit_zero (Elt F) main_v2 hz (fun a => by rw [congrFun hz a]; simp) (V c main_v2)

theorem out1_3_eq (x0 x1 : Vec F S2x784 .f32) (x2 : Vec F S2x784 .i32) : out1_3 x0 x1 x2 = k1_pay3 x1 x0 := by
  unfold out1_3
  rw [View.canon_unit_zero (S := S2x784) zero2, View.ld_unit_zero (S := S2x784) zero2, View.ld_unit_zero (S := S2x784) zero2]

abbrev last1 : Fin cfg1.N := ⟨0, by rw [show cfg1.N = 1 from N_1]; decide⟩

theorem final1_3 (c : Dev nD) : (dat1 V c).arrAt 3 cfg1.N = k1_pay3 (V c main_v2 : Vec F S2x784 .f32) (V c main_v1) :=
  (dat1 V c).arrAt_eq_of_cover 3 (k1_pay3 (V c main_v2 : Vec F S2x784 .f32) (V c main_v1))
    (fun t _ => by
      have hz : (fun a => win1_3.index t a * main_v4_0.ty.shape.size a) = fun _ => 0 := funext fun a => by fin_cases a <;> rfl
      refine Eq.trans ?_ (Memref.read_access_unit_zero (Elt F) main_v4_0 hz (fun a => by rw [congrFun hz a]; simp) (k1_pay3 (V c main_v2 : Vec F S2x784 .f32) (V c main_v1))).symm
      show (cfg1.win 3).cut (grid1.coords t) ((dat1 V c).after 3 t) = _
      rw [after1_3, out1_3_eq, iblk1_0, iblk1_1]
      rfl)
    fun i => ⟨last1, flush1_3 last1, by
      show i ∈ ((View.whole main_v4_0).slice (win1_3.rect last1)).set
      rw [View.set_slice_whole, Rect.mem_set_unit]
      intro a
      have h0 : (i 0 : Nat) < 2 := (i 0).isLt
      have h1 : (i 1 : Nat) < 784 := (i 1).isLt
      match a with
      | ⟨0, _⟩ => exact ⟨by show 0 * 2 ≤ (i 0 : Nat); omega, by show (i 0 : Nat) < 0 * 2 + 2; omega⟩
      | ⟨1, _⟩ => exact ⟨by show 0 * 784 ≤ (i 1 : Nat); omega, by show (i 1 : Nat) < 0 * 784 + 784; omega⟩⟩

end Region1

/-! ## The map -/

section Region2
variable (V : (c : Dev nD) → (b : Ref sig .tc) → Buf (Elt F) ((c : Thread nD τ).loc b))

theorem iblk2_0 (c : Dev nD) (t : Fin cfg2.N) : (iblk2 V c 0 t : Vec F S2x28x28 .f32) = V c main_v5 := by
  have hz : (fun a => win2_0.index t a * main_v5.ty.shape.size a) = fun _ => 0 := funext fun a => by fin_cases a <;> rfl
  exact Memref.read_access_unit_zero (Elt F) main_v5 hz (fun a => by rw [congrFun hz a]; simp) (V c main_v5)
theorem iblk2_1 (c : Dev nD) (t : Fin cfg2.N) : (iblk2 V c 1 t : Vec F S224x28 .f32) = V c main_v40 := by
  have hz : (fun a => win2_1.index t a * main_v40.ty.shape.size a) = fun _ => 0 := funext fun a => by fin_cases a <;> rfl
  exact Memref.read_access_unit_zero (Elt F) main_v40 hz (fun a => by rw [congrFun hz a]; simp) (V c main_v40)

abbrev last2 : Fin cfg2.N := ⟨0, by rw [show cfg2.N = 1 from N_2]; decide⟩

theorem final2_2 (c : Dev nD) : (dat2 V c).arrAt 2 cfg2.N = out2_2 (V c main_v5 : Vec F S2x28x28 .f32) (V c main_v40) :=
  (dat2 V c).arrAt_eq_of_cover 2 (out2_2 (V c main_v5 : Vec F S2x28x28 .f32) (V c main_v40))
    (fun t _ => by
      have hz : (fun a => win2_2.index t a * main_v41.ty.shape.size a) = fun _ => 0 := funext fun a => by fin_cases a <;> rfl
      refine Eq.trans ?_ (Memref.read_access_unit_zero (Elt F) main_v41 hz (fun a => by rw [congrFun hz a]; simp) (out2_2 (V c main_v5 : Vec F S2x28x28 .f32) (V c main_v40))).symm
      show (cfg2.win 2).cut (grid2.coords t) ((dat2 V c).after 2 t) = _
      rw [after2_2, iblk2_0, iblk2_1]
      rfl)
    fun i => ⟨last2, flush2_2 last2, by
      show i ∈ ((View.whole main_v41).slice (win2_2.rect last2)).set
      rw [View.set_slice_whole, Rect.mem_set_unit]
      intro a
      have h0 : (i 0 : Nat) < 2 := (i 0).isLt
      have h1 : (i 1 : Nat) < 1 := (i 1).isLt
      have h2 : (i 2 : Nat) < 224 := (i 2).isLt
      have h3 : (i 3 : Nat) < 224 := (i 3).isLt
      match a with
      | ⟨0, _⟩ => exact ⟨by show 0 * 2 ≤ (i 0 : Nat); omega, by show (i 0 : Nat) < 0 * 2 + 2; omega⟩
      | ⟨1, _⟩ => exact ⟨by show 0 * 1 ≤ (i 1 : Nat); omega, by show (i 1 : Nat) < 0 * 1 + 1; omega⟩
      | ⟨2, _⟩ => exact ⟨by show 0 * 224 ≤ (i 2 : Nat); omega, by show (i 2 : Nat) < 0 * 224 + 224; omega⟩
      | ⟨3, _⟩ => exact ⟨by show 0 * 224 ≤ (i 3 : Nat); omega, by show (i 3 : Nat) < 0 * 224 + 224; omega⟩⟩

end Region2

end Cert.KernelIdeal
-- ==== Proof.Value.Distance.lean ====
module

public import proofs.«01_k».proof.Proof.Value.Algebra
public import proofs.«01_k».proof.Proof.I.Region0

/-! Over the extended reals: what the first region's loops make of the embedding and of a block of the bank, and the
running minimum after every block. -/

@[expose] public section

set_option maxRecDepth 16384

noncomputable section

namespace Cert.KernelIdeal

open Idealize.ShloMosaic Idealize.ShloMosaic.TcCoe
open Cert.Shared
open Gen

/-! ## The rectangles' places -/

section Places
variable {α : Type}

theorem emb1 (k : Fin k0_t1_loop.trips) (p : Fin 112) (q : Fin 1536) (h : 112 * k.val + p.val < 1568) :
    (r1 k).emb (ix2 p q) = (ix2 ⟨112 * k.val + p.val, h⟩ q : S1568x1536.Idx) := by
  funext a
  refine Fin.ext ?_
  have e := congrFun (k0_off1_eq k) a
  match a with
  | ⟨0, _⟩ => show (k0_off1 k) 0 + 1 * p.val = 112 * k.val + p.val; rw [show (k0_off1 k) 0 = 112 * k.val from e]; omega
  | ⟨1, _⟩ => show (k0_off1 k) 1 + 1 * q.val = q.val; rw [show (k0_off1 k) 1 = 0 from e]; omega

theorem emb2 (k : Fin k0_t1_loop.trips) (p : Fin 112) (q : Fin 1) (h : 112 * k.val + p.val < 1568) :
    (r2 k).emb (ix2 p q) = (ix2 ⟨112 * k.val + p.val, h⟩ q : S1568x1.Idx) := by
  funext a
  refine Fin.ext ?_
  have e := congrFun (k0_off2_eq k) a
  match a with
  | ⟨0, _⟩ => show (k0_off2 k) 0 + 1 * p.val = 112 * k.val + p.val; rw [show (k0_off2 k) 0 = 112 * k.val from e]; omega
  | ⟨1, _⟩ => show (k0_off2 k) 1 + 1 * q.val = q.val; rw [show (k0_off2 k) 1 = 0 from e]; omega

theorem emb3 (k : Fin k0_t2_loop.trips) (p : Fin 128) (q : Fin 1536) (h : 128 * k.val + p.val < 1024) :
    (r3 k).emb (ix2 p q) = (ix2 ⟨128 * k.val + p.val, h⟩ q : S1024x1536.Idx) := by
  funext a
  refine Fin.ext ?_
  have e := congrFun (k0_off3_eq k) a
  match a with
  | ⟨0, _⟩ => show (k0_off3 k) 0 + 1 * p.val = 128 * k.val + p.val; rw [show (k0_off3 k) 0 = 128 * k.val from e]; omega
  | ⟨1, _⟩ => show (k0_off3 k) 1 + 1 * q.val = q.val; rw [show (k0_off3 k) 1 = 0 from e]; omega

theorem emb4 (k : Fin k0_t2_loop.trips) (p : Fin 1) (q : Fin 128) (h : 128 * k.val + q.val < 1024) :
    (r4 k).emb (ix2 p q) = (ix2 p ⟨128 * k.val + q.val, h⟩ : S1x1024.Idx) := by
  funext a
  refine Fin.ext ?_
  have e := congrFun (k0_off4_eq k) a
  match a with
  | ⟨0, _⟩ => show (k0_off4 k) 0 + 1 * p.val = p.val; rw [show (k0_off4 k) 0 = 0 from e]; omega
  | ⟨1, _⟩ => show (k0_off4 k) 1 + 1 * q.val = 128 * k.val + q.val; rw [show (k0_off4 k) 1 = 128 * k.val from e]; omega

theorem emb5 (k : Fin k0_t3_loop.trips) (p : Fin 112) (q : Fin 1024) (h : 112 * k.val + p.val < 1568) :
    (r5 k).emb (ix2 p q) = (ix2 ⟨112 * k.val + p.val, h⟩ q : S1568x1024.Idx) := by
  funext a
  refine Fin.ext ?_
  have e := congrFun (k0_off5_eq k) a
  match a with
  | ⟨0, _⟩ => show (k0_off5 k) 0 + 1 * p.val = 112 * k.val + p.val; rw [show (k0_off5 k) 0 = 112 * k.val from e]; omega
  | ⟨1, _⟩ => show (k0_off5 k) 1 + 1 * q.val = q.val; rw [show (k0_off5 k) 1 = 0 from e]; omega

theorem emb6 (k : Fin k0_t3_loop.trips) (p : Fin 112) (q : Fin 1) (h : 112 * k.val + p.val < 1568) :
    (r6 k).emb (ix2 p q) = (ix2 ⟨112 * k.val + p.val, h⟩ q : S1568x1.Idx) := by
  funext a
  refine Fin.ext ?_
  have e := congrFun (k0_off6_eq k) a
  match a with
  | ⟨0, _⟩ => show (k0_off6 k) 0 + 1 * p.val = 112 * k.val + p.val; rw [show (k0_off6 k) 0 = 112 * k.val from e]; omega
  | ⟨1, _⟩ => show (k0_off6 k) 1 + 1 * q.val = q.val; rw [show (k0_off6 k) 1 = 0 from e]; omega

theorem row1 (k : Fin k0_t1_loop.trips) (p : Fin 112) : 112 * k.val + p.val < 1568 := by
  have := lt_of_lt_of_eq k.isLt trips1; have := p.isLt; omega
theorem row2 (k : Fin k0_t2_loop.trips) (p : Fin 128) : 128 * k.val + p.val < 1024 := by
  have := lt_of_lt_of_eq k.isLt trips2; have := p.isLt; omega
theorem row3 (k : Fin k0_t3_loop.trips) (p : Fin 112) : 112 * k.val + p.val < 1568 := by
  have := lt_of_lt_of_eq k.isLt trips3; have := p.isLt; omega

end Places

/-! ## What the initialisation makes of the embedding -/

/-- Narrowing changes nothing here. -/
theorem ehOf_eq (x : Vec Ideal S1568x1536 .f32) : ehOf x = (x : S1568x1536.Idx → EReal) :=
  steps_overlay_eq r1 (fun k => k0_pay1 (View.ld x (r1 k))) cover1 _ _ fun k y => by
    unfold k0_pay1
    rw [shapeCast_self]
    rfl

/-- The squared norms, row by row. -/
theorem e2Of_eq (x : Vec Ideal S1568x1536 .f32) :
    e2Of x = fun y : S1568x1.Idx => ∑ q : Fin 1536, (x (ix2 (y 0) q) * x (ix2 (y 0) q) : EReal) :=
  steps_overlay_eq r2 (fun k => k0_pay2 (View.ld x (r1 k))) cover2 _ _ fun k y => by
    obtain ⟨p, o, rfl⟩ : ∃ (p : Fin 112) (o : Fin 1), y = ix2 p o := ⟨y 0, y 1, eq_ix2 y⟩
    rw [emb2 k p o (row1 k p)]
    have h : ∀ q : Fin 1536, View.ld x (r1 k) (ix2 p q) = x (ix2 ⟨112 * k.val + p.val, row1 k p⟩ q) := fun q => by
      show x ((r1 k).emb (ix2 p q)) = _
      rw [emb1 k p q (row1 k p)]
    have e : k0_pay2 (View.ld x (r1 k)) (ix2 p o) = ∑ q : Fin 1536, (View.ld x (r1 k) (ix2 p q) * View.ld x (r1 k) (ix2 p q) : EReal) := by
      generalize View.ld x (r1 k) = v
      revert v
      intro v
      pointwise [k0_pay2]
    rw [e]
    exact Finset.sum_congr rfl fun q _ => by rw [h q]; rfl

/-- The running minimum starts at infinity. -/
theorem startOf_eq : (startOf (F := Ideal)).1 = fun _ : S1568x1.Idx => (⊤ : EReal) :=
  steps_overlay_eq r2 (fun _ => k0_pay3 (F := Ideal)) cover2 _ _ fun k y => by
    unfold k0_pay3
    exact IdealRules.named_const.ideal_named_scalar _ _ _ _ rfl

/-! ## What a block of the bank becomes -/

theorem bhOf_eq (b : Vec Ideal S1024x1536 .f32) : bhOf b = (b : S1024x1536.Idx → EReal) :=
  steps_overlay_eq r3 (fun k => k0_pay5 (View.ld b (r3 k))) cover3 _ _ fun k y => by
    unfold k0_pay5
    rw [shapeCast_self]
    rfl

theorem b2Of_eq (b : Vec Ideal S1024x1536 .f32) :
    b2Of b = fun y : S1x1024.Idx => ∑ q : Fin 1536, (b (ix2 (y 1) q) * b (ix2 (y 1) q) : EReal) :=
  steps_overlay_eq r4 (fun k => k0_pay6 (View.ld b (r3 k))) cover4 _ _ fun k y => by
    obtain ⟨o, p, rfl⟩ : ∃ (o : Fin 1) (p : Fin 128), y = ix2 o p := ⟨y 0, y 1, eq_ix2 y⟩
    rw [emb4 k o p (row2 k p)]
    have h : ∀ q : Fin 1536, View.ld b (r3 k) (ix2 p q) = b (ix2 ⟨128 * k.val + p.val, row2 k p⟩ q) := fun q => by
      show b ((r3 k).emb (ix2 p q)) = _
      rw [emb3 k p q (row2 k p)]
    have e : k0_pay6 (View.ld b (r3 k)) (ix2 o p) = ∑ q : Fin 1536, (View.ld b (r3 k) (ix2 p q) * View.ld b (r3 k) (ix2 p q) : EReal) := by
      generalize View.ld b (r3 k) = v
      pointwise [k0_pay6]
    rw [e]
    exact Finset.sum_congr rfl fun q _ => by rw [h q]; rfl

/-- The products of the embedding's rows with the block's. -/
theorem prods_eq (x : Vec Ideal S1568x1536 .bf16) (b : Vec Ideal S1024x1536 .bf16) (r : Fin 1568) (n : Fin 1024) :
    k0_pay7 x b (ix2 r n) = ∑ q : Fin 1536, (x (ix2 r q) * b (ix2 n q) : EReal) := by
  pointwise [k0_pay7]

/-! ## The running minimum -/

theorem top_bits : Ideal.ofBits .f32 0x7F800000#32 = ⊤ := by simp [Ideal.ofBits, Ideal.ieee]

/-- A tile's minimum against what it held. -/
theorem pay12_eq (b2 : Vec Ideal S1x1024 .f32) (s : Vec Ideal S112x1024 .f32) (X : Vec Ideal S112x1 .f32) (p : Fin 112) :
    k0_pay12 b2 s X X (ix2 p 0)
      = min (X (ix2 p 0) : EReal) (Finset.univ.fold min ⊤ fun n : Fin 1024 => (b2 (ix2 0 n) : EReal) - Ideal.ofBits .f32 0x40000000#32 * s (ix2 p n)) := by
  have h9 : k0_pay9 b2 s (ix2 p 0) = Finset.univ.fold min ⊤ fun n : Fin 1024 => (b2 (ix2 0 n) : EReal) - Ideal.ofBits .f32 0x40000000#32 * s (ix2 p n) := by
    pointwise [k0_pay9, k0_pay8]
    rw [top_bits]
  pointwise [k0_pay12, k0_pay10]
  rw [h9]
  generalize Finset.univ.fold min ⊤ (fun n : Fin 1024 => (b2 (ix2 0 n) : EReal) - Ideal.ofBits .f32 0x40000000#32 * s (ix2 p n)) = u
  split_ifs with h
  · exact (min_eq_right h.le).symm
  · exact (min_eq_left (not_lt.mp h)).symm

/-- The least of a row's parts over a block. -/
def best (b2 : Vec Ideal S1x1024 .f32) (s : Vec Ideal S1568x1024 .f32) (r : Fin 1568) : EReal :=
  Finset.univ.fold min ⊤ fun n : Fin 1024 => (b2 (ix2 0 n) : EReal) - Ideal.ofBits .f32 0x40000000#32 * s (ix2 r n)

section Step
variable (i : grid0.Coords) (b2 : Vec Ideal S1x1024 .f32) (s : Vec Ideal S1568x1024 .f32) (k : Fin k0_t3_loop.trips)
  (X : Vec Ideal S1568x1 .f32 × Vec Ideal S1568x1 .i32)

theorem minStep_in (p : Fin 112) : (minStep i b2 s k X).1 (ix2 ⟨112 * k.val + p.val, row3 k p⟩ 0)
    = min (X.1 (ix2 ⟨112 * k.val + p.val, row3 k p⟩ 0) : EReal) (best b2 s ⟨112 * k.val + p.val, row3 k p⟩) := by
  show (r6 k).overlay X.1 (k0_pay12 b2 (View.ld s (r5 k)) (View.ld X.1 (r6 k)) (View.ld X.1 (r6 k))) _ = _
  have e := emb6 k p 0 (row3 k p)
  rw [← e]
  refine (Rect.overlay_emb _ _ _ _).trans ((pay12_eq b2 (View.ld s (r5 k)) (View.ld X.1 (r6 k)) p).trans ?_)
  congr 1
  unfold best
  congr 1
  funext n
  congr 2
  show s ((r5 k).emb (ix2 p n)) = _
  rw [emb5 k p n (row3 k p)]

theorem minStep_out (r : Fin 1568) (h : r.val < 112 * k.val ∨ 112 * k.val + 112 ≤ r.val) :
    (minStep i b2 s k X).1 (ix2 r 0) = X.1 (ix2 r 0) :=
  Rect.overlay_of_not_mem _ _ _ fun hm => by
    obtain ⟨x, hx⟩ := (r6 k).exists_idx_of_mem hm
    obtain ⟨p, o, rfl⟩ : ∃ (p : Fin 112) (o : Fin 1), x = ix2 p o := ⟨x 0, x 1, eq_ix2 x⟩
    replace hx := (emb6 k p o (row3 k p)).symm.trans hx
    have h0 : 112 * k.val + p.val = r.val := congrArg Fin.val (congrFun hx 0)
    have := p.isLt
    omega

end Step

/-- After the first `n` tiles the rows they hold have met the block. -/
theorem tiles_row (i : grid0.Coords) (b2 : Vec Ideal S1x1024 .f32) (s : Vec Ideal S1568x1024 .f32)
    (X : Vec Ideal S1568x1 .f32 × Vec Ideal S1568x1 .i32) (r : Fin 1568) : ∀ n, n ≤ k0_t3_loop.trips →
    (steps (minStep i b2 s) X n).1 (ix2 r 0) = if r.val < 112 * n then min (X.1 (ix2 r 0) : EReal) (best b2 s r) else X.1 (ix2 r 0)
  | 0, _ => by rw [if_neg (by omega)]; rfl
  | n + 1, hn => by
    have ih := tiles_row i b2 s X r n (by omega)
    have hn' : n < 14 := by rw [trips3] at hn; omega
    rw [show n + 1 = (⟨n, hn⟩ : Fin k0_t3_loop.trips).val + 1 from rfl, steps_succ]
    by_cases hin : 112 * n ≤ r.val ∧ r.val < 112 * n + 112
    · obtain ⟨p, rfl⟩ : ∃ p : Fin 112, r = ⟨112 * n + p.val, row3 ⟨n, hn⟩ p⟩ := ⟨⟨r.val - 112 * n, by omega⟩, Fin.ext (by show r.val = 112 * n + (r.val - 112 * n); omega)⟩
      refine (minStep_in i b2 s ⟨n, hn⟩ _ p).trans ?_
      have hp := p.isLt
      rw [if_neg (show ¬ 112 * n + p.val < 112 * n by omega)] at ih
      rw [if_pos (show 112 * n + p.val < 112 * (n + 1) by omega)]
      exact congrArg (fun z : EReal => min z _) ih
    · rw [minStep_out i b2 s ⟨n, hn⟩ _ r (by show r.val < 112 * n ∨ 112 * n + 112 ≤ r.val; omega)]
      refine ih.trans ?_
      by_cases h : r.val < 112 * n
      · rw [if_pos h, if_pos (by show r.val < 112 * (n + 1); omega)]
      · rw [if_neg h, if_neg (by show ¬ r.val < 112 * (n + 1); omega)]

/-- A row's part against a row of the bank: the squared norm less twice the product. -/
def part {n : ℕ} (x : Vec Ideal S1568x1536 .f32) (b : Fin n → Fin 1536 → EReal) (r : Fin 1568) (l : Fin n) : EReal :=
  (∑ q : Fin 1536, b l q * b l q) - Ideal.ofBits .f32 0x40000000#32 * ∑ q : Fin 1536, (x (ix2 r q) : EReal) * b l q

theorem meet_row (i : grid0.Coords) (x : Vec Ideal S1568x1536 .f32) (b : Vec Ideal S1024x1536 .f32)
    (X : Vec Ideal S1568x1 .f32 × Vec Ideal S1568x1 .i32) (r : Fin 1568) :
    (meet i (ehOf x) b X).1 (ix2 r 0)
      = min (X.1 (ix2 r 0) : EReal) (Finset.univ.fold min ⊤ (part x (fun (l : Fin 1024) q => b (ix2 l q)) r)) := by
  unfold meet
  rw [tiles_row i _ _ X r _ le_rfl, if_pos (by rw [trips3]; have := r.isLt; omega)]
  congr 1
  unfold best
  congr 1
  funext l
  unfold part
  rw [prods_eq, ehOf_eq, bhOf_eq, b2Of_eq]
  rfl

variable (V : (c : Dev nD) → (b : Ref sig .tc) → Buf (Elt Ideal) ((c : Thread nD τ).loc b))

/-- What lies below the running minimum after `n` blocks: what lies below every part met. -/
theorem le_acc (c : Dev nD) (x : Vec Ideal S1568x1536 .f32) (hx : emb V c = x) (b : Fin 16384 → Fin 1536 → EReal)
    (hb : ∀ (t : Fin cfg0.N) (l : Fin 1024) (q : Fin 1536) (h : 1024 * t.val + l.val < 16384),
      (iblk0 V c 1 t : Vec Ideal S1024x1536 .f32) (ix2 l q) = b ⟨1024 * t.val + l.val, h⟩ q)
    (r : Fin 1568) (y : EReal) : ∀ n, n ≤ 16 →
      (y ≤ (accAt V c n).1 (ix2 r 0) ↔ ∀ l : Fin 16384, l.val < 1024 * n → y ≤ part x b r l)
  | 0, _ => by
    have : (accAt V c 0).1 (ix2 r 0) = (⊤ : EReal) := congrFun startOf_eq _
    rw [this]
    exact ⟨fun _ l h => absurd h (by omega), fun _ => le_top⟩
  | n + 1, hn => by
    have hN : n < cfg0.N := by rw [show cfg0.N = 16 from N_0]; omega
    have ih := le_acc c x hx b hb r y n (by omega)
    have e : accAt V c (n + 1) = meet (grid0.coords ⟨n, hN⟩) (ehOf (emb V c)) (iblk0 V c 1 ⟨n, hN⟩) (accAt V c n) := accAt_succ V c ⟨n, hN⟩
    rw [e, hx, meet_row, le_min_iff, ih]
    have e2 : (y ≤ Finset.univ.fold min ⊤ (part x (fun (l : Fin 1024) q => (iblk0 V c 1 ⟨n, hN⟩ : Vec Ideal S1024x1536 .f32) (ix2 l q)) r))
        ↔ ∀ l : Fin 1024, y ≤ part x b r ⟨1024 * n + l.val, by have := l.isLt; omega⟩ := by
      rw [Finset.le_fold_min]
      have hp : ∀ l : Fin 1024, part x (fun (l : Fin 1024) q => (iblk0 V c 1 ⟨n, hN⟩ : Vec Ideal S1024x1536 .f32) (ix2 l q)) r l
          = part x b r ⟨1024 * n + l.val, by have := l.isLt; omega⟩ := fun l => by
        unfold part
        simp only [hb ⟨n, hN⟩ l _ (by have := l.isLt; show 1024 * n + l.val < 16384; omega)]
      exact ⟨fun h l => by rw [← hp l]; exact h.2 l (Finset.mem_univ _), fun h => ⟨le_top, fun l _ => by rw [hp l]; exact h l⟩⟩
    rw [e2]
    constructor
    · rintro ⟨h1, h2⟩ l hl
      by_cases h : l.val < 1024 * n
      · exact h1 l h
      · have := h2 ⟨l.val - 1024 * n, by omega⟩
        rwa [show (⟨1024 * n + (l.val - 1024 * n), by omega⟩ : Fin 16384) = l from Fin.ext (by show 1024 * n + (l.val - 1024 * n) = l.val; omega)] at this
    · intro h
      exact ⟨fun l hl => h l (by omega), fun l => h _ (by have := l.isLt; show 1024 * n + l.val < 1024 * (n + 1); omega)⟩

/-- The running minimum after all blocks is the least part over the whole bank. -/
theorem acc_row (c : Dev nD) (x : Vec Ideal S1568x1536 .f32) (hx : emb V c = x) (b : Fin 16384 → Fin 1536 → EReal)
    (hb : ∀ (t : Fin cfg0.N) (l : Fin 1024) (q : Fin 1536) (h : 1024 * t.val + l.val < 16384),
      (iblk0 V c 1 t : Vec Ideal S1024x1536 .f32) (ix2 l q) = b ⟨1024 * t.val + l.val, h⟩ q) (r : Fin 1568) :
    (accAt V c 16).1 (ix2 r 0) = Finset.univ.fold min ⊤ (part x b r) := by
  refine eq_of_forall_le_iff fun y => ?_
  rw [le_acc V c x hx b hb r y 16 le_rfl, Finset.le_fold_min]
  exact ⟨fun h => ⟨le_top, fun l _ => h l l.isLt⟩, fun h l _ => h.2 l (Finset.mem_univ _)⟩

end Cert.KernelIdeal
-- ==== Proof.Value.Matrix.lean ====
module

public import proofs.«01_k».proof.Proof.Value.Algebra
public import proofs.«01_k».proof.Proof.I.Run
public import Idealize.ShloMosaic.Lib.StableHlo.Run
public import Idealize.ShloMosaic.Lib.StableHlo.RunRead

/-! What the host lines between the regions leave: the columns as rows, the scores as a map, and the matrix that
blurs and spreads. -/

@[expose] public section

set_option maxRecDepth 16384
set_option maxHeartbeats 1000000

noncomputable section

namespace Cert.KernelIdeal

open Idealize.ShloMosaic Idealize.ShloMosaic.TcCoe
open Cert.Shared
open Gen hiding V0 V1 V2 V3 V4 V5 V6 V7 V8 V9 V10 V1_of V2_of V3_of V4_of V5_of V6_of V7_of V8_of V9_of V10_of

section Lines
variable {F : FTy → Type} [FloatOps F] [Named F] (V : Valuation τ sig (Elt F))

/-- The taps' weights as the host line computes them. -/
def tapsH : FVec F S33 .f32 :=
  have z : FVec F S33 .f32 := Host.divf (subf (sitofp .f32 (iotaInDim S33 32 0)) (broadcastInDim S33 ![] bcast_S_S33 (constant S_ .f32 0x41800000#32))) (broadcastInDim S33 ![] bcast_S_S33 (constant S_ .f32 0x40800000#32))
  have e : FVec F S33 .f32 := Host.exp (mulf (broadcastInDim S33 ![] bcast_S_S33 (constant S_ .f32 0xBF000000#32)) (mulf z z))
  Host.divf e (broadcastInDim S33 ![] bcast_S_S33 (Host.reduceAdd e (constant S_ .f32 0x00000000#32) reducesTo_S33_S_d0 h_S_))

/-- A tap's row, before it is reflected. -/
def posH : IVec S224x33x28 32 :=
  addi (subi (iotaInDim S224x33x28 32 0) (broadcastInDim S224x33x28 ![] bcast_S_S224x33x28 (constantI S_ 32 16#32))) (iotaInDim S224x33x28 32 1)

theorem line2_v5 : StableHlo.after hostOps2 V (Proc.devRef .tc main_v5) = shapeCast S2x28x28 (V (Proc.devRef .tc main_v4_0) : FVec F S2x784 .f32) shapeCasts_S2x784_S2x28x28 := by
  simp only [hostOps2]
  after_results_simp <;> rfl
theorem line2_v17 : StableHlo.after hostOps2 V (Proc.devRef .tc main_v17) = (tapsH : FVec F S33 .f32) := by
  simp only [hostOps2]
  after_results_simp <;> rfl
theorem line2_v20 : StableHlo.after hostOps2 V (Proc.devRef .tc main_v20) = iotaInDim S224x33x28 32 2 := by
  simp only [hostOps2]
  after_results_simp <;> rfl
theorem line2_v23 : StableHlo.after hostOps2 V (Proc.devRef .tc main_v23) = posH := by
  simp only [hostOps2]
  after_results_simp <;> rfl
theorem line2_v25 : StableHlo.after hostOps2 V (Proc.devRef .tc main_v25) = cmpi .slt posH (broadcastInDim S224x33x28 ![] bcast_S_S224x33x28 (constantI S_ 32 0#32)) := by
  simp only [hostOps2]
  after_results_simp <;> rfl
theorem line2_v26 : StableHlo.after hostOps2 V (Proc.devRef .tc main_v26) = negi posH := by
  simp only [hostOps2]
  after_results_simp <;> rfl
theorem line2_v28 : StableHlo.after hostOps2 V (Proc.devRef .tc main_v28) = cmpi .sgt posH (broadcastInDim S224x33x28 ![] bcast_S_S224x33x28 (constantI S_ 32 223#32)) := by
  simp only [hostOps2]
  after_results_simp <;> rfl
theorem line2_v30 : StableHlo.after hostOps2 V (Proc.devRef .tc main_v30) = subi (broadcastInDim S224x33x28 ![] bcast_S_S224x33x28 (constantI S_ 32 446#32)) posH := by
  simp only [hostOps2]
  after_results_simp <;> rfl

theorem line3 : StableHlo.after hostOps2_1 V (Proc.devRef .tc main_v31)
    = select (V (Proc.devRef .tc main_v28) : IVec S224x33x28 1) (V (Proc.devRef .tc main_v30) : IVec S224x33x28 32) (V (Proc.devRef .tc main_v23)) := by
  simp only [hostOps2_1]
  after_results_simp <;> rfl
theorem line4 : StableHlo.after hostOps2_2 V (Proc.devRef .tc main_v32)
    = select (V (Proc.devRef .tc main_v25) : IVec S224x33x28 1) (V (Proc.devRef .tc main_v26) : IVec S224x33x28 32) (V (Proc.devRef .tc main_v31)) := by
  simp only [hostOps2_2]
  after_results_simp <;> rfl
theorem line5_v37 : StableHlo.after hostOps2_3 V (Proc.devRef .tc main_v37)
    = cmpi .eq (Host.divsi (muli (V (Proc.devRef .tc main_v32) : IVec S224x33x28 32) (broadcastInDim S224x33x28 ![] bcast_S_S224x33x28 (constantI S_ 32 28#32))) (broadcastInDim S224x33x28 ![] bcast_S_S224x33x28 (constantI S_ 32 224#32))) (V (Proc.devRef .tc main_v20) : IVec S224x33x28 32) := by
  simp only [hostOps2_3]
  after_results_simp <;> rfl
theorem line5_v38 : StableHlo.after hostOps2_3 V (Proc.devRef .tc main_v38)
    = broadcastInDim S1x33x1 ![1] bcast_S33_S1x33x1_1 (V (Proc.devRef .tc main_v17) : FVec F S33 .f32) := by
  simp only [hostOps2_3]
  after_results_simp <;> rfl
theorem line5_cst : StableHlo.after hostOps2_3 V (Proc.devRef .tc main_cst_8) = (constant S_ .f32 0x00000000#32 : FVec F S_ .f32) := by
  simp only [hostOps2_3]
  after_results_simp <;> rfl
theorem line6 : StableHlo.after hostOps2_4 V (Proc.devRef .tc main_v39)
    = select (V (Proc.devRef .tc main_v37) : IVec S224x33x28 1) (broadcastInDim S224x33x28 ![0, 1, 2] bcast_S1x33x1_S224x33x28_0_1_2 (V (Proc.devRef .tc main_v38) : FVec F S1x33x1 .f32))
        (broadcastInDim S224x33x28 ![] bcast_S_S224x33x28 (V (Proc.devRef .tc main_cst_8) : FVec F S_ .f32)) := by
  simp only [hostOps2_4]
  after_results_simp <;> rfl
theorem line7 : StableHlo.after hostOps2_5 V (Proc.devRef .tc main_v40)
    = Host.reduceAdd (V (Proc.devRef .tc main_v39) : FVec F S224x33x28 .f32) (constant S_ .f32 0x00000000#32) reducesTo_S224x33x28_S224x28_d1 h_S_ := by
  simp only [hostOps2_5]
  after_results_simp <;> rfl
theorem line1_v1 : StableHlo.after hostOps1 V (Proc.devRef .tc main_v1) = shapeCast S2x784 (V (Proc.devRef .tc main_v0_0) : FVec F S1568x1 .f32) shapeCasts_S1568x1_S2x784 := by
  simp only [hostOps1]
  after_results_simp <;> rfl
theorem line1_v2 : StableHlo.after hostOps1 V (Proc.devRef .tc main_v2) = shapeCast S2x784 (V (Proc.devRef .tc main_v0_2) : FVec F S1568x1 .f32) shapeCasts_S1568x1_S2x784 := by
  simp only [hostOps1]
  after_results_simp <;> rfl

/-- The tap's row reflected, and the patch it belongs to. -/
def patchH : IVec S224x33x28 32 :=
  have q : IVec S224x33x28 32 := select (cmpi .sgt posH (broadcastInDim S224x33x28 ![] bcast_S_S224x33x28 (constantI S_ 32 223#32)))
    (subi (broadcastInDim S224x33x28 ![] bcast_S_S224x33x28 (constantI S_ 32 446#32)) posH) posH
  have q' : IVec S224x33x28 32 := select (cmpi .slt posH (broadcastInDim S224x33x28 ![] bcast_S_S224x33x28 (constantI S_ 32 0#32))) (negi posH) q
  Host.divsi (muli q' (broadcastInDim S224x33x28 ![] bcast_S_S224x33x28 (constantI S_ 32 28#32))) (broadcastInDim S224x33x28 ![] bcast_S_S224x33x28 (constantI S_ 32 224#32))

/-- The matrix that blurs and spreads, as the host lines compute it. -/
def matrixH : FVec F S224x28 .f32 :=
  Host.reduceAdd (select (cmpi .eq patchH (iotaInDim S224x33x28 32 2))
    (broadcastInDim S224x33x28 ![0, 1, 2] bcast_S1x33x1_S224x33x28_0_1_2 (broadcastInDim S1x33x1 ![1] bcast_S33_S1x33x1_1 (tapsH : FVec F S33 .f32)))
    (broadcastInDim S224x33x28 ![] bcast_S_S224x33x28 (constant S_ .f32 0x00000000#32))) (constant S_ .f32 0x00000000#32) reducesTo_S224x33x28_S224x28_d1 h_S_

end Lines

section Run
variable {F : FTy → Type} [FloatOps F] [Named F] (m : (ℓ : Loc nD τ sig) → Buf (Elt F) ℓ) (ρ : Dev nD → PrngReg) (c : Dev nD)

theorem W9_v40 : W9 m ρ c (Proc.devRef .tc main_v40) = (matrixH : FVec F S224x28 .f32) := by
  have a28 : W4 m ρ c (Proc.devRef .tc main_v28) = _ := line2_v28 _
  have a30 : W4 m ρ c (Proc.devRef .tc main_v30) = _ := line2_v30 _
  have a23 : W4 m ρ c (Proc.devRef .tc main_v23) = _ := line2_v23 _
  have a31 : W5 m ρ c (Proc.devRef .tc main_v31) = _ := line3 _
  rw [a28, a30, a23] at a31
  have a25 : W5 m ρ c (Proc.devRef .tc main_v25) = _ := (W5_of m ρ c main_v25 (by decide +kernel)).trans (line2_v25 _)
  have a26 : W5 m ρ c (Proc.devRef .tc main_v26) = _ := (W5_of m ρ c main_v26 (by decide +kernel)).trans (line2_v26 _)
  have a32 : W6 m ρ c (Proc.devRef .tc main_v32) = _ := line4 _
  rw [a25, a26, a31] at a32
  have a20 : W6 m ρ c (Proc.devRef .tc main_v20) = _ :=
    ((W6_of m ρ c main_v20 (by decide +kernel)).trans (W5_of m ρ c main_v20 (by decide +kernel))).trans (line2_v20 _)
  have a17 : W6 m ρ c (Proc.devRef .tc main_v17) = _ :=
    ((W6_of m ρ c main_v17 (by decide +kernel)).trans (W5_of m ρ c main_v17 (by decide +kernel))).trans (line2_v17 _)
  have a37 : W7 m ρ c (Proc.devRef .tc main_v37) = _ := line5_v37 _
  rw [a32, a20] at a37
  have a38 : W7 m ρ c (Proc.devRef .tc main_v38) = _ := line5_v38 _
  rw [a17] at a38
  have a8 : W7 m ρ c (Proc.devRef .tc main_cst_8) = _ := line5_cst _
  have a39 : W8 m ρ c (Proc.devRef .tc main_v39) = _ := line6 _
  rw [a37, a38, a8] at a39
  have a40 : W9 m ρ c (Proc.devRef .tc main_v40) = _ := line7 _
  rw [a39] at a40
  exact a40

theorem W9_v5 : W9 m ρ c (Proc.devRef .tc main_v5) = shapeCast S2x28x28 (W3 m ρ c (Proc.devRef .tc main_v4_0) : FVec F S2x784 .f32) shapeCasts_S2x784_S2x28x28 :=
  ((W9_of m ρ c main_v5 (by decide +kernel)).trans ((W8_of m ρ c main_v5 (by decide +kernel)).trans ((W7_of m ρ c main_v5 (by decide +kernel)).trans
    ((W6_of m ρ c main_v5 (by decide +kernel)).trans (W5_of m ρ c main_v5 (by decide +kernel)))))).trans (line2_v5 _)

end Run

/-! ## The matrix at an index -/

/-- The word of the tap's patch, from the words of its row and its place. -/
def patchW (i : Fin 224) (k : Fin 33) : BitVec 32 :=
  have p : BitVec 32 := IntOp.addi (IntOp.subi (BitVec.ofNat 32 i.val) 16#32) (BitVec.ofNat 32 k.val)
  IntOp.divsi .host (IntOp.muli (Scalar.select (IntOp.cmpi .slt p 0#32) (-p) (Scalar.select (IntOp.cmpi .sgt p 223#32) (IntOp.subi 446#32 p) p)) 28#32) 224#32

theorem patchW_eq : ∀ (i : Fin 224) (k : Fin 33), patchW i k = BitVec.ofNat 32 (patch i k).val := by decide +kernel

/-- The words that pick a patch pick the tap's. -/
theorem pick (i : Fin 224) (k : Fin 33) (r : Fin 28) : (patchH (ix3 i k r) = BitVec.ofNat 32 r.val) ↔ patch i k = r := by
  have h : patchH (ix3 i k r) = patchW i k := by
    pointwise [patchH, posH]
    rfl
  rw [h, patchW_eq]
  constructor
  · intro e
    have e' := congrArg BitVec.toNat e
    rw [BitVec.toNat_ofNat, BitVec.toNat_ofNat] at e'
    have := (patch i k).isLt
    have := r.isLt
    exact Fin.ext (by omega)
  · intro e
    rw [e]

theorem taps_at (k : Fin 33) : (tapsH (F := Ideal)) (ix1 k) = weight k := by
  pointwise [tapsH]
  rfl

theorem matrix_at (i : Fin 224) (r : Fin 28) : (matrixH (F := Ideal)) (ix2 i r) = ∑ k : Fin 33, if patch i k = r then weight k else 0 := by
  pointwise [matrixH]
  refine Finset.sum_congr rfl fun k _ => ?_
  rw [taps_at]
  by_cases h : patch i k = r
  · rw [if_pos h, (pick i k r).mpr h]
    simp [IntOp.cmpi, Scalar.select]
  · have h' := fun e => h ((pick i k r).mp e)
    rw [if_neg h]
    have hb : (patchH (ix3 i k r) == BitVec.ofNat 32 r.val) = false := beq_eq_false_iff_ne.mpr h'
    simp [IntOp.cmpi, Scalar.select, hb]

end Cert.KernelIdeal
-- ==== Proof.Value.Kernel.lean ====
module

public import proofs.«01_k».proof.Proof.Value.Arrays
public import proofs.«01_k».proof.Proof.Value.Distance
public import proofs.«01_k».proof.Proof.Value.Matrix

/-! The kernel's result at an index: the scores of the patches, blurred along one axis and then along the other. -/

@[expose] public section

set_option maxRecDepth 16384
set_option maxHeartbeats 1000000

noncomputable section

namespace Cert.KernelIdeal

open Idealize.ShloMosaic Idealize.ShloMosaic.TcCoe
open Idealize.SL.Sem
open Cert.Shared
open Gen hiding V0 V1 V2 V3 V4 V5 V6 V7 V8 V9 V10 V1_of V2_of V3_of V4_of V5_of V6_of V7_of V8_of V9_of V10_of

/-! ## The last region at an index -/

section Map
variable (A : Vec Ideal S224x28 .f32) (p : Vec Ideal S1x28x28 .f32) (o o' : Fin 1) (i j : Fin 224)

theorem pay2_at : k2_pay2 A p (ix4 o o' i j) = ∑ c : Fin 28, (∑ r : Fin 28, (A (ix2 i r) * p (ix3 0 r c) : EReal)) * A (ix2 j c) := by
  pointwise [k2_pay2, k2_pay1]
theorem pay3_at : k2_pay3 A p (ix4 o o' i j) = ∑ c : Fin 28, (∑ r : Fin 28, (A (ix2 i r) * p (ix3 0 r c) : EReal)) * A (ix2 j c) := by
  pointwise [k2_pay3, k2_pay1]

end Map

section Out
variable (x : Vec Ideal S2x28x28 .f32) (A : Vec Ideal S224x28 .f32)

theorem embA (o o' : Fin 1) (i j : Fin 224) : r2_2.emb (ix4 o o' i j) = (ix4 0 0 i j : S2x1x224x224.Idx) := by
  funext a
  refine Fin.ext ?_
  have h0 := o.isLt
  have h1 := o'.isLt
  match a with
  | ⟨0, _⟩ => show 0 + 1 * o.val = 0; omega
  | ⟨1, _⟩ => show 0 + 1 * o'.val = 0; omega
  | ⟨2, _⟩ => show 0 + 1 * i.val = i.val; omega
  | ⟨3, _⟩ => show 0 + 1 * j.val = j.val; omega
theorem embB (o o' : Fin 1) (i j : Fin 224) : r2_4.emb (ix4 o o' i j) = (ix4 1 0 i j : S2x1x224x224.Idx) := by
  funext a
  refine Fin.ext ?_
  have h0 := o.isLt
  have h1 := o'.isLt
  match a with
  | ⟨0, _⟩ => show 1 + 1 * o.val = 1; omega
  | ⟨1, _⟩ => show 0 + 1 * o'.val = 0; omega
  | ⟨2, _⟩ => show 0 + 1 * i.val = i.val; omega
  | ⟨3, _⟩ => show 0 + 1 * j.val = j.val; omega
theorem ldA (r c : Fin 28) : View.ld x r2_1 (ix3 0 r c) = x (ix3 0 r c) := by
  show x (r2_1.emb (ix3 0 r c)) = _
  congr 1
  funext a
  refine Fin.ext ?_
  match a with
  | ⟨0, _⟩ => rfl
  | ⟨1, _⟩ => show 0 + 1 * r.val = r.val; omega
  | ⟨2, _⟩ => show 0 + 1 * c.val = c.val; omega
theorem ldB (r c : Fin 28) : View.ld x r2_3 (ix3 0 r c) = x (ix3 1 r c) := by
  show x (r2_3.emb (ix3 0 r c)) = _
  congr 1
  funext a
  refine Fin.ext ?_
  match a with
  | ⟨0, _⟩ => rfl
  | ⟨1, _⟩ => show 0 + 1 * r.val = r.val; omega
  | ⟨2, _⟩ => show 0 + 1 * c.val = c.val; omega

theorem canonA (w w' : Vec Ideal S1x1x224x224 .f32) (i j : Fin 224) :
    View.canon (Val := Elt Ideal) ([⟨r2_4, w⟩, ⟨r2_2, w'⟩] : List (View.Piece (Elt Ideal) S2x1x224x224 .f32)) (ix4 0 0 i j : S2x1x224x224.Idx)
      = w' (ix4 0 0 i j) := by
  have hn : (ix4 0 0 i j : S2x1x224x224.Idx) ∉ (⟨r2_4, w⟩ : View.Piece (Elt Ideal) S2x1x224x224 .f32).1.set := fun hm => by
    obtain ⟨y, hy⟩ := r2_4.exists_idx_of_mem hm
    have h0 : 1 + 1 * (y 0).val = 0 := congrArg Fin.val (congrFun hy 0)
    omega
  refine (View.canon_cons_of_not_mem (⟨r2_4, w⟩ : View.Piece (Elt Ideal) S2x1x224x224 .f32) _ hn).trans ?_
  rw [← embA 0 0 i j]
  exact View.canon_cons_emb (Val := Elt Ideal) (e := .f32) r2_2 w' [] (ix4 0 0 i j)

theorem canonB (w w' : Vec Ideal S1x1x224x224 .f32) (i j : Fin 224) :
    View.canon (Val := Elt Ideal) ([⟨r2_4, w⟩, ⟨r2_2, w'⟩] : List (View.Piece (Elt Ideal) S2x1x224x224 .f32)) (ix4 1 0 i j : S2x1x224x224.Idx)
      = w (ix4 0 0 i j) := by
  rw [← embB 0 0 i j]
  exact View.canon_cons_emb (Val := Elt Ideal) (e := .f32) r2_4 w _ (ix4 0 0 i j)

theorem out2_at (n : Fin 2) (i j : Fin 224) :
    out2_2 x A (ix4 n 0 i j) = ∑ c : Fin 28, (∑ r : Fin 28, (A (ix2 i r) * x (ix3 n r c) : EReal)) * A (ix2 j c) := by
  unfold out2_2
  rw [View.ld_unit_zero (S := S224x28) zero2]
  have key : n = 0 ∨ n = 1 := by have := n.isLt; rcases n with ⟨_ | _ | k, h⟩ <;> [left; right; omega] <;> rfl
  rcases key with rfl | rfl
  · refine (canonA _ _ i j).trans ((pay2_at A (View.ld x r2_1) 0 0 i j).trans ?_)
    exact Finset.sum_congr rfl fun c _ => congrArg (fun z : EReal => z * A (ix2 j c)) (Finset.sum_congr rfl fun r _ => congrArg (fun z : EReal => A (ix2 i r) * z) (ldA x r c))
  · refine (canonB _ _ i j).trans ((pay3_at A (View.ld x r2_3) 0 0 i j).trans ?_)
    exact Finset.sum_congr rfl fun c _ => congrArg (fun z : EReal => z * A (ix2 j c)) (Finset.sum_congr rfl fun r _ => congrArg (fun z : EReal => A (ix2 i r) * z) (ldB x r c))

end Out

/-! ## The middle region at an index -/

/-- The constant the squared distance is kept above. -/
abbrev eps : EReal := Ideal.ofBits .f32 0x2B8CBCCC#32

theorem eps_nonneg : 0 ≤ eps := by
  simp [eps, Ideal.ofBits, Ideal.ieee]
  rw [← EReal.coe_mul]
  exact EReal.coe_nonneg.mpr (by positivity)

theorem pay13_at (e u : Vec Ideal S2x784 .f32) (n : Fin 2) (s : Fin 784) :
    k1_pay3 e u (ix2 n s) = dist eps (e (ix2 n s)) (u (ix2 n s)) := by
  pointwise [k1_pay3, k1_pay2]
  rfl

/-! ## The run's result at an index -/

variable (m : (ℓ : Loc nD τ sig) → Buf (Elt Ideal) ℓ) (ρ : Dev nD → PrngReg) (c : Dev nD)

/-- The embedding. -/
abbrev embA0 : Vec Ideal S1568x1536 .f32 := m ((c : Thread nD τ).loc main_arg0)
/-- The bank. -/
abbrev bankA1 : Vec Ideal S16384x1536 .f32 := m ((c : Thread nD τ).loc main_arg1)

/-- A patch's score: the distance to the nearest row of the bank. -/
def score (x : Vec Ideal S1568x1536 .f32) (b : Vec Ideal S16384x1536 .f32) (r : Fin 1568) : EReal :=
  dist eps (∑ q : Fin 1536, x (ix2 r q) * x (ix2 r q)) (Finset.univ.fold min ⊤ (part x (fun (l : Fin 16384) q => b (ix2 l q)) r))

theorem W1_v0_0 (r : Fin 1568) : W1 m ρ c (Proc.devRef .tc main_v0_0) (ix2 r 0)
    = Finset.univ.fold min ⊤ (part (embA0 m c) (fun (l : Fin 16384) q => bankA1 m c (ix2 l q)) r) := by
  have e : W1 m ρ c (Proc.devRef .tc main_v0_0) = (accAt (E0 m ρ) c 16).1 := (W1_arr m ρ c 2).trans (final0_2 _ c)
  rw [e]
  exact acc_row (E0 m ρ) c (embA0 m c) (emb_whole (E0 m ρ) c) (fun l q => bankA1 m c (ix2 l q))
    (fun t l q h => bank_block (E0 m ρ) c t l q h) r

theorem W1_v0_2 (r : Fin 1568) : W1 m ρ c (Proc.devRef .tc main_v0_2) (ix2 r 0)
    = ∑ q : Fin 1536, (embA0 m c (ix2 r q) * embA0 m c (ix2 r q) : EReal) := by
  have e : W1 m ρ c (Proc.devRef .tc main_v0_2) = e2Of (emb (E0 m ρ) c) := (W1_arr m ρ c 4).trans (final0_4 _ c)
  rw [e, emb_whole (E0 m ρ) c, e2Of_eq]
  rfl

theorem W2_v1 (n : Fin 2) (s : Fin 784) : W2 m ρ c (Proc.devRef .tc main_v1) (ix2 n s)
    = Finset.univ.fold min ⊤ (part (embA0 m c) (fun (l : Fin 16384) q => bankA1 m c (ix2 l q)) ⟨n.val * 784 + s.val, by have := n.isLt; have := s.isLt; omega⟩) := by
  rw [← W1_v0_0 m ρ c]
  have e : W2 m ρ c (Proc.devRef .tc main_v1) = _ := line1_v1 _
  rw [e]
  generalize W1 m ρ c (Proc.devRef .tc main_v0_0) = v
  pointwise []

theorem W2_v2 (n : Fin 2) (s : Fin 784) : W2 m ρ c (Proc.devRef .tc main_v2) (ix2 n s)
    = ∑ q : Fin 1536, (embA0 m c (ix2 ⟨n.val * 784 + s.val, by have := n.isLt; have := s.isLt; omega⟩ q) * embA0 m c (ix2 ⟨n.val * 784 + s.val, by have := n.isLt; have := s.isLt; omega⟩ q) : EReal) := by
  rw [← W1_v0_2 m ρ c]
  have e : W2 m ρ c (Proc.devRef .tc main_v2) = _ := line1_v2 _
  rw [e]
  generalize W1 m ρ c (Proc.devRef .tc main_v0_2) = v
  pointwise []

theorem W3_v4 (n : Fin 2) (s : Fin 784) : W3 m ρ c (Proc.devRef .tc main_v4_0) (ix2 n s)
    = score (embA0 m c) (bankA1 m c) ⟨n.val * 784 + s.val, by have := n.isLt; have := s.isLt; omega⟩ := by
  have e : W3 m ρ c (Proc.devRef .tc main_v4_0) = _ := (W3_arr m ρ c 3).trans (final1_3 _ c)
  rw [e, pay13_at]
  unfold score
  rw [← W2_v1 m ρ c, ← W2_v2 m ρ c]

theorem W9_v5_at (n : Fin 2) (r s : Fin 28) : W9 m ρ c (Proc.devRef .tc main_v5) (ix3 n r s)
    = score (embA0 m c) (bankA1 m c) ⟨n.val * 784 + (r.val * 28 + s.val), by have := n.isLt; have := r.isLt; have := s.isLt; omega⟩ := by
  rw [← W3_v4 m ρ c n ⟨r.val * 28 + s.val, by have := r.isLt; have := s.isLt; omega⟩, W9_v5]
  generalize W3 m ρ c (Proc.devRef .tc main_v4_0) = v
  pointwise []

theorem score_nonneg (x : Vec Ideal S1568x1536 .f32) (b : Vec Ideal S16384x1536 .f32) (r : Fin 1568) : 0 ≤ score x b r :=
  sqrt_nonneg _ (le_max_of_le_right eps_nonneg)

/-- The kernel's result: the scores gathered by the taps along both axes. -/
theorem kernel_at (n : Fin 2) (i j : Fin 224) : W10 m ρ c (Proc.devRef .tc main_v41) (ix4 n 0 i j)
    = ∑ l : Fin 33, weight l * ∑ k : Fin 33, weight k * score (embA0 m c) (bankA1 m c)
        ⟨n.val * 784 + ((patch i k).val * 28 + (patch j l).val), by have := n.isLt; have := (patch i k).isLt; have := (patch j l).isLt; omega⟩ := by
  have e : W10 m ρ c (Proc.devRef .tc main_v41) = _ := (W10_arr m ρ c 2).trans (final2_2 _ c)
  rw [e, out2_at]
  have hA : E9 m ρ c main_v40 = matrixH (F := Ideal) := W9_v40 (F := Ideal) m ρ c
  rw [hA]
  have hp : ∀ r s : Fin 28, (E9 m ρ c main_v5 : Vec Ideal S2x28x28 .f32) (ix3 n r s) = _ := fun r s => W9_v5_at m ρ c n r s
  simp only [hp, matrix_at]
  exact blur_eq weight weight_nonneg (patch i) (patch j) (fun r s => score (embA0 m c) (bankA1 m c) ⟨n.val * 784 + (r.val * 28 + s.val), by have := n.isLt; have := r.isLt; have := s.isLt; omega⟩)
    (fun r s => score_nonneg _ _ _)

end Cert.KernelIdeal
-- ==== Proof.Value.Reference.lean ====
module

public import proofs.«01_k».proof.Proof.Value.Algebra
public import proofs.«01_k».proof.Proof.Gen.ReferenceIdeal.Run

/-! The reference's result at an index. -/

@[expose] public section

set_option maxRecDepth 16384
set_option maxHeartbeats 1000000

noncomputable section

namespace Cert.ReferenceIdeal

open Idealize.ShloMosaic Idealize.ShloMosaic.TcCoe
open Cert.Shared
open Gen Value

variable (V : Valuation τ sig (Elt Ideal))

/-- The embedding. -/
abbrev embR : Vec Ideal S1568x1536 .f32 := V (Proc.devRef .tc main_arg0)
/-- The bank. -/
abbrev bankR : Vec Ideal S16384x1536 .f32 := V (Proc.devRef .tc main_arg1)

theorem taps_ref (k : Fin 33) : (res_main_v34 V : FVec Ideal S33 .f32) (ix1 k) = weight k := by
  have h31 : ∀ k : Fin 33, (res_main_v31 V : FVec Ideal S33 .f32) (ix1 k) = tap k := fun k => by
    pointwise [res_main_v31, res_main_v27]
    rfl
  pointwise [res_main_v34]
  simp only [h31]
  rfl

/-- A patch's score as the reference has it: the least distance to a row of the bank. -/
def scoreR (x : Fin 1568 → Fin 1536 → EReal) (b : Fin 16384 → Fin 1536 → EReal) (r : Fin 1568) : EReal :=
  Finset.univ.fold min ⊤ fun l : Fin 16384 => Ideal.sqrt (max ((∑ q, x r q * x r q) + (∑ q, b l q * b l q)
    - Ideal.ofBits .f32 0x40000000#32 * ∑ q, x r q * b l q) (Ideal.ofBits .f32 0x2B8CBCCC#32))

theorem top_bits : Ideal.ofBits .f32 0x7F800000#32 = ⊤ := by simp [Ideal.ofBits, Ideal.ieee]

theorem scores_ref (n : Fin 2) (i j : Fin 224) : (res_main_v22 V : FVec Ideal S2x1x224x224 .f32) (ix4 n 0 i j)
    = scoreR (fun r q => embR V (ix2 r q)) (fun l q => bankR V (ix2 l q))
        ⟨n.val * 784 + i.val / 8 * 28 + j.val / 8, by have := n.isLt; have := i.isLt; have := j.isLt; omega⟩ := by
  pointwise [res_main_v22]
  rw [top_bits]
  rfl

/-- The rows padded above. -/
theorem above_ref (n : Fin 2) (a : Fin 240) (j : Fin 224) (h : (if a.val < 16 then 16 - a.val else a.val - 16) < 224) :
    (res_main_call0_v3 V : FVec Ideal S2x1x240x224 .f32) (ix4 n 0 a j)
      = (res_main_v22 V : FVec Ideal S2x1x224x224 .f32) (ix4 n 0 ⟨if a.val < 16 then 16 - a.val else a.val - 16, h⟩ j) := by
  unfold res_main_call0_v3
  generalize res_main_v22 V = X
  pointwise []
  by_cases h1 : a.val < 16
  · refine (dif_pos h1).trans (congrArg X (funext fun d => ?_))
    match d with
    | ⟨0, _⟩ => exact if_neg (α := Fin 2) (t := n.rev) (show ¬ (0 : Fin 4) ∈ [(2 : Fin 4)] by decide)
    | ⟨1, _⟩ => rfl
    | ⟨2, _⟩ =>
      refine Fin.ext ?_
      show 1 + (if (2 : Fin 4) ∈ [(2 : Fin 4)] then Fin.rev (⟨a.val, h1⟩ : Fin 16) else ⟨a.val, h1⟩).val = if a.val < 16 then 16 - a.val else a.val - 16
      rw [if_pos (by decide), if_pos h1]
      show 1 + (16 - (a.val + 1)) = 16 - a.val
      omega
    | ⟨3, _⟩ => exact if_neg (α := Fin 224) (t := j.rev) (show ¬ (3 : Fin 4) ∈ [(2 : Fin 4)] by decide)
  · refine (dif_neg h1).trans (congrArg (fun z => X (ix4 n 0 z j)) (Fin.ext ?_))
    show a.val - 16 = if a.val < 16 then 16 - a.val else a.val - 16
    rw [if_neg h1]

/-- The rows padded on both sides. -/
theorem rows_ref (n : Fin 2) (a : Fin 256) (j : Fin 224) (h : refl a.val < 224) : (res_main_v35 V : FVec Ideal S2x1x256x224 .f32) (ix4 n 0 a j)
    = (res_main_v22 V : FVec Ideal S2x1x224x224 .f32) (ix4 n 0 ⟨refl a.val, h⟩ j) := by
  have hb : ∀ (a' : Fin 240) (e : (if a'.val < 16 then 16 - a'.val else a'.val - 16) = refl a.val),
      (res_main_call0_v3 V : FVec Ideal S2x1x240x224 .f32) (ix4 n 0 a' j) = (res_main_v22 V : FVec Ideal S2x1x224x224 .f32) (ix4 n 0 ⟨refl a.val, h⟩ j) := fun a' e =>
    (above_ref V n a' j (e.trans_lt h)).trans (congrArg (fun z => (res_main_v22 V : FVec Ideal S2x1x224x224 .f32) (ix4 n 0 z j)) (Fin.ext e))
  unfold res_main_v35
  generalize res_main_call0_v3 V = Y at hb
  have ha := a.isLt
  pointwise []
  by_cases h1 : a.val < 240
  · refine (dif_pos h1).trans (hb ⟨a.val, h1⟩ ?_)
    unfold Shared.refl
    rw [if_pos h1]
  · refine (dif_neg h1).trans (Eq.trans (congrArg Y (funext fun d => ?_)) (hb ⟨223 + (16 - (a.val - 240 + 1)), by omega⟩ ?_))
    · match d with
      | ⟨0, _⟩ => exact if_neg (α := Fin 2) (t := n.rev) (show ¬ (0 : Fin 4) ∈ [(2 : Fin 4)] by decide)
      | ⟨1, _⟩ => rfl
      | ⟨2, _⟩ =>
        refine Fin.ext ?_
        show 223 + (if (2 : Fin 4) ∈ [(2 : Fin 4)] then Fin.rev (⟨a.val - 240, by omega⟩ : Fin 16) else ⟨a.val - 240, by omega⟩).val = 223 + (16 - (a.val - 240 + 1))
        rw [if_pos (by decide)]
        rfl
      | ⟨3, _⟩ => exact if_neg (α := Fin 224) (t := j.rev) (show ¬ (3 : Fin 4) ∈ [(2 : Fin 4)] by decide)
    · unfold Shared.refl
      rw [if_neg h1, if_neg (by show ¬ 223 + (16 - (a.val - 240 + 1)) < 16; omega), if_neg (by omega)]
      show 223 + (16 - (a.val - 240 + 1)) - 16 = 462 - a.val
      omega

/-- The blur along the rows. -/
theorem blur1_ref (n : Fin 2) (i j : Fin 224) : (res_main_v234 V : FVec Ideal S2x1x224x224 .f32) (ix4 n 0 i j)
    = ∑ k : Fin 33, weight k * (res_main_v35 V : FVec Ideal S2x1x256x224 .f32) (ix4 n 0 ⟨k.val + i.val, by have := k.isLt; have := i.isLt; omega⟩ j) := by
  rw [← sum33]
  unfold res_main_v234 res_main_v216 res_main_v126
  simp only [← taps_ref V]
  generalize res_main_v35 V = X
  generalize res_main_v34 V = g
  pointwise []

/-- The columns padded on the left. -/
theorem left_ref (n : Fin 2) (i : Fin 224) (a : Fin 240) (h : (if a.val < 16 then 16 - a.val else a.val - 16) < 224) :
    (res_main_call1_v3 V : FVec Ideal S2x1x224x240 .f32) (ix4 n 0 i a)
      = (res_main_v234 V : FVec Ideal S2x1x224x224 .f32) (ix4 n 0 i ⟨if a.val < 16 then 16 - a.val else a.val - 16, h⟩) := by
  unfold res_main_call1_v3
  generalize res_main_v234 V = X
  pointwise []
  by_cases h1 : a.val < 16
  · refine (dif_pos h1).trans (congrArg X (funext fun d => ?_))
    match d with
    | ⟨0, _⟩ => exact if_neg (α := Fin 2) (t := n.rev) (show ¬ (0 : Fin 4) ∈ [(3 : Fin 4)] by decide)
    | ⟨1, _⟩ => rfl
    | ⟨3, _⟩ =>
      refine Fin.ext ?_
      show 1 + (if (3 : Fin 4) ∈ [(3 : Fin 4)] then Fin.rev (⟨a.val, h1⟩ : Fin 16) else ⟨a.val, h1⟩).val = if a.val < 16 then 16 - a.val else a.val - 16
      rw [if_pos (by decide), if_pos h1]
      show 1 + (16 - (a.val + 1)) = 16 - a.val
      omega
    | ⟨2, _⟩ => exact if_neg (α := Fin 224) (t := i.rev) (show ¬ (2 : Fin 4) ∈ [(3 : Fin 4)] by decide)
  · refine (dif_neg h1).trans (congrArg (fun z => X (ix4 n 0 i z)) (Fin.ext ?_))
    show a.val - 16 = if a.val < 16 then 16 - a.val else a.val - 16
    rw [if_neg h1]

/-- The columns padded on both sides. -/
theorem columns_ref (n : Fin 2) (i : Fin 224) (a : Fin 256) (h : refl a.val < 224) : (res_main_v235 V : FVec Ideal S2x1x224x256 .f32) (ix4 n 0 i a)
    = (res_main_v234 V : FVec Ideal S2x1x224x224 .f32) (ix4 n 0 i ⟨refl a.val, h⟩) := by
  have hb : ∀ (a' : Fin 240) (e : (if a'.val < 16 then 16 - a'.val else a'.val - 16) = refl a.val),
      (res_main_call1_v3 V : FVec Ideal S2x1x224x240 .f32) (ix4 n 0 i a') = (res_main_v234 V : FVec Ideal S2x1x224x224 .f32) (ix4 n 0 i ⟨refl a.val, h⟩) := fun a' e =>
    (left_ref V n i a' (e.trans_lt h)).trans (congrArg (fun z => (res_main_v234 V : FVec Ideal S2x1x224x224 .f32) (ix4 n 0 i z)) (Fin.ext e))
  unfold res_main_v235
  generalize res_main_call1_v3 V = Y at hb
  have ha := a.isLt
  pointwise []
  by_cases h1 : a.val < 240
  · refine (dif_pos h1).trans (hb ⟨a.val, h1⟩ ?_)
    unfold Shared.refl
    rw [if_pos h1]
  · refine (dif_neg h1).trans (Eq.trans (congrArg Y (funext fun d => ?_)) (hb ⟨223 + (16 - (a.val - 240 + 1)), by omega⟩ ?_))
    · match d with
      | ⟨0, _⟩ => exact if_neg (α := Fin 2) (t := n.rev) (show ¬ (0 : Fin 4) ∈ [(3 : Fin 4)] by decide)
      | ⟨1, _⟩ => rfl
      | ⟨3, _⟩ =>
        refine Fin.ext ?_
        show 223 + (if (3 : Fin 4) ∈ [(3 : Fin 4)] then Fin.rev (⟨a.val - 240, by omega⟩ : Fin 16) else ⟨a.val - 240, by omega⟩).val = 223 + (16 - (a.val - 240 + 1))
        rw [if_pos (by decide)]
        rfl
      | ⟨2, _⟩ => exact if_neg (α := Fin 224) (t := i.rev) (show ¬ (2 : Fin 4) ∈ [(3 : Fin 4)] by decide)
    · unfold Shared.refl
      rw [if_neg h1, if_neg (by show ¬ 223 + (16 - (a.val - 240 + 1)) < 16; omega), if_neg (by omega)]
      show 223 + (16 - (a.val - 240 + 1)) - 16 = 462 - a.val
      omega

/-- The reference's result as its run states it. -/
def amapR : FVec Ideal S2x1x224x224 .f32 :=
  addf (addf (addf (res_main_v416 V) (mulf (broadcastInDim S2x1x224x224 ![] bcast_S_S2x1x224x224 (shapeCast _ (extractStridedSlice S1 ![30] (res_main_v34 V) slices_S33_S1_30) shapeCasts_S1_S_)) (extractStridedSlice S2x1x224x224 ![0, 0, 0, 30] (res_main_v235 V) slices_S2x1x224x256_S2x1x224x224_0_0_0_30))) (mulf (broadcastInDim S2x1x224x224 ![] bcast_S_S2x1x224x224 (shapeCast _ (extractStridedSlice S1 ![31] (res_main_v34 V) slices_S33_S1_31) shapeCasts_S1_S_)) (extractStridedSlice S2x1x224x224 ![0, 0, 0, 31] (res_main_v235 V) slices_S2x1x224x256_S2x1x224x224_0_0_0_31))) (mulf (broadcastInDim S2x1x224x224 ![] bcast_S_S2x1x224x224 (shapeCast _ (extractStridedSlice S1 ![32] (res_main_v34 V) slices_S33_S1_32) shapeCasts_S1_S_)) (extractStridedSlice S2x1x224x224 ![0, 0, 0, 32] (res_main_v235 V) slices_S2x1x224x256_S2x1x224x224_0_0_0_32))

/-- The blur along the columns: the reference's result. -/
theorem blur2_ref (n : Fin 2) (i j : Fin 224) : (amapR V : FVec Ideal S2x1x224x224 .f32) (ix4 n 0 i j)
    = ∑ k : Fin 33, weight k * (res_main_v235 V : FVec Ideal S2x1x224x256 .f32) (ix4 n 0 i ⟨k.val + j.val, by have := k.isLt; have := j.isLt; omega⟩) := by
  rw [← sum33]
  unfold amapR res_main_v416 res_main_v326
  simp only [← taps_ref V]
  generalize res_main_v235 V = X
  generalize res_main_v34 V = g
  pointwise []

/-- The reference's result at an index: both blurs of the upsampled scores. -/
theorem reference_at (n : Fin 2) (i j : Fin 224) : amapR V (ix4 n 0 i j)
    = ∑ l : Fin 33, weight l * ∑ k : Fin 33, weight k * scoreR (fun r q => embR V (ix2 r q)) (fun s q => bankR V (ix2 s q))
        ⟨n.val * 784 + ((patch i k).val * 28 + (patch j l).val), by have := n.isLt; have := (patch i k).isLt; have := (patch j l).isLt; omega⟩ := by
  rw [blur2_ref]
  refine Finset.sum_congr rfl fun l _ => congrArg (weight l * ·) ?_
  rw [columns_ref V n i _ (refl_lt j l), blur1_ref]
  refine Finset.sum_congr rfl fun k _ => congrArg (weight k * ·) ?_
  rw [rows_ref V n _ _ (refl_lt i k), scores_ref]
  refine congrArg (scoreR _ _) (Fin.ext ?_)
  exact Nat.add_assoc _ _ _

end Cert.ReferenceIdeal

end
-- ==== Proof.Value.Agree.lean ====
module

public import proofs.«01_k».proof.Proof.Value.Kernel
public import proofs.«01_k».proof.Proof.Value.Reference

@[expose] public section

set_option maxRecDepth 16384

noncomputable section

namespace Cert.Proof

open Idealize.ShloMosaic Idealize.ShloMosaic.TcCoe

/-- The kernel takes the minimum first and the root after, the reference the other way round: one value. -/
theorem score_eq (x : Vec Ideal Cert.KernelIdeal.S1568x1536 .f32) (b : Vec Ideal Cert.KernelIdeal.S16384x1536 .f32) (r : Fin 1568) :
    Cert.KernelIdeal.score x b r = Cert.ReferenceIdeal.scoreR (fun r q => x (ix2 r q)) (fun l q => b (ix2 l q)) r := by
  unfold Cert.KernelIdeal.score Cert.ReferenceIdeal.scoreR
  rw [← Shared.fold_min_map _ _ (Shared.dist_mono _ _),
    Shared.dist_top _ _ (Finset.sum_nonneg fun q _ => Shared.mul_self_nonneg' _)]
  refine congrArg (Finset.univ.fold min ⊤) (funext fun l => ?_)
  unfold Shared.dist Cert.KernelIdeal.part Cert.KernelIdeal.eps
  simp only [sub_eq_add_neg, add_assoc]

/-- From memories that agree on the arguments, the two programs' results are one array. -/
theorem results_eq (m : (ℓ : Loc Cert.KernelIdeal.nD Cert.KernelIdeal.τ Cert.KernelIdeal.sig) → Buf (Elt Ideal) ℓ) (g : Dev Cert.KernelIdeal.nD → PrngReg)
    (V : Valuation Cert.ReferenceIdeal.τ Cert.ReferenceIdeal.sig (Elt Ideal)) (c : Dev Cert.KernelIdeal.nD)
    (h0 : Cert.ReferenceIdeal.embR V = Cert.KernelIdeal.embA0 m c) (h1 : Cert.ReferenceIdeal.bankR V = Cert.KernelIdeal.bankA1 m c) :
    Cert.ReferenceIdeal.amapR V = (Cert.KernelIdeal.W10 m g c (Proc.devRef .tc Cert.KernelIdeal.main_v41) : Vec Ideal Cert.KernelIdeal.S2x1x224x224 .f32) := by
  funext y
  have hy : y = ix4 (y 0) 0 (y 2) (y 3) := by
    funext d
    match d with
    | ⟨0, _⟩ => rfl
    | ⟨1, _⟩ => exact Subsingleton.elim (α := Fin 1) _ _
    | ⟨2, _⟩ => rfl
    | ⟨3, _⟩ => rfl
  rw [hy]
  refine (Cert.ReferenceIdeal.reference_at V (y 0) (y 2) (y 3)).trans (Eq.trans ?_ (Cert.KernelIdeal.kernel_at m g c (y 0) (y 2) (y 3)).symm)
  rw [h0, h1]
  simp only [score_eq]

end Cert.Proof

end
-- ==== Proof.Score.Select.lean ====
module

public import Mathlib.Data.EReal.Basic
public import Mathlib.Data.Fintype.Lattice
public import Idealize.ShloMosaic.Lib.SortPrefix
public import Idealize.ShloMosaic.PureOps.Ideal

/-! Picking the least entry again and again, each time putting `⊤` in its place, picks the entries in the order of a
    stable sort. -/

@[expose] public section

noncomputable section

namespace Cert.Select

open Idealize.ShloMosaic

variable {N : ℕ}

/-- A stable sort asks of two elements only whether the later one goes first. -/
theorem stableSort_of_pairwise {ι : Type} (R R' : ι → ι → Bool) (l : List ι) (hl : l.Pairwise fun a b => R b a = R' b a) :
    stableSort R l = stableSort R' l := by
  induction l with
  | nil => rfl
  | cons a l ih =>
    rw [List.pairwise_cons] at hl
    show insertBefore R a (stableSort R l) = insertBefore R' a (stableSort R' l)
    rw [ih hl.2]
    exact insertBefore_congr R R' a _ fun b hb => hl.1 b ((perm_stableSort R' l).mem_iff.mp hb)

/-- The order by value, and by position where values are equal. -/
def before (f : Fin N → EReal) (a b : Fin N) : Bool := decide (f a < f b) || (decide (f a = f b) && decide (a < b))

theorem before_total (f : Fin N → EReal) : StrictTotalBefore (before f) :=
  StrictTotalBefore.of_key_then_position (fun x y : EReal => decide (x < y)) f (by simp)
    (fun a b c => by simpa using fun h h' => lt_trans h h') (fun a b => by simpa using lt_trichotomy a b)

/-- A stable sort by value is the sort by value and position. -/
theorem sortedFrom_before (f : Fin N → EReal) (k : Fin N) :
    sortedFrom (fun a b => decide (f a < f b)) k = sortedFrom (before f) k := by
  have e : sortPositions N (fun a b => decide (f a < f b)) = sortPositions N (before f) := by
    refine stableSort_of_pairwise _ _ _ ((List.pairwise_lt_finRange N).imp fun {a b} hab => ?_)
    have : ¬ b < a := not_lt.mpr hab.le
    simp [before, this]
  unfold sortedFrom
  simp only [List.get_eq_getElem, e, Fin.val_cast]

/-- Some position holds the least entry, and is the first to. -/
theorem exists_first [NeZero N] (f : Fin N → EReal) : ∃ p, (∀ l, f p ≤ f l) ∧ ∀ l, f l = f p → p ≤ l := by
  obtain ⟨p0, h0⟩ := Finite.exists_min f
  have hne : (Finset.univ.filter fun l => f l = f p0).Nonempty := ⟨p0, by simp⟩
  have hm := (Finset.mem_filter.mp (Finset.min'_mem _ hne)).2
  refine ⟨_, fun l => hm.trans_le (h0 l), fun l hl => Finset.min'_le _ _ ?_⟩
  simpa using hl.trans hm

/-- The first position of the least entry. -/
def first [NeZero N] (f : Fin N → EReal) : Fin N := Classical.choose (exists_first f)

theorem first_le [NeZero N] (f : Fin N → EReal) (l : Fin N) : f (first f) ≤ f l := (Classical.choose_spec (exists_first f)).1 l

theorem first_min [NeZero N] (f : Fin N → EReal) (l : Fin N) (h : f l = f (first f)) : first f ≤ l :=
  (Classical.choose_spec (exists_first f)).2 l h

/-- The entries with `⊤` in the place of the first least one. -/
def drop [NeZero N] (f : Fin N → EReal) : Fin N → EReal := fun l => if l = first f then ⊤ else f l

/-- The entries after `k` rounds. -/
def rest [NeZero N] (f : Fin N → EReal) (k : ℕ) : Fin N → EReal := drop^[k] f

/-- The position that round `k` picks. -/
def pick [NeZero N] (f : Fin N → EReal) (k : ℕ) : Fin N := first (rest f k)

theorem rest_succ [NeZero N] (f : Fin N → EReal) (k : ℕ) : rest f (k + 1) = drop (rest f k) := Function.iterate_succ_apply' _ _ _

/-- After `k` rounds the positions picked hold `⊤`, the others their entry. -/
theorem rest_apply [NeZero N] (f : Fin N → EReal) (k : ℕ) (l : Fin N) : rest f k l = if ∃ j < k, pick f j = l then ⊤ else f l := by
  induction k with
  | zero => simp [rest]
  | succ k ih =>
    rw [rest_succ]
    unfold drop
    by_cases h : l = first (rest f k)
    · rw [if_pos h, if_pos ⟨k, Nat.lt_succ_self k, h.symm⟩]
    · rw [if_neg h, ih]
      refine if_congr ⟨fun ⟨j, hj, e⟩ => ⟨j, by omega, e⟩, fun ⟨j, hj, e⟩ => ⟨j, ?_, e⟩⟩ rfl rfl
      rcases Nat.lt_succ_iff_lt_or_eq.mp hj with hj | hj
      · exact hj
      · subst hj; exact absurd e.symm h

/-- While entries are left, a round picks a new position. -/
theorem pick_new [NeZero N] (f : Fin N → EReal) (hf : ∀ l, f l < ⊤) (k : ℕ) (hk : k < N) : ¬ ∃ j < k, pick f j = pick f k := by
  classical
  intro h
  have hc : ((Finset.range k).image (pick f)).card < (Finset.univ : Finset (Fin N)).card := by
    rw [Finset.card_univ, Fintype.card_fin]
    exact (Finset.card_image_le.trans (Finset.card_range k).le).trans_lt hk
  obtain ⟨l, -, hl⟩ := Finset.exists_mem_notMem_of_card_lt_card hc
  have hl' : ¬ ∃ j < k, pick f j = l := fun ⟨j, hj, e⟩ => hl (Finset.mem_image.mpr ⟨j, Finset.mem_range.mpr hj, e⟩)
  have := first_le (rest f k) l
  rw [rest_apply f k l, if_neg hl', show first (rest f k) = pick f k from rfl, rest_apply, if_pos h] at this
  exact absurd this (not_le.mpr (hf l))

/-- What a round picks is not after any entry that is left. -/
theorem pick_before [NeZero N] (f : Fin N → EReal) (hf : ∀ l, f l < ⊤) (k : ℕ) (hk : k < N) (l : Fin N) (hl : ¬ ∃ j < k, pick f j = l) :
    before f l (pick f k) = false := by
  have h1 := first_le (rest f k) l
  have h2 := first_min (rest f k) l
  rw [show first (rest f k) = pick f k from rfl, rest_apply, rest_apply, if_neg hl, if_neg (pick_new f hf k hk)] at h1 h2
  unfold before
  rw [Bool.or_eq_false_iff, Bool.and_eq_false_iff, decide_eq_false_iff_not, decide_eq_false_iff_not, decide_eq_false_iff_not]
  refine ⟨not_lt.mpr h1, ?_⟩
  by_cases e : f l = f (pick f k)
  · exact Or.inr (not_lt.mpr (h2 e))
  · exact Or.inl e

/-- The first entries of a stable sort are the picks, in their order. -/
theorem sorted_eq_pick [NeZero N] (f : Fin N → EReal) (hf : ∀ l, f l < ⊤) {n : ℕ} (hn : n ≤ N) (k : Fin n) :
    sortedFrom (fun a b => decide (f a < f b)) (k.castLE hn) = pick f k.val := by
  have hne : ∀ i j : Fin n, i < j → pick f i.val ≠ pick f j.val := fun i j hij e =>
    pick_new f hf j.val (j.isLt.trans_le hn) ⟨i.val, hij, e⟩
  rw [sortedFrom_before]
  refine (before_total f).sortedFrom_eq_of_prefix hn (fun i => pick f i.val) ?_ ?_ ?_ k
  · intro i j e
    rcases lt_trichotomy i j with h | h | h
    · exact absurd e (hne i j h)
    · exact h
    · exact absurd e.symm (hne j i h)
  · intro i j hij
    refine pick_before f hf i.val (i.isLt.trans_le hn) _ fun ⟨l, hl, e⟩ => ?_
    exact hne ⟨l, hl.trans i.isLt⟩ j (lt_trans (show (⟨l, _⟩ : Fin n) < i from hl) hij) e
  · intro i p hp
    exact pick_before f hf i.val (i.isLt.trans_le hn) p fun ⟨l, hl, e⟩ => hp ⟨l, hl.trans i.isLt⟩ e

/-- The share of the first of nine taken from one, times the score. -/
def weighed (X : Fin 9 → EReal) (s : EReal) : EReal :=
  (1 - Ideal.div (Ideal.exp (X 0 - Finset.univ.fold max ⊥ X)) (∑ k, Ideal.exp (X k - Finset.univ.fold max ⊥ X))) * s

theorem bot_bits : Ideal.ofBits .f32 0xFF800000#32 = (⊥ : EReal) := by simp [Ideal.ofBits, Ideal.ieee]

end Cert.Select

end
-- ==== Proof.Score.Kernel.lean ====
module

public import proofs.«01_k».proof.Proof.Score.Select
public import proofs.«01_k».proof.Proof.Value.Algebra
public import proofs.«01_k».proof.Proof.Gen.ScoreIdeal.Value

/-! Over the extended reals: what the rounds of the score's call pick, and its result. -/

@[expose] public section

set_option maxRecDepth 16384

noncomputable section

namespace Cert.ScoreIdeal

open Idealize.ShloMosaic Idealize.ShloMosaic.TcCoe
open Gen

/-- The number of an entry in its row. -/
def place : IVec S2x16384 32 := iota .tc S2x16384 32 [1] iota_S2x16384_d1_w32

/-- The least entry of each row. -/
def least (d : FVec Ideal S2x16384 .f32) : FVec Ideal S2x1 .f32 :=
  shapeCast S2x1 (multiReduction .minimumf [1] S2 d 0x7F800000#32 reduces_S2x16384_S2 (.inl rfl) rfl) shapeCasts_S2_S2x1

/-- The number of every entry that equals its row's least, and `2^30` elsewhere. -/
def marks (d : FVec Ideal S2x16384 .f32) : IVec S2x16384 32 :=
  select (cmpf .oeq d (broadcastTo S2x16384 (least d) broadcasts_S2x1_S2x16384)) place (broadcast S2x16384 1073741824#32)

/-- The mark of each row's first least entry. -/
def hit (d : FVec Ideal S2x16384 .f32) : IVec S2x16384 1 :=
  cmpi .eq place (broadcastTo S2x16384 (shapeCast S2x1 (multiReductionI .minsi [1] S2 (marks d) 2147483647#32 reduces_S2x16384_S2 rfl) shapeCasts_S2_S2x1)
    broadcasts_S2x1_S2x16384)

/-- The entries with the first least one of each row put at `⊤`. -/
def next (d : FVec Ideal S2x16384 .f32) : FVec Ideal S2x16384 .f32 :=
  select (hit d) (broadcast S2x16384 (Scalar.ofBits .f32 0x7F800000#32)) d

/-- What the second array holds at each row's mark. -/
def got (d q : FVec Ideal S2x16384 .f32) : FVec Ideal S2x1 .f32 :=
  shapeCast S2x1 (multiReduction .add [1] S2 (select (hit d) q (broadcast S2x16384 (Scalar.ofBits .f32 0x00000000#32))) 0x00000000#32 reduces_S2x16384_S2
    (.inl rfl) rfl) shapeCasts_S2_S2x1

/-- A row's entries. -/
def row {α : Type} (d : S2x16384.Idx → α) (b : Fin 2) : Fin 16384 → α := fun l => d (ix2 b l)

theorem least_at (d : FVec Ideal S2x16384 .f32) (b : Fin 2) : least d (ix2 b 0) = row d b (Select.first (row d b)) := by
  pointwise [least]
  show Finset.fold min (Ideal.ofBits .f32 0x7F800000#32) (row d b) Finset.univ = _
  refine le_antisymm ((Finset.fold_min_le _).mpr (Or.inr ⟨Select.first (row d b), Finset.mem_univ _, le_rfl⟩)) ((Finset.le_fold_min _).mpr ⟨?_, fun l _ => Select.first_le _ l⟩)
  rw [show Ideal.ofBits .f32 0x7F800000#32 = (⊤ : EReal) by simp [Ideal.ofBits, Ideal.ieee]]
  exact le_top

theorem marks_at (d : FVec Ideal S2x16384 .f32) (b : Fin 2) (l : Fin 16384) :
    marks d (ix2 b l) = if row d b l = row d b (Select.first (row d b)) then BitVec.ofNat 32 l.val else 1073741824#32 := by
  have h := least_at d b
  pointwise [marks, place]
  rw [h]
  rfl

theorem ofNat_toInt (n : ℕ) (h : n < 16384) : (BitVec.ofNat 32 n).toInt = n := by
  rw [BitVec.toInt_eq_toNat_of_lt] <;> rw [BitVec.toNat_ofNat, Nat.mod_eq_of_lt] <;> omega

theorem minsi_toInt (x y : BitVec 32) : (IntOp.minsi x y).toInt = min x.toInt y.toInt := by
  unfold IntOp.minsi
  rw [BitVec.slt_eq_decide]
  simp only [decide_eq_true_eq]
  split_ifs <;> omega

theorem fold_marks (d : FVec Ideal S2x16384 .f32) (b : Fin 2) :
    Finset.fold IntOp.minsi (2147483647#32) (fun x => marks d (ix2 b x)) Finset.univ = BitVec.ofNat 32 (Select.first (row d b)).val := by
  apply BitVec.eq_of_toInt_eq
  rw [← Finset.fold_hom (op' := min) (m := BitVec.toInt) minsi_toInt, ofNat_toInt _ (Select.first (row d b)).isLt]
  refine le_antisymm ((Finset.fold_min_le _).mpr (Or.inr ⟨Select.first (row d b), Finset.mem_univ _, ?_⟩)) ((Finset.le_fold_min _).mpr ⟨?_, fun l _ => ?_⟩)
  · rw [marks_at, if_pos rfl, ofNat_toInt _ (Select.first (row d b)).isLt]
  · have := (Select.first (row d b)).isLt
    rw [show (2147483647#32 : BitVec 32).toInt = 2147483647 by decide]
    omega
  · have hl := (Select.first (row d b)).isLt
    rw [marks_at]
    split_ifs with h
    · rw [ofNat_toInt _ l.isLt]
      exact Int.ofNat_le.mpr (Select.first_min _ l h)
    · rw [show (1073741824#32 : BitVec 32).toInt = 1073741824 by decide]
      omega

theorem hit_at (d : FVec Ideal S2x16384 .f32) (b : Fin 2) (l : Fin 16384) :
    hit d (ix2 b l) = if l = Select.first (row d b) then 1#1 else 0#1 := by
  have h := fold_marks d b
  pointwise [hit, place]
  rw [h]
  have hi : (BitVec.ofNat 32 l.val = BitVec.ofNat 32 (Select.first (row d b)).val) ↔ l = Select.first (row d b) := by
    constructor
    · intro e
      have := congrArg BitVec.toInt e
      rw [ofNat_toInt _ l.isLt, ofNat_toInt _ (Select.first (row d b)).isLt] at this
      exact Fin.ext (Int.ofNat_inj.mp this)
    · intro e; rw [← e]
  by_cases e : l = Select.first (row d b)
  · rw [if_pos e, ← e]; simp [IntOp.cmpi]
  · rw [if_neg e]
    have := mt hi.mp e
    rw [IntOp.cmpi, beq_eq_false_iff_ne.mpr this]; rfl

theorem row_next (d : FVec Ideal S2x16384 .f32) (b : Fin 2) : row (next d) b = Select.drop (row d b) := by
  funext l
  show next d (ix2 b l) = _
  have h := hit_at d b l
  pointwise [next]
  rw [h]
  unfold Select.drop
  by_cases e : l = Select.first (row d b)
  · rw [if_pos e, if_pos e]
    show Ideal.ofBits .f32 0x7F800000#32 = (⊤ : EReal)
    simp [Ideal.ofBits, Ideal.ieee]
  · rw [if_neg e, if_neg e]
    rfl

theorem row_rounds (d : FVec Ideal S2x16384 .f32) (b : Fin 2) (k : ℕ) : row (next^[k] d) b = Select.rest (row d b) k := by
  induction k with
  | zero => rfl
  | succ k ih => rw [Function.iterate_succ_apply', row_next, ih, Select.rest_succ]

theorem got_at (d q : FVec Ideal S2x16384 .f32) (b : Fin 2) (k : ℕ) :
    got (next^[k] d) q (ix2 b 0) = row q b (Select.pick (row d b) k) := by
  have e : row (next^[k] d) b = Select.rest (row d b) k := row_rounds d b k
  generalize next^[k] d = d' at e ⊢
  have h : ∀ l, hit d' (ix2 b l) = if l = Select.pick (row d b) k then 1#1 else 0#1 := fun l => by rw [hit_at, e]; rfl
  pointwise [got]
  simp only [h]
  rw [Finset.sum_eq_single (Select.pick (row d b) k)]
  · rw [if_pos rfl]; rfl
  · intro l _ hl
    rw [if_neg hl]; rfl
  · intro h; exact absurd (Finset.mem_univ _) h

theorem pay4_eq (d : FVec Ideal S2x16384 .f32) : k0_pay4 (F := Ideal) d = next d := rfl
theorem pay7_eq (d : FVec Ideal S2x16384 .f32) : k0_pay7 (F := Ideal) d = next (k0_pay4 (F := Ideal) d) := rfl
theorem pay8_eq (d : FVec Ideal S2x16384 .f32) : k0_pay8 (F := Ideal) d = marks (k0_pay7 (F := Ideal) d) := rfl
theorem pay3_eq (d q : FVec Ideal S2x16384 .f32) : k0_pay3 (F := Ideal) d q = got d q := rfl
theorem pay6_eq (d q : FVec Ideal S2x16384 .f32) : k0_pay6 (F := Ideal) d q = got (k0_pay4 (F := Ideal) d) q := rfl
theorem pay10_eq (d q : FVec Ideal S2x16384 .f32) : k0_pay10 (F := Ideal) q place (marks d) = got d q := rfl
theorem pay11_eq (d : FVec Ideal S2x16384 .f32) : k0_pay11 (F := Ideal) place d (marks d) = next d := rfl
theorem pay13_eq (d q : FVec Ideal S2x16384 .f32) (w : IVec S2x16384 32) : k0_pay13 (F := Ideal) q place d w = got (k0_pay11 (F := Ideal) place d w) q := rfl
theorem pay14_eq (d : FVec Ideal S2x16384 .f32) (w : IVec S2x16384 32) : k0_pay14 (F := Ideal) place d w = next (k0_pay11 (F := Ideal) place d w) := rfl
theorem pay16_eq (d q : FVec Ideal S2x16384 .f32) (w : IVec S2x16384 32) : k0_pay16 (F := Ideal) q place d w = got (k0_pay14 (F := Ideal) place d w) q := rfl
theorem pay17_eq (d : FVec Ideal S2x16384 .f32) (w : IVec S2x16384 32) : k0_pay17 (F := Ideal) place d w = next (k0_pay14 (F := Ideal) place d w) := rfl
theorem pay18_eq (d : FVec Ideal S2x16384 .f32) (w : IVec S2x16384 32) : k0_pay18 (F := Ideal) place d w = least (k0_pay17 (F := Ideal) place d w) := rfl
theorem pay20_eq (d q : FVec Ideal S2x16384 .f32) : k0_pay20 (F := Ideal) q place d (least d) = got d q := rfl
theorem pay21_eq (d : FVec Ideal S2x16384 .f32) : k0_pay21 (F := Ideal) place d (least d) = next d := rfl
theorem pay23_eq (d q : FVec Ideal S2x16384 .f32) (e : FVec Ideal S2x1 .f32) : k0_pay23 (F := Ideal) q place d e = got (k0_pay21 (F := Ideal) place d e) q := rfl
theorem pay24_eq (d : FVec Ideal S2x16384 .f32) (e : FVec Ideal S2x1 .f32) : k0_pay24 (F := Ideal) place d e = next (k0_pay21 (F := Ideal) place d e) := rfl
theorem pay25_eq (d : FVec Ideal S2x16384 .f32) (e : FVec Ideal S2x1 .f32) : k0_pay25 (F := Ideal) place d e = hit (k0_pay24 (F := Ideal) place d e) := rfl
theorem pay26_eq (d q : FVec Ideal S2x16384 .f32) (e : FVec Ideal S2x1 .f32) : k0_pay26 (F := Ideal) q place d e = got (k0_pay24 (F := Ideal) place d e) q := rfl

/-- Nine columns side by side. -/
def cat (x0 x1 x2 x3 x4 x5 x6 x7 x8 : FVec Ideal S2x1 .f32) : FVec Ideal S2x9 .f32 :=
  concatenate S2x9 1 [⟨S2x1, x0⟩, ⟨S2x1, x1⟩, ⟨S2x1, x2⟩, ⟨S2x1, x3⟩, ⟨S2x1, x4⟩, ⟨S2x1, x5⟩, ⟨S2x1, x6⟩, ⟨S2x1, x7⟩, ⟨S2x1, x8⟩]
    concatenates_S2x1_S2x1_S2x1_S2x1_S2x1_S2x1_S2x1_S2x1_S2x1_S2x9_d1

/-- The share of the first column taken from one, times the score. -/
def weigh (X : FVec Ideal S2x9 .f32) (s : FVec Ideal S2x1 .f32) : FVec Ideal S2x1 .f32 :=
  have e : FVec Ideal S2x9 .f32 := exp (subf X (broadcastTo S2x9 (shapeCast S2x1 (multiReduction .maximumf [1] S2 X 0xFF800000#32 reduces_S2x9_S2
    (.inl rfl) rfl) shapeCasts_S2_S2x1) broadcasts_S2x1_S2x9))
  mulf (subf (broadcast S2x1 (Scalar.ofBits .f32 0x3F800000#32)) (divf (extractStridedSlice S2x1 ![0, 0] e slices_S2x9_o0_0_S2x1)
    (shapeCast S2x1 (multiReduction .add [1] S2 e 0x00000000#32 reduces_S2x9_S2 (.inl rfl) rfl) shapeCasts_S2_S2x1))) s

theorem pay1_eq (d q : FVec Ideal S2x16384 .f32) (x0 x1 x2 x3 x4 x5 x6 x7 : FVec Ideal S2x1 .f32) (s : FVec Ideal S2x1 .f32) :
    k0_pay1 (F := Ideal) q place x0 x1 x2 x3 x4 x5 x6 d (hit d) x7 s = weigh (cat x0 x1 x2 x3 x4 x5 x6 x7 (got (next d) q)) s := rfl

/-- The whole call: nine rounds, their finds side by side, and the weight. -/
theorem G3_eq (d q : Vec Ideal S2x16384 .f32) (s : Vec Ideal S2x1 .f32) : (Value.G3 (F := Ideal) d q s : FVec Ideal S2x1 .f32) =
    weigh (cat (got d q) (got (next d) q) (got (next^[2] d) q) (got (next^[3] d) q) (got (next^[4] d) q) (got (next^[5] d) q) (got (next^[6] d) q)
      (got (next^[7] d) q) (got (next^[8] d) q)) s := by
  unfold Value.G3 k0_pay31 k0_pay30 k0_pay29 k0_pay28 k0_pay27
  rw [View.ld_unit_zero (S := S2x16384) Value.hz0 _ d, show iota .tc S2x16384 32 [1] iota_S2x16384_d1_w32 = place from rfl]
  simp only [pay8_eq, pay3_eq, pay6_eq, pay13_eq, pay16_eq, pay18_eq, pay23_eq, pay25_eq, pay26_eq, pay24_eq, pay17_eq, pay14_eq, pay7_eq, pay4_eq, pay10_eq,
    pay11_eq, pay20_eq, pay21_eq, pay1_eq, Function.iterate_succ, Function.comp, Function.iterate_zero, id_eq]

theorem cat_at (d q : FVec Ideal S2x16384 .f32) (b : Fin 2) (k : Fin 9) :
    cat (got d q) (got (next d) q) (got (next^[2] d) q) (got (next^[3] d) q) (got (next^[4] d) q) (got (next^[5] d) q) (got (next^[6] d) q)
      (got (next^[7] d) q) (got (next^[8] d) q) (ix2 b k) = row q b (Select.pick (row d b) k.val) := by
  rw [← got_at d q b k.val]
  fin_cases k <;> pointwise [cat]
  all_goals simp only [Function.iterate_zero, Function.iterate_one, id_eq]

theorem weigh_at (X : FVec Ideal S2x9 .f32) (s : FVec Ideal S2x1 .f32) (b : Fin 2) :
    weigh X s (ix2 b 0) = Select.weighed (fun k => X (ix2 b k)) (s (ix2 b 0)) := by
  pointwise [weigh]
  rw [Select.bot_bits]
  rfl

/-- The call's result. -/
theorem G3_at (d q : FVec Ideal S2x16384 .f32) (s : FVec Ideal S2x1 .f32) (b : Fin 2) :
    (Value.G3 (F := Ideal) d q s : FVec Ideal S2x1 .f32) (ix2 b 0)
      = Select.weighed (fun k => q (ix2 b (Select.pick (fun l => d (ix2 b l)) k.val))) (s (ix2 b 0)) := by
  rw [G3_eq, weigh_at]
  simp only [cat_at]
  unfold row
  rfl

end Cert.ScoreIdeal

end
-- ==== Proof.Score.Reference.lean ====
module

public import proofs.«01_k».proof.Proof.Score.Select
public import proofs.«01_k».proof.Proof.Value.Algebra
public import proofs.«01_k».proof.Proof.Gen.ScoreReferenceIdeal.Run

/-! Over the extended reals: what the score's reference picks, and its result. -/

@[expose] public section

set_option maxRecDepth 16384

noncomputable section

namespace Cert.ScoreReferenceIdeal

open Idealize.ShloMosaic Idealize.ShloMosaic.TcCoe
open Facts₀

/-- The positions of the nine least entries of each row. -/
def top (d : FVec Ideal S2x16384 .f32) : IVec S2x9 32 :=
  (Host.topK S2x9 1 (FloatOps.cmpfTotal .gt) (Host.negf d) sliceFits_S2x16384_S2x9).2

/-- A position below zero counts from the end. -/
def wrapped (T : IVec S2x9 32) : IVec S2x9 32 :=
  select (cmpi .slt T (broadcastInDim S2x9 ![] bcast_S_S2x9 (constantI S_ 32 0#32))) (addi T (broadcastInDim S2x9 ![] bcast_S_S2x9 (constantI S_ 32 16384#32))) T

/-- The second array at the positions. -/
def taken (q : FVec Ideal S2x16384 .f32) (T : IVec S2x9 32) : FVec Ideal S2x9 .f32 :=
  Host.gather gather_S2x16384_S2x9x1_S2x9_n_1_0_0_1_2_11 q (shapeCast S2x9x1 T shapeCasts_S2x9_S2x9x1)

/-- The greatest of each row. -/
def most (X : FVec Ideal S2x9 .f32) : FVec Ideal S2x9 .f32 :=
  broadcastInDim S2x9 ![0, 1] bcast_S2x1_S2x9_0_1 (broadcastInDim S2x1 ![0] bcast_S2_S2x1_0 (maximumf (broadcastInDim S2 ![] bcast_S_S2 (constant S_ .f32 0xFF800000#32))
    (Host.reduce FloatOps.maximumf X (constant S_ .f32 0xFF800000#32) reducesTo_S2x9_S2_d1 h_S_)))

/-- The share of the first column taken from one, times the score. -/
def weigh (X : FVec Ideal S2x9 .f32) (s : FVec Ideal S2x1 .f32) : FVec Ideal S2x1 .f32 :=
  mulf (extractStridedSlice S2x1 ![0, 0] (subf (broadcastInDim S2x9 ![] bcast_S_S2x9 (constant S_ .f32 0x3F800000#32)) (Host.divf (Host.exp (subf X (most X)))
    (broadcastInDim S2x9 ![0, 1] bcast_S2x1_S2x9_0_1 (broadcastInDim S2x1 ![0] bcast_S2_S2x1_0 (Host.reduceAdd (Host.exp (subf X (most X))) (constant S_ .f32 0x00000000#32) reducesTo_S2x9_S2_d1 h_S_)))))
    slices_S2x9_S2x1_0_0) s

theorem weigh_at (X : FVec Ideal S2x9 .f32) (s : FVec Ideal S2x1 .f32) (b : Fin 2) :
    weigh X s (ix2 b 0) = Select.weighed (fun k => X (ix2 b k)) (s (ix2 b 0)) := by
  pointwise [weigh, most]
  rw [Select.bot_bits, max_eq_right bot_le]
  rfl

/-- The comparison that orders the negated entries reads: the first entry is below the second. -/
theorem greater_neg (x y : EReal) :
    ((FloatOps.cmpfTotal (F := Ideal) (φ := .f32) .gt (FloatOps.negf (F := Ideal) (φ := .f32) x) (FloatOps.negf (F := Ideal) (φ := .f32) y) : BitVec 1) == 1#1) = decide (x < y) := by
  show (BitVec.ofBool (decide (-y < -x)) == 1#1) = _
  have h : (-y < -x) ↔ x < y := EReal.neg_lt_neg_iff
  by_cases e : x < y
  · rw [decide_eq_true (h.mpr e), decide_eq_true e]; rfl
  · rw [decide_eq_false (mt h.mp e), decide_eq_false e]; rfl

/-- Of two matrices sorted together along their rows, the second read at an index. -/
theorem sort2_at {α β : Type} {m n : ℕ} (cmp : α × β → α × β → BitVec 1) (x : (⟨2, ![m, n]⟩ : Shape).Idx → α) (y : (⟨2, ![m, n]⟩ : Shape).Idx → β)
    (b : Fin m) (p : Fin n) :
    (Host.sort2 ⟨2, ![m, n]⟩ 1 cmp x y).2 (ix2 b p)
      = y (ix2 b (sortedFrom (fun k k' => cmp (x (ix2 b k), y (ix2 b k)) (x (ix2 b k'), y (ix2 b k')) == 1#1) p)) := by
  have hal : ∀ k : Fin n, Shape.Idx.along (s := ⟨2, ![m, n]⟩) (ix2 b p) 1 k = ix2 b k := by
    intro k
    funext a
    match a with
    | ⟨0, _⟩ => rfl
    | ⟨1, _⟩ => rfl
  have e : (fun k k' : Fin n => cmp (x (ix2 b k), y (ix2 b k)) (x (ix2 b k'), y (ix2 b k')) == 1#1)
      = fun k k' : Fin n => cmp (x (Shape.Idx.along (s := ⟨2, ![m, n]⟩) (ix2 b p) 1 k), y (Shape.Idx.along (s := ⟨2, ![m, n]⟩) (ix2 b p) 1 k))
          (x (Shape.Idx.along (s := ⟨2, ![m, n]⟩) (ix2 b p) 1 k'), y (Shape.Idx.along (s := ⟨2, ![m, n]⟩) (ix2 b p) 1 k')) == 1#1 := by
    funext k k'
    rw [hal, hal]
  rw [e, ← hal (sortedFrom _ p)]
  rfl

theorem iota_at (b : Fin 2) (p : Fin 16384) : iotaInDim S2x16384 32 1 (ix2 b p) = BitVec.ofNat 32 p.val := rfl

theorem top_at (d : FVec Ideal S2x16384 .f32) (hd : ∀ i, d i < (⊤ : EReal)) (b : Fin 2) (k : Fin 9) :
    top d (ix2 b k) = BitVec.ofNat 32 (Select.pick (fun l => d (ix2 b l)) k.val).val := by
  rw [← Select.sorted_eq_pick (fun l => d (ix2 b l)) (fun l => hd _) (show 9 ≤ 16384 by decide) k]
  have hj : (fun a => ⟨0 + (ix2 b k : S2x9.Idx) a, by match a with | ⟨0, _⟩ => simp [ix2]; omega | ⟨1, _⟩ => simp [ix2]; omega⟩ : S2x16384.Idx) = ix2 b (k.castLE (by decide)) := by
    funext a
    match a with
    | ⟨0, _⟩ => exact Fin.ext (Nat.zero_add _)
    | ⟨1, _⟩ => exact Fin.ext (Nat.zero_add _)
  have hs : top d (ix2 b k) = (Host.sort2 S2x16384 1 (fun l r => FloatOps.cmpfTotal (F := Ideal) (φ := .f32) .gt l.1 r.1) (Host.negf d) (iotaInDim S2x16384 32 1)).2 (ix2 b (k.castLE (by decide))) := by
    rw [← hj]; rfl
  have hB : (fun p p' : Fin 16384 => FloatOps.cmpfTotal (F := Ideal) (φ := .f32) .gt (Host.negf d (ix2 b p)) (Host.negf d (ix2 b p')) == 1#1)
      = fun p p' => decide (d (ix2 b p) < d (ix2 b p')) := by
    funext p p'
    exact greater_neg _ _
  rw [hs, sort2_at, iota_at]
  dsimp only
  rw [hB]

theorem wrapped_at (T : IVec S2x9 32) (b : Fin 2) (k : Fin 9) (p : Fin 16384) (h : T (ix2 b k) = BitVec.ofNat 32 p.val) :
    wrapped T (ix2 b k) = BitVec.ofNat 32 p.val := by
  pointwise [wrapped]
  rw [h]
  have hp := p.isLt
  have : IntOp.cmpi .slt (BitVec.ofNat 32 p.val) 0#32 = 0#1 := by
    unfold IntOp.cmpi
    show BitVec.ofBool ((BitVec.ofNat 32 p.val).slt 0#32) = 0#1
    rw [BitVec.slt_eq_decide, BitVec.toInt_eq_toNat_of_lt (by rw [BitVec.toNat_ofNat, Nat.mod_eq_of_lt] <;> omega)]
    rw [decide_eq_false (by rw [show (0#32 : BitVec 32).toInt = 0 by decide]; omega)]
    rfl
  rw [this]
  rfl

/-- The second array read at a position of the row. -/
theorem taken_at (q : FVec Ideal S2x16384 .f32) (T : IVec S2x9 32) (b : Fin 2) (k : Fin 9) (p : Fin 16384) (h : T (ix2 b k) = BitVec.ofNat 32 p.val) :
    taken q T (ix2 b k) = q (ix2 b p) := by
  have hp := p.isLt
  have hi : (shapeCast S2x9x1 T shapeCasts_S2x9_S2x9x1) (ix3 b k 0) = T (ix2 b k) := by
    pointwise []
  refine congrArg q (funext fun a => Fin.ext ?_)
  match a with
  | ⟨0, _⟩ =>
    show _ + _ + _ = b.val
    rw [GatherDims.start_batching _ _ _ _ (by simp [gather_S2x16384_S2x9x1_S2x9_n_1_0_0_1_2_11]),
      GatherDims.offCoord_eq_zero _ _ _ (fun h => ((GatherDims.mem_sKept _ _).mp h).2 (by simp [gather_S2x16384_S2x9x1_S2x9_n_1_0_0_1_2_11]))]
    unfold GatherDims.batchCoord
    rw [dif_pos (by simp [gather_S2x16384_S2x9x1_S2x9_n_1_0_0_1_2_11])]
    rw [Nat.zero_add, Nat.add_zero]
    rfl
  | ⟨1, _⟩ =>
    show _ + _ + _ = p.val
    rw [GatherDims.batchCoord_eq_zero _ _ _ (by simp [gather_S2x16384_S2x9x1_S2x9_n_1_0_0_1_2_11]),
      GatherDims.offCoord_eq_zero _ _ _ (fun h => ((GatherDims.mem_sKept _ _).mp h).1 (by simp [gather_S2x16384_S2x9x1_S2x9_n_1_0_0_1_2_11]))]
    unfold GatherDims.start
    rw [dif_pos (by simp [gather_S2x16384_S2x9x1_S2x9_n_1_0_0_1_2_11])]
    have hx : gather_S2x16384_S2x9x1_S2x9_n_1_0_0_1_2_11.siIdx (ix2 b k : S2x9.Idx) ⟨0, by decide⟩ = (ix3 b k 0 : S2x9x1.Idx) := by
      funext c
      match c with
      | ⟨0, _⟩ => rfl
      | ⟨1, _⟩ => rfl
      | ⟨2, _⟩ => rfl
    show min ((shapeCast S2x9x1 T shapeCasts_S2x9_S2x9x1) (gather_S2x16384_S2x9x1_S2x9_n_1_0_0_1_2_11.siIdx (ix2 b k : S2x9.Idx) ⟨0, by decide⟩)).toInt.toNat (16384 - 1) + 0 + 0 = p.val
    rw [hx, hi, h, BitVec.toInt_eq_toNat_of_lt (by rw [BitVec.toNat_ofNat, Nat.mod_eq_of_lt] <;> omega), BitVec.toNat_ofNat, Nat.mod_eq_of_lt (by omega), Int.toNat_natCast]
    omega

/-- The reference's result. -/
theorem result_at (d q : FVec Ideal S2x16384 .f32) (s : FVec Ideal S2x1 .f32) (hd : ∀ i, d i < (⊤ : EReal)) (b : Fin 2) :
    weigh (taken q (wrapped (top d))) s (ix2 b 0)
      = Select.weighed (fun k => q (ix2 b (Select.pick (fun l => d (ix2 b l)) k.val))) (s (ix2 b 0)) := by
  rw [weigh_at]
  have h : (fun k => taken q (wrapped (top d)) (ix2 b k)) = fun k : Fin 9 => q (ix2 b (Select.pick (fun l => d (ix2 b l)) k.val)) :=
    funext fun k => taken_at q _ b k _ (wrapped_at _ b k _ (top_at d hd b k))
  rw [h]

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = weigh (taken (m ((c.tc : Thread nD τ).loc main_arg1)) (wrapped (top (m ((c.tc : Thread nD τ).loc main_arg0))))) (m ((c.tc : Thread nD τ).loc main_arg2)) :=
  (θ_run defs _ _).mono (fun _ h c => (h c).1) (Value.run (F := Ideal) m ρ)

end Cert.ScoreReferenceIdeal

end
-- ==== Proof.Score.Agree.lean ====
module

public import proofs.«01_k».proof.Defs
public import proofs.«01_k».proof.Proof.Score.Kernel
public import proofs.«01_k».proof.Proof.Score.Reference
public import proofs.«01_k».proof.Proof.Gen.Score.Frame

/-! The score's claims: every program runs, and kernel and reference end with one score. -/

@[expose] public section

noncomputable section

namespace Cert.ScoreProof

open Idealize.ShloMosaic Idealize.ShloMosaic.TcCoe Idealize.SL.Sem

/-- The precondition's shape relation holds. -/
theorem facts : Cert.Pre_below_infinity.Facts := ⟨by decide⟩

theorem frame_kernel : Cert.quiescent_Score (hScore := Cert.Score.Gen.facts) := fun m g _ => Cert.Score.Gen.frame m g

theorem frame_ideal : Cert.quiescent_ScoreIdeal (hScoreIdeal := Cert.ScoreIdeal.Gen.facts) := fun m g _ => Cert.ScoreIdeal.Gen.frame m g

theorem frame_ideal_pre : Cert.quiescent_ScoreIdeal_pre_below_infinity (hScoreIdeal := Cert.ScoreIdeal.Gen.facts) (hPre_below_infinity := facts) :=
  fun m g _ => Cert.ScoreIdeal.Gen.frame m g

theorem frame_reference : Cert.quiescent_ScoreReferenceIdeal (hScoreReferenceIdeal := Cert.ScoreReferenceIdeal.Gen.facts) :=
  fun m g _ => (θ_run _ _ _).mono (fun r h => ⟨fun c => (h c).2, sem_eq_zero_of_no_sems (by decide) r.2⟩)
    (Cert.ScoreReferenceIdeal.Value.run m g)

theorem frame_reference_pre :
    Cert.quiescent_ScoreReferenceIdeal_pre_below_infinity (hScoreReferenceIdeal := Cert.ScoreReferenceIdeal.Gen.facts) (hPre_below_infinity := facts) :=
  fun m g _ => frame_reference m g trivial

/-- An entry that the precondition passes is below `⊤`. -/
theorem below (d q : FVec Ideal Cert.Pre_below_infinity.S2x16384 .f32) (s : FVec Ideal Cert.Pre_below_infinity.S2x1 .f32)
    (h : @Cert.Pre_below_infinity.fn facts Ideal _ d q s = fun _ => 1#1) (i : Cert.Pre_below_infinity.S2x16384.Idx) : d i < (⊤ : EReal) := by
  have e := congrFun h i
  have e' : BitVec.ofBool (decide (d i < Ideal.ofBits .f32 0x7F800000#32)) = 1#1 := e
  rw [show Ideal.ofBits .f32 0x7F800000#32 = (⊤ : EReal) by simp [Ideal.ofBits, Ideal.ieee]] at e'
  by_contra hn
  rw [decide_eq_false hn] at e'
  exact absurd e' (by decide)

/-- Where every squared distance is below infinity, both results are one function of the arguments. -/
theorem results_eq (d q : FVec Ideal Cert.ScoreIdeal.S2x16384 .f32) (s : FVec Ideal Cert.ScoreIdeal.S2x1 .f32) (hd : ∀ i, d i < (⊤ : EReal)) :
    Cert.ScoreReferenceIdeal.weigh (Cert.ScoreReferenceIdeal.taken q (Cert.ScoreReferenceIdeal.wrapped (Cert.ScoreReferenceIdeal.top d))) s
      = (Cert.ScoreIdeal.Value.G3 (F := Ideal) d q s : FVec Ideal Cert.ScoreIdeal.S2x1 .f32) := by
  funext i
  have hi : i = ix2 (i 0) 0 := by
    funext a
    match a with
    | ⟨0, _⟩ => rfl
    | ⟨1, _⟩ => exact Subsingleton.elim (α := Fin 1) _ _
  rw [hi]
  exact (Cert.ScoreReferenceIdeal.result_at d q s hd (i 0)).trans (Cert.ScoreIdeal.G3_at d q s (i 0)).symm

theorem agree : Cert.algebraic_ScoreIdeal_ScoreReferenceIdeal_pre_below_infinity (hScoreIdeal := Cert.ScoreIdeal.Gen.facts)
    (hScoreReferenceIdeal := Cert.ScoreReferenceIdeal.Gen.facts) (hPre_below_infinity := facts) := by
  intro m g m' g' hp hm
  refine ⟨_, Cert.ScoreIdeal.Value.run m g, ?_⟩
  refine (θ_run _ _ _).mono (fun r h c => ⟨(h c).1.trans ?_, (h c).2⟩) (Cert.ScoreReferenceIdeal.Value.run m' g')
  rw [(hm c).1, (hm c).2.1, (hm c).2.2]
  exact results_eq _ _ _ (below _ _ _ (hp c))

end Cert.ScoreProof

end
-- ==== Proof.Query.Words.lean ====
module

public import proofs.«01_k».proof.Defs
public import Idealize.ShloMosaic.Lib.Pointwise
public import Idealize.ShloMosaic.Lib.Tactic

/-! What the range of the places says of each word, and the offsets computed from a word in range. -/

@[expose] public section

noncomputable section

namespace Cert.QueryProof

open Idealize.ShloMosaic Idealize.ShloMosaic.TcCoe

/-- The precondition's shape relation holds. -/
theorem facts : Cert.Pre_places_in_range.Facts := ⟨by decide⟩

/-- A word that passes both comparisons is a natural number below the bound. -/
theorem toNat_lt (w b : BitVec 32) (hb : b.toNat < 2147483648)
    (h : BitVec.ofBool ((0#32).sle w) &&& BitVec.ofBool (w.slt b) = 1#1) : w.toNat < b.toNat := by
  by_cases h1 : (0#32).sle w = true
  · by_cases h2 : w.slt b = true
    · have w32 := w.isLt
      have h1' : (0 : ℤ) ≤ w.toInt := by
        have := h1
        rw [BitVec.sle, decide_eq_true_eq] at this
        simpa using this
      have h2' : w.toInt < b.toInt := by
        have := h2
        rwa [BitVec.slt, decide_eq_true_eq] at this
      rw [BitVec.toInt_eq_toNat_cond] at h1' h2'
      rw [BitVec.toInt_eq_toNat_cond] at h2'
      split at h1' <;> split at h2' <;> omega
    · rw [Bool.not_eq_true] at h2
      rw [h2] at h
      exact absurd h (by cases (0#32).sle w <;> decide)
  · rw [Bool.not_eq_true] at h1
    rw [h1] at h
    exact absurd h (by cases w.slt b <;> decide)

/-- The bound of a place: the embedding's rows for the first sixteen, the bank's for the last two. -/
def bound (k : Fin 18) : ℕ := if k.val < 16 then 1568 else 16384

theorem first_bound (k : Fin 18) : k.val < 16 → select (cmpi .slt (iotaInDim Cert.Pre_places_in_range.S18 32 0) (fun _ => 16#32)) (fun _ => 1568#32) (fun _ => 16384#32) (ix1 k) = 1568#32 := by
  revert k; decide

theorem last_bound (k : Fin 18) : ¬k.val < 16 → select (cmpi .slt (iotaInDim Cert.Pre_places_in_range.S18 32 0) (fun _ => 16#32)) (fun _ => 1568#32) (fun _ => 16384#32) (ix1 k) = 16384#32 := by
  revert k; decide

/-- Every place is below its bound. -/
theorem word_lt {F : FTy → Type} [FloatOps F] (p : IVec Cert.Pre_places_in_range.S18 32)
    (e : FVec F Cert.Pre_places_in_range.S1568x1536 .f32) (b : FVec F Cert.Pre_places_in_range.S16384x1536 .f32)
    (h : @Cert.Pre_places_in_range.fn facts F _ p e b = fun _ => 1#1) (k : Fin 18) :
    (p (ix1 k)).toNat < bound k := by
  have h' : BitVec.ofBool ((0#32).sle (p (ix1 k))) &&& BitVec.ofBool ((p (ix1 k)).slt
      (select (cmpi .slt (iotaInDim Cert.Pre_places_in_range.S18 32 0) (fun _ => 16#32)) (fun _ => 1568#32) (fun _ => 16384#32) (ix1 k))) = 1#1 :=
    congrFun h (ix1 k)
  by_cases hk : k.val < 16
  · rw [show select (cmpi .slt (iotaInDim Cert.Pre_places_in_range.S18 32 0) (fun _ => 16#32)) (fun _ => 1568#32) (fun _ => 16384#32) (ix1 k) = 1568#32 from
      first_bound k hk] at h'
    rw [bound, if_pos hk]
    exact toNat_lt _ _ (by decide) h'
  · rw [show select (cmpi .slt (iotaInDim Cert.Pre_places_in_range.S18 32 0) (fun _ => 16#32)) (fun _ => 1568#32) (fun _ => 16384#32) (ix1 k) = 16384#32 from
      last_bound k hk] at h'
    rw [bound, if_neg hk]
    exact toNat_lt _ _ (by decide) h'

theorem not_corner (w : BitVec 32) : ¬ IntOp.SDivCorner w 8#32 := by
  unfold IntOp.SDivCorner
  rintro (h | h)
  · exact absurd h (by decide)
  · exact absurd h.2 (by decide)

theorem rem_eight (w : BitVec 32) (h : w.toNat < 16384) : (Scalar.remsi w 8#32).toNat = w.toNat % 8 := by
  have hm : w.msb = false := by rw [BitVec.msb_eq_false_iff_two_mul_lt]; omega
  rw [show Scalar.remsi w 8#32 = w.srem 8#32 from if_neg (not_corner w), BitVec.srem_eq, hm]
  show (w % 8#32).toNat = _
  rw [BitVec.toNat_umod]; rfl

theorem div_eight (w : BitVec 32) (h : w.toNat < 16384) : (Scalar.divsi w 8#32).toNat = w.toNat / 8 := by
  have hm : w.msb = false := by rw [BitVec.msb_eq_false_iff_two_mul_lt]; omega
  rw [show Scalar.divsi w 8#32 = w.sdiv 8#32 from if_neg (not_corner w), BitVec.sdiv_eq, hm]
  show (w / 8#32).toNat = _
  rw [BitVec.toNat_udiv]; rfl

/-- The remainder of a place by eight, as the body corrects it for a negative one. -/
theorem mod_word (w : BitVec 32) (h : w.toNat < 16384) : Cert.QueryIdeal.k0_off17 w = ![w.toNat % 8, 0] := by
  have e : Scalar.remsi w 8#32 = BitVec.ofNat 32 (w.toNat % 8) := by
    apply BitVec.eq_of_toNat_eq
    rw [rem_eight w h, BitVec.toNat_ofNat]; omega
  have key : ∀ r : Fin 8, (let v119 : BitVec 32 := BitVec.ofNat 32 r.val
      (Scalar.select (Scalar.andi (Scalar.xori (Scalar.cmpi .slt v119 0#32) (Scalar.cmpi .slt (Scalar.select (Scalar.cmpi .eq 8#32 0#32) 1#32 8#32) 0#32)) (Scalar.cmpi .ne v119 0#32))
        (Scalar.addi v119 (Scalar.select (Scalar.cmpi .eq 8#32 0#32) 1#32 8#32)) v119).toNat) = r.val := by decide
  have k := key ⟨w.toNat % 8, Nat.mod_lt _ (by decide)⟩
  dsimp only at k
  rw [← e] at k
  exact congrArg (fun n : ℕ => (![n, 0] : Fin 2 → ℕ)) k

theorem mod_word' (w : BitVec 32) (h : w.toNat < 16384) : Cert.QueryIdeal.k0_off18 w = ![w.toNat % 8, 0] := mod_word w h

/-- The quotient of a place by eight, as the index map corrects it for a negative one. -/
def quot (v0 : BitVec 32) : BitVec 32 :=
  Scalar.select (Scalar.andi (Scalar.cmpi .ne
      (Scalar.subi (Scalar.extui (Scalar.cmpi .sgt v0 0#32)) (Scalar.extui (Scalar.cmpi .slt v0 0#32)) : BitVec 32)
      (Scalar.subi (Scalar.extui (Scalar.cmpi .sgt (8#32) 0#32)) (Scalar.extui (Scalar.cmpi .slt (8#32) 0#32)) : BitVec 32))
    (Scalar.cmpi .ne (Scalar.remsi v0 8#32) 0#32)) (Scalar.subi (Scalar.divsi v0 8#32) 1#32) (Scalar.divsi v0 8#32)

theorem quot_eq (w : BitVec 32) (h : w.toNat < 16384) : (quot w).toNat = w.toNat / 8 := by
  rw [← div_eight w h]
  congr 1
  by_cases h0 : w = 0#32
  · subst h0; decide
  · have hn : w.toNat ≠ 0 := fun e => h0 (BitVec.eq_of_toNat_eq (by simpa using e))
    have h1 : Scalar.cmpi .sgt w 0#32 = 1#1 := by
      show BitVec.ofBool ((0#32).slt w) = 1#1
      rw [show (0#32).slt w = true by
        rw [BitVec.slt, decide_eq_true_eq, BitVec.toInt_eq_toNat_cond, BitVec.toInt_eq_toNat_cond, if_pos (by decide), if_pos (by omega)]
        simpa using Nat.pos_of_ne_zero hn]
      rfl
    have h2 : Scalar.cmpi .slt w 0#32 = 0#1 := by
      show BitVec.ofBool (w.slt 0#32) = 0#1
      rw [show w.slt 0#32 = false by
        rw [BitVec.slt, decide_eq_false_iff_not, BitVec.toInt_eq_toNat_cond, BitVec.toInt_eq_toNat_cond, if_pos (by omega), if_pos (by decide)]
        simp]
      rfl
    unfold quot
    rw [h1, h2]
    show Scalar.select (0#1 &&& Scalar.cmpi .ne (Scalar.remsi w 8#32) 0#32) _ _ = _
    rw [BitVec.zero_and]
    rfl

end Cert.QueryProof
-- ==== Proof.Query.RangeIdeal.lean ====
module

public import proofs.«01_k».proof.Proof.Query.Words
public import proofs.«01_k».proof.Proof.Gen.QueryIdeal.Frame

/-! The range of the places gives every side condition of the distance call for the queries. -/

@[expose] public section

set_option maxRecDepth 16384

noncomputable section

namespace Cert.QueryIdeal

open Idealize.ShloMosaic Idealize.ShloMosaic.TcCoe
open Gen Cert.QueryProof

variable {F : FTy → Type} [FloatOps F]

theorem chk1 (i : grid0.Coords) (w : BitVec 32) (h : w.toNat < 1568) : k0_chk1 i w := fun _ a => by
  match a with
  | ⟨0, _⟩ => show w.toNat + 1 ≤ 1568; omega
  | ⟨1, _⟩ => show 0 + 1536 ≤ 1536; omega

theorem chk2 (i : grid0.Coords) (w : BitVec 32) (h : w.toNat < 1568) : k0_chk2 i w := fun _ a => by
  match a with
  | ⟨0, _⟩ => show w.toNat + 1 ≤ 1568; omega
  | ⟨1, _⟩ => show 0 + 1536 ≤ 1536; omega

theorem chk3 (i : grid0.Coords) (w : BitVec 32) (h : w.toNat < 1568) : k0_chk3 i w := fun _ a => by
  match a with
  | ⟨0, _⟩ => show w.toNat + 1 ≤ 1568; omega
  | ⟨1, _⟩ => show 0 + 1536 ≤ 1536; omega

theorem chk4 (i : grid0.Coords) (w : BitVec 32) (h : w.toNat < 1568) : k0_chk4 i w := fun _ a => by
  match a with
  | ⟨0, _⟩ => show w.toNat + 1 ≤ 1568; omega
  | ⟨1, _⟩ => show 0 + 1536 ≤ 1536; omega

theorem chk5 (i : grid0.Coords) (w : BitVec 32) (h : w.toNat < 1568) : k0_chk5 i w := fun _ a => by
  match a with
  | ⟨0, _⟩ => show w.toNat + 1 ≤ 1568; omega
  | ⟨1, _⟩ => show 0 + 1536 ≤ 1536; omega

theorem chk6 (i : grid0.Coords) (w : BitVec 32) (h : w.toNat < 1568) : k0_chk6 i w := fun _ a => by
  match a with
  | ⟨0, _⟩ => show w.toNat + 1 ≤ 1568; omega
  | ⟨1, _⟩ => show 0 + 1536 ≤ 1536; omega

theorem chk7 (i : grid0.Coords) (w : BitVec 32) (h : w.toNat < 1568) : k0_chk7 i w := fun _ a => by
  match a with
  | ⟨0, _⟩ => show w.toNat + 1 ≤ 1568; omega
  | ⟨1, _⟩ => show 0 + 1536 ≤ 1536; omega

theorem chk8 (i : grid0.Coords) (w : BitVec 32) (h : w.toNat < 1568) : k0_chk8 i w := fun _ a => by
  match a with
  | ⟨0, _⟩ => show w.toNat + 1 ≤ 1568; omega
  | ⟨1, _⟩ => show 0 + 1536 ≤ 1536; omega

theorem chk9 (i : grid0.Coords) (w : BitVec 32) (h : w.toNat < 1568) : k0_chk9 i w := fun _ a => by
  match a with
  | ⟨0, _⟩ => show w.toNat + 1 ≤ 1568; omega
  | ⟨1, _⟩ => show 0 + 1536 ≤ 1536; omega

theorem chk10 (i : grid0.Coords) (w : BitVec 32) (h : w.toNat < 1568) : k0_chk10 i w := fun _ a => by
  match a with
  | ⟨0, _⟩ => show w.toNat + 1 ≤ 1568; omega
  | ⟨1, _⟩ => show 0 + 1536 ≤ 1536; omega

theorem chk11 (i : grid0.Coords) (w : BitVec 32) (h : w.toNat < 1568) : k0_chk11 i w := fun _ a => by
  match a with
  | ⟨0, _⟩ => show w.toNat + 1 ≤ 1568; omega
  | ⟨1, _⟩ => show 0 + 1536 ≤ 1536; omega

theorem chk12 (i : grid0.Coords) (w : BitVec 32) (h : w.toNat < 1568) : k0_chk12 i w := fun _ a => by
  match a with
  | ⟨0, _⟩ => show w.toNat + 1 ≤ 1568; omega
  | ⟨1, _⟩ => show 0 + 1536 ≤ 1536; omega

theorem chk13 (i : grid0.Coords) (w : BitVec 32) (h : w.toNat < 1568) : k0_chk13 i w := fun _ a => by
  match a with
  | ⟨0, _⟩ => show w.toNat + 1 ≤ 1568; omega
  | ⟨1, _⟩ => show 0 + 1536 ≤ 1536; omega

theorem chk14 (i : grid0.Coords) (w : BitVec 32) (h : w.toNat < 1568) : k0_chk14 i w := fun _ a => by
  match a with
  | ⟨0, _⟩ => show w.toNat + 1 ≤ 1568; omega
  | ⟨1, _⟩ => show 0 + 1536 ≤ 1536; omega

theorem chk15 (i : grid0.Coords) (w : BitVec 32) (h : w.toNat < 1568) : k0_chk15 i w := fun _ a => by
  match a with
  | ⟨0, _⟩ => show w.toNat + 1 ≤ 1568; omega
  | ⟨1, _⟩ => show 0 + 1536 ≤ 1536; omega

theorem chk16 (i : grid0.Coords) (w : BitVec 32) (h : w.toNat < 1568) : k0_chk16 i w := fun _ a => by
  match a with
  | ⟨0, _⟩ => show w.toNat + 1 ≤ 1568; omega
  | ⟨1, _⟩ => show 0 + 1536 ≤ 1536; omega

theorem chk17 (i : grid0.Coords) (w : BitVec 32) (h : w.toNat < 16384) : k0_chk17 i w := fun _ a => by
  rw [show k0_off17 w = ![w.toNat % 8, 0] from mod_word w h]
  match a with
  | ⟨0, _⟩ => show w.toNat % 8 + 1 ≤ 8; omega
  | ⟨1, _⟩ => show 0 + 1536 ≤ 1536; omega

theorem chk18 (i : grid0.Coords) (w : BitVec 32) (h : w.toNat < 16384) : k0_chk18 i w := chk17 i w h

variable (m : (ℓ : Loc nD τ sig) → Buf (Elt F) ℓ)

/-- Place `k` as the launch memory holds it. -/
def place (k : Fin 18) : BitVec 32 := m (((0 : Dev nD) : Thread nD τ).loc main_arg0) (ix1 k)

theorem at_word (k : Fin 18) (h : ∀ a, (![k.val] : Fin 1 → ℕ) a + S1.size a ≤ S18.size a) :
    (Rect.unit (s := S18) ![k.val] S1.size h).idx (Shape.Idx.first (numel1_S1.symm ▸ Nat.one_pos)) = ix1 k := by
  funext a
  match a with
  | ⟨0, _⟩ => exact Fin.ext (show k.val + 1 * 0 = k.val by omega)

theorem word_eq (k : Fin 18) (h : ∀ a, (![k.val] : Fin 1 → ℕ) a + S1.size a ≤ S18.size a) :
    tbM0_0.view.readAt (Elt F) (Rect.unit (s := S18) ![k.val] S1.size h).toLoadRect (tbl m 0) (Shape.Idx.first (numel1_S1.symm ▸ Nat.one_pos)) = place m k := by
  refine congrArg (m (((0 : Dev nD) : Thread nD τ).loc main_arg0))
    (a₁ := (Rect.unit (s := S18) ![k.val] S1.size h).idx (Shape.Idx.first (numel1_S1.symm ▸ Nat.one_pos))) ?_
  exact at_word k h

theorem quot16 (i : grid0.Coords) : cc0_transform_2 inb_S18_S1_16 numel1_S1 (tbl m) i = ![(quot (place m 16)).toNat, 0] := by
  have e : (tbl m).at 0 (Rect.unit (s := S18) ![16] S1.size inb_S18_S1_16) numel1_S1 = place m 16 :=
    congrArg (m (((0 : Dev nD) : Thread nD τ).loc main_arg0))
      (a₁ := (Rect.unit (s := S18) ![16] S1.size inb_S18_S1_16).idx (Shape.Idx.first (numel1_S1.symm ▸ Nat.one_pos))) (at_word 16 inb_S18_S1_16)
  exact congrArg (fun w : BitVec 32 => (![(quot w).toNat, 0] : Fin 2 → ℕ)) e

theorem quot17 (i : grid0.Coords) : cc0_transform_3 inb_S18_S1_17 numel1_S1 (tbl m) i = ![(quot (place m 17)).toNat, 0] := by
  have e : (tbl m).at 0 (Rect.unit (s := S18) ![17] S1.size inb_S18_S1_17) numel1_S1 = place m 17 :=
    congrArg (m (((0 : Dev nD) : Thread nD τ).loc main_arg0))
      (a₁ := (Rect.unit (s := S18) ![17] S1.size inb_S18_S1_17).idx (Shape.Idx.first (numel1_S1.symm ▸ Nat.one_pos))) (at_word 17 inb_S18_S1_17)
  exact congrArg (fun w : BitVec 32 => (![(quot w).toNat, 0] : Fin 2 → ℕ)) e

/-- Every place is below its bound. -/
def InRange : Prop := ∀ k : Fin 18, (place m k).toNat < bound k

variable {m}

/-- A block of eight rows at a place's quotient lies inside the bank. -/
theorem block_in (w : BitVec 32) (h : w.toNat < 16384) : ∀ a, ((![(quot w).toNat, 0] : Fin 2 → ℕ) a + 1) * S8x1536.size a ≤ S16384x1536.size a := fun a => by
  match a with
  | ⟨0, _⟩ => show ((quot w).toNat + 1) * 8 ≤ 16384; rw [quot_eq w h]; omega
  | ⟨1, _⟩ => show (0 + 1) * 1536 ≤ 1536; omega

theorem ok (h : InRange m) : Ok m := by
  refine ⟨fun i => ⟨?_, Or.inl rfl⟩, fun i => ⟨?_, Or.inl rfl⟩⟩
  · rw [quot16]; exact block_in _ (h 16)
  · rw [quot17]; exact block_in _ (h 17)

theorem hyps (h : InRange m) (hO : Ok m) : Hyps m hO := by
  apply Hyps.of
  · intro c t _; exact (congrArg (k0_chk1 (grid0.coords t)) (word_eq m 0 inb_S18_S1_0)).mpr (chk1 _ _ (h 0))
  · intro c t _; exact (congrArg (k0_chk2 (grid0.coords t)) (word_eq m 1 inb_S18_S1_1)).mpr (chk2 _ _ (h 1))
  · intro c t _; exact (congrArg (k0_chk3 (grid0.coords t)) (word_eq m 2 inb_S18_S1_2)).mpr (chk3 _ _ (h 2))
  · intro c t _; exact (congrArg (k0_chk4 (grid0.coords t)) (word_eq m 3 inb_S18_S1_3)).mpr (chk4 _ _ (h 3))
  · intro c t _; exact (congrArg (k0_chk5 (grid0.coords t)) (word_eq m 4 inb_S18_S1_4)).mpr (chk5 _ _ (h 4))
  · intro c t _; exact (congrArg (k0_chk6 (grid0.coords t)) (word_eq m 5 inb_S18_S1_5)).mpr (chk6 _ _ (h 5))
  · intro c t _; exact (congrArg (k0_chk7 (grid0.coords t)) (word_eq m 6 inb_S18_S1_6)).mpr (chk7 _ _ (h 6))
  · intro c t _; exact (congrArg (k0_chk8 (grid0.coords t)) (word_eq m 7 inb_S18_S1_7)).mpr (chk8 _ _ (h 7))
  · intro c t _; exact (congrArg (k0_chk9 (grid0.coords t)) (word_eq m 8 inb_S18_S1_8)).mpr (chk9 _ _ (h 8))
  · intro c t _; exact (congrArg (k0_chk10 (grid0.coords t)) (word_eq m 9 inb_S18_S1_9)).mpr (chk10 _ _ (h 9))
  · intro c t _; exact (congrArg (k0_chk11 (grid0.coords t)) (word_eq m 10 inb_S18_S1_10)).mpr (chk11 _ _ (h 10))
  · intro c t _; exact (congrArg (k0_chk12 (grid0.coords t)) (word_eq m 11 inb_S18_S1_11)).mpr (chk12 _ _ (h 11))
  · intro c t _; exact (congrArg (k0_chk13 (grid0.coords t)) (word_eq m 12 inb_S18_S1_12)).mpr (chk13 _ _ (h 12))
  · intro c t _; exact (congrArg (k0_chk14 (grid0.coords t)) (word_eq m 13 inb_S18_S1_13)).mpr (chk14 _ _ (h 13))
  · intro c t _; exact (congrArg (k0_chk15 (grid0.coords t)) (word_eq m 14 inb_S18_S1_14)).mpr (chk15 _ _ (h 14))
  · intro c t _; exact (congrArg (k0_chk16 (grid0.coords t)) (word_eq m 15 inb_S18_S1_15)).mpr (chk16 _ _ (h 15))
  · intro c t _; exact (congrArg (k0_chk17 (grid0.coords t)) (word_eq m 16 inb_S18_S1_16)).mpr (chk17 _ _ (h 16))
  · intro c t _; exact (congrArg (k0_chk18 (grid0.coords t)) (word_eq m 17 inb_S18_S1_17)).mpr (chk18 _ _ (h 17))

end Cert.QueryIdeal

end
-- ==== Proof.Query.Pieces.lean ====
module

public import proofs.«01_k».proof.Proof.Query.RangeIdeal
public import Idealize.ShloMosaic.Lib.WritesUnit

/-! Eighteen rows written one after another into a buffer of eighteen rows, read back row by row. -/

@[expose] public section

noncomputable section

namespace Cert.QueryIdeal

open Idealize.ShloMosaic Idealize.ShloMosaic.TcCoe
open Gen Cert.QueryProof

/-- The rows as they are written, the last first. -/
def rowPieces (w0 w1 w2 w3 w4 w5 w6 w7 w8 w9 w10 w11 w12 w13 w14 w15 w16 w17 : Vec Ideal S1x1536 .f32) : List (View.Piece (Elt Ideal) S18x1536 .f32) :=
  [⟨Rect.unit (s := S18x1536) ![17, 0] S1x1536.size inb_S18x1536_S1x1536_17_0, w17⟩,
   ⟨Rect.unit (s := S18x1536) ![16, 0] S1x1536.size inb_S18x1536_S1x1536_16_0, w16⟩,
   ⟨Rect.unit (s := S18x1536) ![15, 0] S1x1536.size inb_S18x1536_S1x1536_15_0, w15⟩,
   ⟨Rect.unit (s := S18x1536) ![14, 0] S1x1536.size inb_S18x1536_S1x1536_14_0, w14⟩,
   ⟨Rect.unit (s := S18x1536) ![13, 0] S1x1536.size inb_S18x1536_S1x1536_13_0, w13⟩,
   ⟨Rect.unit (s := S18x1536) ![12, 0] S1x1536.size inb_S18x1536_S1x1536_12_0, w12⟩,
   ⟨Rect.unit (s := S18x1536) ![11, 0] S1x1536.size inb_S18x1536_S1x1536_11_0, w11⟩,
   ⟨Rect.unit (s := S18x1536) ![10, 0] S1x1536.size inb_S18x1536_S1x1536_10_0, w10⟩,
   ⟨Rect.unit (s := S18x1536) ![9, 0] S1x1536.size inb_S18x1536_S1x1536_9_0, w9⟩,
   ⟨Rect.unit (s := S18x1536) ![8, 0] S1x1536.size inb_S18x1536_S1x1536_8_0, w8⟩,
   ⟨Rect.unit (s := S18x1536) ![7, 0] S1x1536.size inb_S18x1536_S1x1536_7_0, w7⟩,
   ⟨Rect.unit (s := S18x1536) ![6, 0] S1x1536.size inb_S18x1536_S1x1536_6_0, w6⟩,
   ⟨Rect.unit (s := S18x1536) ![5, 0] S1x1536.size inb_S18x1536_S1x1536_5_0, w5⟩,
   ⟨Rect.unit (s := S18x1536) ![4, 0] S1x1536.size inb_S18x1536_S1x1536_4_0, w4⟩,
   ⟨Rect.unit (s := S18x1536) ![3, 0] S1x1536.size inb_S18x1536_S1x1536_3_0, w3⟩,
   ⟨Rect.unit (s := S18x1536) ![2, 0] S1x1536.size inb_S18x1536_S1x1536_2_0, w2⟩,
   ⟨Rect.unit (s := S18x1536) ![1, 0] S1x1536.size inb_S18x1536_S1x1536_1_0, w1⟩,
   ⟨Rect.unit (s := S18x1536) ![0, 0] S1x1536.size inb_S18x1536_S1x1536_0_0, w0⟩]

variable (v : View sig .tc .vmem S18x1536 .f32) (f : v.ty.Contents (Elt Ideal)) (w0 w1 w2 w3 w4 w5 w6 w7 w8 w9 w10 w11 w12 w13 w14 w15 w16 w17 : Vec Ideal S1x1536 .f32) (d : Fin 1536)

theorem row0 : v.read (Elt Ideal) (v.writes (Elt Ideal) f (rowPieces w0 w1 w2 w3 w4 w5 w6 w7 w8 w9 w10 w11 w12 w13 w14 w15 w16 w17)) (ix2 0 d) = w0 (ix2 0 d) := by
  unfold rowPieces
  refine (View.read_writes_cons_unit_of_not_mem v f _ _ _ (ix2 0 d) rfl 0 (.inl (show 0 < 17 by decide))).trans ?_
  refine (View.read_writes_cons_unit_of_not_mem v f _ _ _ (ix2 0 d) rfl 0 (.inl (show 0 < 16 by decide))).trans ?_
  refine (View.read_writes_cons_unit_of_not_mem v f _ _ _ (ix2 0 d) rfl 0 (.inl (show 0 < 15 by decide))).trans ?_
  refine (View.read_writes_cons_unit_of_not_mem v f _ _ _ (ix2 0 d) rfl 0 (.inl (show 0 < 14 by decide))).trans ?_
  refine (View.read_writes_cons_unit_of_not_mem v f _ _ _ (ix2 0 d) rfl 0 (.inl (show 0 < 13 by decide))).trans ?_
  refine (View.read_writes_cons_unit_of_not_mem v f _ _ _ (ix2 0 d) rfl 0 (.inl (show 0 < 12 by decide))).trans ?_
  refine (View.read_writes_cons_unit_of_not_mem v f _ _ _ (ix2 0 d) rfl 0 (.inl (show 0 < 11 by decide))).trans ?_
  refine (View.read_writes_cons_unit_of_not_mem v f _ _ _ (ix2 0 d) rfl 0 (.inl (show 0 < 10 by decide))).trans ?_
  refine (View.read_writes_cons_unit_of_not_mem v f _ _ _ (ix2 0 d) rfl 0 (.inl (show 0 < 9 by decide))).trans ?_
  refine (View.read_writes_cons_unit_of_not_mem v f _ _ _ (ix2 0 d) rfl 0 (.inl (show 0 < 8 by decide))).trans ?_
  refine (View.read_writes_cons_unit_of_not_mem v f _ _ _ (ix2 0 d) rfl 0 (.inl (show 0 < 7 by decide))).trans ?_
  refine (View.read_writes_cons_unit_of_not_mem v f _ _ _ (ix2 0 d) rfl 0 (.inl (show 0 < 6 by decide))).trans ?_
  refine (View.read_writes_cons_unit_of_not_mem v f _ _ _ (ix2 0 d) rfl 0 (.inl (show 0 < 5 by decide))).trans ?_
  refine (View.read_writes_cons_unit_of_not_mem v f _ _ _ (ix2 0 d) rfl 0 (.inl (show 0 < 4 by decide))).trans ?_
  refine (View.read_writes_cons_unit_of_not_mem v f _ _ _ (ix2 0 d) rfl 0 (.inl (show 0 < 3 by decide))).trans ?_
  refine (View.read_writes_cons_unit_of_not_mem v f _ _ _ (ix2 0 d) rfl 0 (.inl (show 0 < 2 by decide))).trans ?_
  refine (View.read_writes_cons_unit_of_not_mem v f _ _ _ (ix2 0 d) rfl 0 (.inl (show 0 < 1 by decide))).trans ?_
  exact View.read_writes_cons_unit_of_mem v f _ _ _ (ix2 0 d) (ix2 0 d) rfl (Fin.forall_fin_two.mpr ⟨rfl, (Nat.zero_add d.val).symm⟩)

theorem row1 : v.read (Elt Ideal) (v.writes (Elt Ideal) f (rowPieces w0 w1 w2 w3 w4 w5 w6 w7 w8 w9 w10 w11 w12 w13 w14 w15 w16 w17)) (ix2 1 d) = w1 (ix2 0 d) := by
  unfold rowPieces
  refine (View.read_writes_cons_unit_of_not_mem v f _ _ _ (ix2 1 d) rfl 0 (.inl (show 1 < 17 by decide))).trans ?_
  refine (View.read_writes_cons_unit_of_not_mem v f _ _ _ (ix2 1 d) rfl 0 (.inl (show 1 < 16 by decide))).trans ?_
  refine (View.read_writes_cons_unit_of_not_mem v f _ _ _ (ix2 1 d) rfl 0 (.inl (show 1 < 15 by decide))).trans ?_
  refine (View.read_writes_cons_unit_of_not_mem v f _ _ _ (ix2 1 d) rfl 0 (.inl (show 1 < 14 by decide))).trans ?_
  refine (View.read_writes_cons_unit_of_not_mem v f _ _ _ (ix2 1 d) rfl 0 (.inl (show 1 < 13 by decide))).trans ?_
  refine (View.read_writes_cons_unit_of_not_mem v f _ _ _ (ix2 1 d) rfl 0 (.inl (show 1 < 12 by decide))).trans ?_
  refine (View.read_writes_cons_unit_of_not_mem v f _ _ _ (ix2 1 d) rfl 0 (.inl (show 1 < 11 by decide))).trans ?_
  refine (View.read_writes_cons_unit_of_not_mem v f _ _ _ (ix2 1 d) rfl 0 (.inl (show 1 < 10 by decide))).trans ?_
  refine (View.read_writes_cons_unit_of_not_mem v f _ _ _ (ix2 1 d) rfl 0 (.inl (show 1 < 9 by decide))).trans ?_
  refine (View.read_writes_cons_unit_of_not_mem v f _ _ _ (ix2 1 d) rfl 0 (.inl (show 1 < 8 by decide))).trans ?_
  refine (View.read_writes_cons_unit_of_not_mem v f _ _ _ (ix2 1 d) rfl 0 (.inl (show 1 < 7 by decide))).trans ?_
  refine (View.read_writes_cons_unit_of_not_mem v f _ _ _ (ix2 1 d) rfl 0 (.inl (show 1 < 6 by decide))).trans ?_
  refine (View.read_writes_cons_unit_of_not_mem v f _ _ _ (ix2 1 d) rfl 0 (.inl (show 1 < 5 by decide))).trans ?_
  refine (View.read_writes_cons_unit_of_not_mem v f _ _ _ (ix2 1 d) rfl 0 (.inl (show 1 < 4 by decide))).trans ?_
  refine (View.read_writes_cons_unit_of_not_mem v f _ _ _ (ix2 1 d) rfl 0 (.inl (show 1 < 3 by decide))).trans ?_
  refine (View.read_writes_cons_unit_of_not_mem v f _ _ _ (ix2 1 d) rfl 0 (.inl (show 1 < 2 by decide))).trans ?_
  exact View.read_writes_cons_unit_of_mem v f _ _ _ (ix2 1 d) (ix2 0 d) rfl (Fin.forall_fin_two.mpr ⟨rfl, (Nat.zero_add d.val).symm⟩)

theorem row2 : v.read (Elt Ideal) (v.writes (Elt Ideal) f (rowPieces w0 w1 w2 w3 w4 w5 w6 w7 w8 w9 w10 w11 w12 w13 w14 w15 w16 w17)) (ix2 2 d) = w2 (ix2 0 d) := by
  unfold rowPieces
  refine (View.read_writes_cons_unit_of_not_mem v f _ _ _ (ix2 2 d) rfl 0 (.inl (show 2 < 17 by decide))).trans ?_
  refine (View.read_writes_cons_unit_of_not_mem v f _ _ _ (ix2 2 d) rfl 0 (.inl (show 2 < 16 by decide))).trans ?_
  refine (View.read_writes_cons_unit_of_not_mem v f _ _ _ (ix2 2 d) rfl 0 (.inl (show 2 < 15 by decide))).trans ?_
  refine (View.read_writes_cons_unit_of_not_mem v f _ _ _ (ix2 2 d) rfl 0 (.inl (show 2 < 14 by decide))).trans ?_
  refine (View.read_writes_cons_unit_of_not_mem v f _ _ _ (ix2 2 d) rfl 0 (.inl (show 2 < 13 by decide))).trans ?_
  refine (View.read_writes_cons_unit_of_not_mem v f _ _ _ (ix2 2 d) rfl 0 (.inl (show 2 < 12 by decide))).trans ?_
  refine (View.read_writes_cons_unit_of_not_mem v f _ _ _ (ix2 2 d) rfl 0 (.inl (show 2 < 11 by decide))).trans ?_
  refine (View.read_writes_cons_unit_of_not_mem v f _ _ _ (ix2 2 d) rfl 0 (.inl (show 2 < 10 by decide))).trans ?_
  refine (View.read_writes_cons_unit_of_not_mem v f _ _ _ (ix2 2 d) rfl 0 (.inl (show 2 < 9 by decide))).trans ?_
  refine (View.read_writes_cons_unit_of_not_mem v f _ _ _ (ix2 2 d) rfl 0 (.inl (show 2 < 8 by decide))).trans ?_
  refine (View.read_writes_cons_unit_of_not_mem v f _ _ _ (ix2 2 d) rfl 0 (.inl (show 2 < 7 by decide))).trans ?_
  refine (View.read_writes_cons_unit_of_not_mem v f _ _ _ (ix2 2 d) rfl 0 (.inl (show 2 < 6 by decide))).trans ?_
  refine (View.read_writes_cons_unit_of_not_mem v f _ _ _ (ix2 2 d) rfl 0 (.inl (show 2 < 5 by decide))).trans ?_
  refine (View.read_writes_cons_unit_of_not_mem v f _ _ _ (ix2 2 d) rfl 0 (.inl (show 2 < 4 by decide))).trans ?_
  refine (View.read_writes_cons_unit_of_not_mem v f _ _ _ (ix2 2 d) rfl 0 (.inl (show 2 < 3 by decide))).trans ?_
  exact View.read_writes_cons_unit_of_mem v f _ _ _ (ix2 2 d) (ix2 0 d) rfl (Fin.forall_fin_two.mpr ⟨rfl, (Nat.zero_add d.val).symm⟩)

theorem row3 : v.read (Elt Ideal) (v.writes (Elt Ideal) f (rowPieces w0 w1 w2 w3 w4 w5 w6 w7 w8 w9 w10 w11 w12 w13 w14 w15 w16 w17)) (ix2 3 d) = w3 (ix2 0 d) := by
  unfold rowPieces
  refine (View.read_writes_cons_unit_of_not_mem v f _ _ _ (ix2 3 d) rfl 0 (.inl (show 3 < 17 by decide))).trans ?_
  refine (View.read_writes_cons_unit_of_not_mem v f _ _ _ (ix2 3 d) rfl 0 (.inl (show 3 < 16 by decide))).trans ?_
  refine (View.read_writes_cons_unit_of_not_mem v f _ _ _ (ix2 3 d) rfl 0 (.inl (show 3 < 15 by decide))).trans ?_
  refine (View.read_writes_cons_unit_of_not_mem v f _ _ _ (ix2 3 d) rfl 0 (.inl (show 3 < 14 by decide))).trans ?_
  refine (View.read_writes_cons_unit_of_not_mem v f _ _ _ (ix2 3 d) rfl 0 (.inl (show 3 < 13 by decide))).trans ?_
  refine (View.read_writes_cons_unit_of_not_mem v f _ _ _ (ix2 3 d) rfl 0 (.inl (show 3 < 12 by decide))).trans ?_
  refine (View.read_writes_cons_unit_of_not_mem v f _ _ _ (ix2 3 d) rfl 0 (.inl (show 3 < 11 by decide))).trans ?_
  refine (View.read_writes_cons_unit_of_not_mem v f _ _ _ (ix2 3 d) rfl 0 (.inl (show 3 < 10 by decide))).trans ?_
  refine (View.read_writes_cons_unit_of_not_mem v f _ _ _ (ix2 3 d) rfl 0 (.inl (show 3 < 9 by decide))).trans ?_
  refine (View.read_writes_cons_unit_of_not_mem v f _ _ _ (ix2 3 d) rfl 0 (.inl (show 3 < 8 by decide))).trans ?_
  refine (View.read_writes_cons_unit_of_not_mem v f _ _ _ (ix2 3 d) rfl 0 (.inl (show 3 < 7 by decide))).trans ?_
  refine (View.read_writes_cons_unit_of_not_mem v f _ _ _ (ix2 3 d) rfl 0 (.inl (show 3 < 6 by decide))).trans ?_
  refine (View.read_writes_cons_unit_of_not_mem v f _ _ _ (ix2 3 d) rfl 0 (.inl (show 3 < 5 by decide))).trans ?_
  refine (View.read_writes_cons_unit_of_not_mem v f _ _ _ (ix2 3 d) rfl 0 (.inl (show 3 < 4 by decide))).trans ?_
  exact View.read_writes_cons_unit_of_mem v f _ _ _ (ix2 3 d) (ix2 0 d) rfl (Fin.forall_fin_two.mpr ⟨rfl, (Nat.zero_add d.val).symm⟩)

theorem row4 : v.read (Elt Ideal) (v.writes (Elt Ideal) f (rowPieces w0 w1 w2 w3 w4 w5 w6 w7 w8 w9 w10 w11 w12 w13 w14 w15 w16 w17)) (ix2 4 d) = w4 (ix2 0 d) := by
  unfold rowPieces
  refine (View.read_writes_cons_unit_of_not_mem v f _ _ _ (ix2 4 d) rfl 0 (.inl (show 4 < 17 by decide))).trans ?_
  refine (View.read_writes_cons_unit_of_not_mem v f _ _ _ (ix2 4 d) rfl 0 (.inl (show 4 < 16 by decide))).trans ?_
  refine (View.read_writes_cons_unit_of_not_mem v f _ _ _ (ix2 4 d) rfl 0 (.inl (show 4 < 15 by decide))).trans ?_
  refine (View.read_writes_cons_unit_of_not_mem v f _ _ _ (ix2 4 d) rfl 0 (.inl (show 4 < 14 by decide))).trans ?_
  refine (View.read_writes_cons_unit_of_not_mem v f _ _ _ (ix2 4 d) rfl 0 (.inl (show 4 < 13 by decide))).trans ?_
  refine (View.read_writes_cons_unit_of_not_mem v f _ _ _ (ix2 4 d) rfl 0 (.inl (show 4 < 12 by decide))).trans ?_
  refine (View.read_writes_cons_unit_of_not_mem v f _ _ _ (ix2 4 d) rfl 0 (.inl (show 4 < 11 by decide))).trans ?_
  refine (View.read_writes_cons_unit_of_not_mem v f _ _ _ (ix2 4 d) rfl 0 (.inl (show 4 < 10 by decide))).trans ?_
  refine (View.read_writes_cons_unit_of_not_mem v f _ _ _ (ix2 4 d) rfl 0 (.inl (show 4 < 9 by decide))).trans ?_
  refine (View.read_writes_cons_unit_of_not_mem v f _ _ _ (ix2 4 d) rfl 0 (.inl (show 4 < 8 by decide))).trans ?_
  refine (View.read_writes_cons_unit_of_not_mem v f _ _ _ (ix2 4 d) rfl 0 (.inl (show 4 < 7 by decide))).trans ?_
  refine (View.read_writes_cons_unit_of_not_mem v f _ _ _ (ix2 4 d) rfl 0 (.inl (show 4 < 6 by decide))).trans ?_
  refine (View.read_writes_cons_unit_of_not_mem v f _ _ _ (ix2 4 d) rfl 0 (.inl (show 4 < 5 by decide))).trans ?_
  exact View.read_writes_cons_unit_of_mem v f _ _ _ (ix2 4 d) (ix2 0 d) rfl (Fin.forall_fin_two.mpr ⟨rfl, (Nat.zero_add d.val).symm⟩)

theorem row5 : v.read (Elt Ideal) (v.writes (Elt Ideal) f (rowPieces w0 w1 w2 w3 w4 w5 w6 w7 w8 w9 w10 w11 w12 w13 w14 w15 w16 w17)) (ix2 5 d) = w5 (ix2 0 d) := by
  unfold rowPieces
  refine (View.read_writes_cons_unit_of_not_mem v f _ _ _ (ix2 5 d) rfl 0 (.inl (show 5 < 17 by decide))).trans ?_
  refine (View.read_writes_cons_unit_of_not_mem v f _ _ _ (ix2 5 d) rfl 0 (.inl (show 5 < 16 by decide))).trans ?_
  refine (View.read_writes_cons_unit_of_not_mem v f _ _ _ (ix2 5 d) rfl 0 (.inl (show 5 < 15 by decide))).trans ?_
  refine (View.read_writes_cons_unit_of_not_mem v f _ _ _ (ix2 5 d) rfl 0 (.inl (show 5 < 14 by decide))).trans ?_
  refine (View.read_writes_cons_unit_of_not_mem v f _ _ _ (ix2 5 d) rfl 0 (.inl (show 5 < 13 by decide))).trans ?_
  refine (View.read_writes_cons_unit_of_not_mem v f _ _ _ (ix2 5 d) rfl 0 (.inl (show 5 < 12 by decide))).trans ?_
  refine (View.read_writes_cons_unit_of_not_mem v f _ _ _ (ix2 5 d) rfl 0 (.inl (show 5 < 11 by decide))).trans ?_
  refine (View.read_writes_cons_unit_of_not_mem v f _ _ _ (ix2 5 d) rfl 0 (.inl (show 5 < 10 by decide))).trans ?_
  refine (View.read_writes_cons_unit_of_not_mem v f _ _ _ (ix2 5 d) rfl 0 (.inl (show 5 < 9 by decide))).trans ?_
  refine (View.read_writes_cons_unit_of_not_mem v f _ _ _ (ix2 5 d) rfl 0 (.inl (show 5 < 8 by decide))).trans ?_
  refine (View.read_writes_cons_unit_of_not_mem v f _ _ _ (ix2 5 d) rfl 0 (.inl (show 5 < 7 by decide))).trans ?_
  refine (View.read_writes_cons_unit_of_not_mem v f _ _ _ (ix2 5 d) rfl 0 (.inl (show 5 < 6 by decide))).trans ?_
  exact View.read_writes_cons_unit_of_mem v f _ _ _ (ix2 5 d) (ix2 0 d) rfl (Fin.forall_fin_two.mpr ⟨rfl, (Nat.zero_add d.val).symm⟩)

theorem row6 : v.read (Elt Ideal) (v.writes (Elt Ideal) f (rowPieces w0 w1 w2 w3 w4 w5 w6 w7 w8 w9 w10 w11 w12 w13 w14 w15 w16 w17)) (ix2 6 d) = w6 (ix2 0 d) := by
  unfold rowPieces
  refine (View.read_writes_cons_unit_of_not_mem v f _ _ _ (ix2 6 d) rfl 0 (.inl (show 6 < 17 by decide))).trans ?_
  refine (View.read_writes_cons_unit_of_not_mem v f _ _ _ (ix2 6 d) rfl 0 (.inl (show 6 < 16 by decide))).trans ?_
  refine (View.read_writes_cons_unit_of_not_mem v f _ _ _ (ix2 6 d) rfl 0 (.inl (show 6 < 15 by decide))).trans ?_
  refine (View.read_writes_cons_unit_of_not_mem v f _ _ _ (ix2 6 d) rfl 0 (.inl (show 6 < 14 by decide))).trans ?_
  refine (View.read_writes_cons_unit_of_not_mem v f _ _ _ (ix2 6 d) rfl 0 (.inl (show 6 < 13 by decide))).trans ?_
  refine (View.read_writes_cons_unit_of_not_mem v f _ _ _ (ix2 6 d) rfl 0 (.inl (show 6 < 12 by decide))).trans ?_
  refine (View.read_writes_cons_unit_of_not_mem v f _ _ _ (ix2 6 d) rfl 0 (.inl (show 6 < 11 by decide))).trans ?_
  refine (View.read_writes_cons_unit_of_not_mem v f _ _ _ (ix2 6 d) rfl 0 (.inl (show 6 < 10 by decide))).trans ?_
  refine (View.read_writes_cons_unit_of_not_mem v f _ _ _ (ix2 6 d) rfl 0 (.inl (show 6 < 9 by decide))).trans ?_
  refine (View.read_writes_cons_unit_of_not_mem v f _ _ _ (ix2 6 d) rfl 0 (.inl (show 6 < 8 by decide))).trans ?_
  refine (View.read_writes_cons_unit_of_not_mem v f _ _ _ (ix2 6 d) rfl 0 (.inl (show 6 < 7 by decide))).trans ?_
  exact View.read_writes_cons_unit_of_mem v f _ _ _ (ix2 6 d) (ix2 0 d) rfl (Fin.forall_fin_two.mpr ⟨rfl, (Nat.zero_add d.val).symm⟩)

theorem row7 : v.read (Elt Ideal) (v.writes (Elt Ideal) f (rowPieces w0 w1 w2 w3 w4 w5 w6 w7 w8 w9 w10 w11 w12 w13 w14 w15 w16 w17)) (ix2 7 d) = w7 (ix2 0 d) := by
  unfold rowPieces
  refine (View.read_writes_cons_unit_of_not_mem v f _ _ _ (ix2 7 d) rfl 0 (.inl (show 7 < 17 by decide))).trans ?_
  refine (View.read_writes_cons_unit_of_not_mem v f _ _ _ (ix2 7 d) rfl 0 (.inl (show 7 < 16 by decide))).trans ?_
  refine (View.read_writes_cons_unit_of_not_mem v f _ _ _ (ix2 7 d) rfl 0 (.inl (show 7 < 15 by decide))).trans ?_
  refine (View.read_writes_cons_unit_of_not_mem v f _ _ _ (ix2 7 d) rfl 0 (.inl (show 7 < 14 by decide))).trans ?_
  refine (View.read_writes_cons_unit_of_not_mem v f _ _ _ (ix2 7 d) rfl 0 (.inl (show 7 < 13 by decide))).trans ?_
  refine (View.read_writes_cons_unit_of_not_mem v f _ _ _ (ix2 7 d) rfl 0 (.inl (show 7 < 12 by decide))).trans ?_
  refine (View.read_writes_cons_unit_of_not_mem v f _ _ _ (ix2 7 d) rfl 0 (.inl (show 7 < 11 by decide))).trans ?_
  refine (View.read_writes_cons_unit_of_not_mem v f _ _ _ (ix2 7 d) rfl 0 (.inl (show 7 < 10 by decide))).trans ?_
  refine (View.read_writes_cons_unit_of_not_mem v f _ _ _ (ix2 7 d) rfl 0 (.inl (show 7 < 9 by decide))).trans ?_
  refine (View.read_writes_cons_unit_of_not_mem v f _ _ _ (ix2 7 d) rfl 0 (.inl (show 7 < 8 by decide))).trans ?_
  exact View.read_writes_cons_unit_of_mem v f _ _ _ (ix2 7 d) (ix2 0 d) rfl (Fin.forall_fin_two.mpr ⟨rfl, (Nat.zero_add d.val).symm⟩)

theorem row8 : v.read (Elt Ideal) (v.writes (Elt Ideal) f (rowPieces w0 w1 w2 w3 w4 w5 w6 w7 w8 w9 w10 w11 w12 w13 w14 w15 w16 w17)) (ix2 8 d) = w8 (ix2 0 d) := by
  unfold rowPieces
  refine (View.read_writes_cons_unit_of_not_mem v f _ _ _ (ix2 8 d) rfl 0 (.inl (show 8 < 17 by decide))).trans ?_
  refine (View.read_writes_cons_unit_of_not_mem v f _ _ _ (ix2 8 d) rfl 0 (.inl (show 8 < 16 by decide))).trans ?_
  refine (View.read_writes_cons_unit_of_not_mem v f _ _ _ (ix2 8 d) rfl 0 (.inl (show 8 < 15 by decide))).trans ?_
  refine (View.read_writes_cons_unit_of_not_mem v f _ _ _ (ix2 8 d) rfl 0 (.inl (show 8 < 14 by decide))).trans ?_
  refine (View.read_writes_cons_unit_of_not_mem v f _ _ _ (ix2 8 d) rfl 0 (.inl (show 8 < 13 by decide))).trans ?_
  refine (View.read_writes_cons_unit_of_not_mem v f _ _ _ (ix2 8 d) rfl 0 (.inl (show 8 < 12 by decide))).trans ?_
  refine (View.read_writes_cons_unit_of_not_mem v f _ _ _ (ix2 8 d) rfl 0 (.inl (show 8 < 11 by decide))).trans ?_
  refine (View.read_writes_cons_unit_of_not_mem v f _ _ _ (ix2 8 d) rfl 0 (.inl (show 8 < 10 by decide))).trans ?_
  refine (View.read_writes_cons_unit_of_not_mem v f _ _ _ (ix2 8 d) rfl 0 (.inl (show 8 < 9 by decide))).trans ?_
  exact View.read_writes_cons_unit_of_mem v f _ _ _ (ix2 8 d) (ix2 0 d) rfl (Fin.forall_fin_two.mpr ⟨rfl, (Nat.zero_add d.val).symm⟩)

theorem row9 : v.read (Elt Ideal) (v.writes (Elt Ideal) f (rowPieces w0 w1 w2 w3 w4 w5 w6 w7 w8 w9 w10 w11 w12 w13 w14 w15 w16 w17)) (ix2 9 d) = w9 (ix2 0 d) := by
  unfold rowPieces
  refine (View.read_writes_cons_unit_of_not_mem v f _ _ _ (ix2 9 d) rfl 0 (.inl (show 9 < 17 by decide))).trans ?_
  refine (View.read_writes_cons_unit_of_not_mem v f _ _ _ (ix2 9 d) rfl 0 (.inl (show 9 < 16 by decide))).trans ?_
  refine (View.read_writes_cons_unit_of_not_mem v f _ _ _ (ix2 9 d) rfl 0 (.inl (show 9 < 15 by decide))).trans ?_
  refine (View.read_writes_cons_unit_of_not_mem v f _ _ _ (ix2 9 d) rfl 0 (.inl (show 9 < 14 by decide))).trans ?_
  refine (View.read_writes_cons_unit_of_not_mem v f _ _ _ (ix2 9 d) rfl 0 (.inl (show 9 < 13 by decide))).trans ?_
  refine (View.read_writes_cons_unit_of_not_mem v f _ _ _ (ix2 9 d) rfl 0 (.inl (show 9 < 12 by decide))).trans ?_
  refine (View.read_writes_cons_unit_of_not_mem v f _ _ _ (ix2 9 d) rfl 0 (.inl (show 9 < 11 by decide))).trans ?_
  refine (View.read_writes_cons_unit_of_not_mem v f _ _ _ (ix2 9 d) rfl 0 (.inl (show 9 < 10 by decide))).trans ?_
  exact View.read_writes_cons_unit_of_mem v f _ _ _ (ix2 9 d) (ix2 0 d) rfl (Fin.forall_fin_two.mpr ⟨rfl, (Nat.zero_add d.val).symm⟩)

theorem row10 : v.read (Elt Ideal) (v.writes (Elt Ideal) f (rowPieces w0 w1 w2 w3 w4 w5 w6 w7 w8 w9 w10 w11 w12 w13 w14 w15 w16 w17)) (ix2 10 d) = w10 (ix2 0 d) := by
  unfold rowPieces
  refine (View.read_writes_cons_unit_of_not_mem v f _ _ _ (ix2 10 d) rfl 0 (.inl (show 10 < 17 by decide))).trans ?_
  refine (View.read_writes_cons_unit_of_not_mem v f _ _ _ (ix2 10 d) rfl 0 (.inl (show 10 < 16 by decide))).trans ?_
  refine (View.read_writes_cons_unit_of_not_mem v f _ _ _ (ix2 10 d) rfl 0 (.inl (show 10 < 15 by decide))).trans ?_
  refine (View.read_writes_cons_unit_of_not_mem v f _ _ _ (ix2 10 d) rfl 0 (.inl (show 10 < 14 by decide))).trans ?_
  refine (View.read_writes_cons_unit_of_not_mem v f _ _ _ (ix2 10 d) rfl 0 (.inl (show 10 < 13 by decide))).trans ?_
  refine (View.read_writes_cons_unit_of_not_mem v f _ _ _ (ix2 10 d) rfl 0 (.inl (show 10 < 12 by decide))).trans ?_
  refine (View.read_writes_cons_unit_of_not_mem v f _ _ _ (ix2 10 d) rfl 0 (.inl (show 10 < 11 by decide))).trans ?_
  exact View.read_writes_cons_unit_of_mem v f _ _ _ (ix2 10 d) (ix2 0 d) rfl (Fin.forall_fin_two.mpr ⟨rfl, (Nat.zero_add d.val).symm⟩)

theorem row11 : v.read (Elt Ideal) (v.writes (Elt Ideal) f (rowPieces w0 w1 w2 w3 w4 w5 w6 w7 w8 w9 w10 w11 w12 w13 w14 w15 w16 w17)) (ix2 11 d) = w11 (ix2 0 d) := by
  unfold rowPieces
  refine (View.read_writes_cons_unit_of_not_mem v f _ _ _ (ix2 11 d) rfl 0 (.inl (show 11 < 17 by decide))).trans ?_
  refine (View.read_writes_cons_unit_of_not_mem v f _ _ _ (ix2 11 d) rfl 0 (.inl (show 11 < 16 by decide))).trans ?_
  refine (View.read_writes_cons_unit_of_not_mem v f _ _ _ (ix2 11 d) rfl 0 (.inl (show 11 < 15 by decide))).trans ?_
  refine (View.read_writes_cons_unit_of_not_mem v f _ _ _ (ix2 11 d) rfl 0 (.inl (show 11 < 14 by decide))).trans ?_
  refine (View.read_writes_cons_unit_of_not_mem v f _ _ _ (ix2 11 d) rfl 0 (.inl (show 11 < 13 by decide))).trans ?_
  refine (View.read_writes_cons_unit_of_not_mem v f _ _ _ (ix2 11 d) rfl 0 (.inl (show 11 < 12 by decide))).trans ?_
  exact View.read_writes_cons_unit_of_mem v f _ _ _ (ix2 11 d) (ix2 0 d) rfl (Fin.forall_fin_two.mpr ⟨rfl, (Nat.zero_add d.val).symm⟩)

theorem row12 : v.read (Elt Ideal) (v.writes (Elt Ideal) f (rowPieces w0 w1 w2 w3 w4 w5 w6 w7 w8 w9 w10 w11 w12 w13 w14 w15 w16 w17)) (ix2 12 d) = w12 (ix2 0 d) := by
  unfold rowPieces
  refine (View.read_writes_cons_unit_of_not_mem v f _ _ _ (ix2 12 d) rfl 0 (.inl (show 12 < 17 by decide))).trans ?_
  refine (View.read_writes_cons_unit_of_not_mem v f _ _ _ (ix2 12 d) rfl 0 (.inl (show 12 < 16 by decide))).trans ?_
  refine (View.read_writes_cons_unit_of_not_mem v f _ _ _ (ix2 12 d) rfl 0 (.inl (show 12 < 15 by decide))).trans ?_
  refine (View.read_writes_cons_unit_of_not_mem v f _ _ _ (ix2 12 d) rfl 0 (.inl (show 12 < 14 by decide))).trans ?_
  refine (View.read_writes_cons_unit_of_not_mem v f _ _ _ (ix2 12 d) rfl 0 (.inl (show 12 < 13 by decide))).trans ?_
  exact View.read_writes_cons_unit_of_mem v f _ _ _ (ix2 12 d) (ix2 0 d) rfl (Fin.forall_fin_two.mpr ⟨rfl, (Nat.zero_add d.val).symm⟩)

theorem row13 : v.read (Elt Ideal) (v.writes (Elt Ideal) f (rowPieces w0 w1 w2 w3 w4 w5 w6 w7 w8 w9 w10 w11 w12 w13 w14 w15 w16 w17)) (ix2 13 d) = w13 (ix2 0 d) := by
  unfold rowPieces
  refine (View.read_writes_cons_unit_of_not_mem v f _ _ _ (ix2 13 d) rfl 0 (.inl (show 13 < 17 by decide))).trans ?_
  refine (View.read_writes_cons_unit_of_not_mem v f _ _ _ (ix2 13 d) rfl 0 (.inl (show 13 < 16 by decide))).trans ?_
  refine (View.read_writes_cons_unit_of_not_mem v f _ _ _ (ix2 13 d) rfl 0 (.inl (show 13 < 15 by decide))).trans ?_
  refine (View.read_writes_cons_unit_of_not_mem v f _ _ _ (ix2 13 d) rfl 0 (.inl (show 13 < 14 by decide))).trans ?_
  exact View.read_writes_cons_unit_of_mem v f _ _ _ (ix2 13 d) (ix2 0 d) rfl (Fin.forall_fin_two.mpr ⟨rfl, (Nat.zero_add d.val).symm⟩)

theorem row14 : v.read (Elt Ideal) (v.writes (Elt Ideal) f (rowPieces w0 w1 w2 w3 w4 w5 w6 w7 w8 w9 w10 w11 w12 w13 w14 w15 w16 w17)) (ix2 14 d) = w14 (ix2 0 d) := by
  unfold rowPieces
  refine (View.read_writes_cons_unit_of_not_mem v f _ _ _ (ix2 14 d) rfl 0 (.inl (show 14 < 17 by decide))).trans ?_
  refine (View.read_writes_cons_unit_of_not_mem v f _ _ _ (ix2 14 d) rfl 0 (.inl (show 14 < 16 by decide))).trans ?_
  refine (View.read_writes_cons_unit_of_not_mem v f _ _ _ (ix2 14 d) rfl 0 (.inl (show 14 < 15 by decide))).trans ?_
  exact View.read_writes_cons_unit_of_mem v f _ _ _ (ix2 14 d) (ix2 0 d) rfl (Fin.forall_fin_two.mpr ⟨rfl, (Nat.zero_add d.val).symm⟩)

theorem row15 : v.read (Elt Ideal) (v.writes (Elt Ideal) f (rowPieces w0 w1 w2 w3 w4 w5 w6 w7 w8 w9 w10 w11 w12 w13 w14 w15 w16 w17)) (ix2 15 d) = w15 (ix2 0 d) := by
  unfold rowPieces
  refine (View.read_writes_cons_unit_of_not_mem v f _ _ _ (ix2 15 d) rfl 0 (.inl (show 15 < 17 by decide))).trans ?_
  refine (View.read_writes_cons_unit_of_not_mem v f _ _ _ (ix2 15 d) rfl 0 (.inl (show 15 < 16 by decide))).trans ?_
  exact View.read_writes_cons_unit_of_mem v f _ _ _ (ix2 15 d) (ix2 0 d) rfl (Fin.forall_fin_two.mpr ⟨rfl, (Nat.zero_add d.val).symm⟩)

theorem row16 : v.read (Elt Ideal) (v.writes (Elt Ideal) f (rowPieces w0 w1 w2 w3 w4 w5 w6 w7 w8 w9 w10 w11 w12 w13 w14 w15 w16 w17)) (ix2 16 d) = w16 (ix2 0 d) := by
  unfold rowPieces
  refine (View.read_writes_cons_unit_of_not_mem v f _ _ _ (ix2 16 d) rfl 0 (.inl (show 16 < 17 by decide))).trans ?_
  exact View.read_writes_cons_unit_of_mem v f _ _ _ (ix2 16 d) (ix2 0 d) rfl (Fin.forall_fin_two.mpr ⟨rfl, (Nat.zero_add d.val).symm⟩)

theorem row17 : v.read (Elt Ideal) (v.writes (Elt Ideal) f (rowPieces w0 w1 w2 w3 w4 w5 w6 w7 w8 w9 w10 w11 w12 w13 w14 w15 w16 w17)) (ix2 17 d) = w17 (ix2 0 d) := by
  unfold rowPieces
  exact View.read_writes_cons_unit_of_mem v f _ _ _ (ix2 17 d) (ix2 0 d) rfl (Fin.forall_fin_two.mpr ⟨rfl, (Nat.zero_add d.val).symm⟩)

end Cert.QueryIdeal

end
-- ==== Proof.Query.Body.lean ====
module

public import proofs.«01_k».proof.Proof.Query.RangeIdeal
public import Idealize.ShloMosaic.Lib.VecWindow
public import Idealize.ShloMosaic.Lib.WritesUnit
public import Idealize.ShloMosaic.Lib.WholeRead

/-! What the body leaves at a point: the block of distances, made of the queries' rows and the block's rows. -/

@[expose] public section

set_option maxRecDepth 131072

noncomputable section

namespace Cert.QueryIdeal

open Idealize.ShloMosaic Idealize.ShloMosaic.TcCoe
open Gen Cert.QueryProof

/-! ## The loop: the squared lengths of the block's rows -/

theorem trips_eq : k0_t1_loop.trips = 8 := by decide

theorem chunk (k : Fin k0_t1_loop.trips) (p : Fin 128) : 128 * k.val + p.val < 1024 := by
  have := lt_of_lt_of_eq k.isLt trips_eq; have := p.isLt; omega

/-- A stretch of the row holds the squared lengths of a hundred and twenty-eight rows. -/
theorem stretch (v : Vec Ideal S128x1536 .f32) (p : Fin 128) :
    k0_pay2 v (ix2 0 p) = ∑ q : Fin 1536, (v (ix2 p q) * v (ix2 p q) : EReal) := by
  pointwise [k0_pay2]

section Loop
variable (c : Dev nD) (i : grid0.Coords) (arg1 : Memref sig .tc .smem S18 .i32) (harg1 : arg1.IsWhole) (arg2 : Memref sig .tc .vmem S1568x1536 .f32) (harg2 : arg2.IsWhole) (arg3 : Memref sig .tc .vmem S1024x1536 .f32) (harg3 : arg3.IsWhole) (arg4 : Memref sig .tc .vmem S8x1536 .f32) (harg4 : arg4.IsWhole)
  (arg5 : Memref sig .tc .vmem S8x1536 .f32) (harg5 : arg5.IsWhole) (arg6 : Memref sig .tc .vmem S18x1024 .f32) (harg6 : arg6.IsWhole) (arg7 : Memref sig .tc .vmem S18x1536 .f32) (harg7 : arg7.IsWhole) (arg8 : Memref sig .tc .vmem S1x1024 .f32) (harg8 : arg8.IsWhole)

theorem trip_eq (X : BufTy.Contents (Elt Ideal) arg3.view.ty) (k : Fin k0_t1_loop.trips) :
    tripL_k0_t1 (F := Ideal) Variants.none c none i arg1 harg1 arg2 harg2 arg3 harg3 arg4 harg4 arg5 harg5 arg6 harg6 arg7 harg7 arg8 harg8 X k
      = [⟨Rect.unit (s := S1x1024) (k0_off20 k) S1x128.size (k0_off20_inb k),
          k0_pay2 (arg3.view.readAt (Elt Ideal) (Rect.unit (s := S1024x1536) (k0_off19 k) S128x1536.size (k0_off19_inb k)).toLoadRect X)⟩] := by
  unfold tripL_k0_t1 trip_k0_t1
  rfl

theorem stretch_at (x : Vec Ideal S1024x1536 .f32) (k : Fin k0_t1_loop.trips) (p : Fin 128) :
    k0_pay2 (arg3.view.readAt (Elt Ideal) (Rect.unit (s := S1024x1536) (k0_off19 k) S128x1536.size (k0_off19_inb k)).toLoadRect (harg3.unread x)) (ix2 0 p)
      = ∑ q : Fin 1536, (x (ix2 ⟨128 * k.val + p.val, chunk k p⟩ q) * x (ix2 ⟨128 * k.val + p.val, chunk k p⟩ q) : EReal) := by
  refine (stretch _ p).trans (Finset.sum_congr rfl fun q _ => ?_)
  have h : arg3.view.readAt (Elt Ideal) (Rect.unit (s := S1024x1536) (k0_off19 k) S128x1536.size (k0_off19_inb k)).toLoadRect (harg3.unread x) (ix2 p q)
      = x (ix2 ⟨128 * k.val + p.val, chunk k p⟩ q) := by
    refine (Memref.IsWhole.readAt_unread harg3 x _ _).trans (congrArg x ?_)
    funext a
    refine Fin.ext ?_
    have e := congrFun (k0_off19_eq k) a
    match a with
    | ⟨0, _⟩ => show (k0_off19 k) 0 + 1 * p.val = 128 * k.val + p.val; rw [show (k0_off19 k) 0 = 128 * k.val from e]; omega
    | ⟨1, _⟩ => show (k0_off19 k) 1 + 1 * q.val = q.val; rw [show (k0_off19 k) 1 = 0 from e]; omega
  exact congrArg (fun z : EReal => z * z) h

/-- After the first trips the stretches they wrote hold the squared lengths. -/
theorem loop_at (x : Vec Ideal S1024x1536 .f32) (f : BufTy.Contents (Elt Ideal) arg8.view.ty) (r : Fin 1024) : ∀ n, n ≤ k0_t1_loop.trips → r.val < 128 * n →
    arg8.view.read (Elt Ideal) (arg8.view.writes (Elt Ideal) f (pb_k0_t1 (F := Ideal) Variants.none c none i arg1 harg1 arg2 harg2 arg3 harg3 arg4 harg4 arg5 harg5 arg6 harg6 arg7 harg7 arg8 harg8 (harg3.unread x) n)) (ix2 0 r)
      = ∑ q : Fin 1536, (x (ix2 r q) * x (ix2 r q) : EReal)
  | 0, _, h => absurd h (by omega)
  | n + 1, hn, h => by
    rw [show n + 1 = (⟨n, hn⟩ : Fin k0_t1_loop.trips).val + 1 from rfl, pb_k0_t1_succ, trip_eq, List.singleton_append]
    by_cases hr : 128 * n ≤ r.val
    · refine (View.read_writes_cons_unit_of_mem arg8.view _ _ _ _ (ix2 0 r) (ix2 0 (⟨r.val - 128 * n, by omega⟩ : Fin 128)) (k0_off20_eq ⟨n, hn⟩) ?_).trans ?_
      · exact Fin.forall_fin_two.mpr ⟨rfl, by show r.val = 128 * n + (r.val - 128 * n); omega⟩
      · refine (stretch_at arg3 harg3 x ⟨n, hn⟩ _).trans ?_
        have : (⟨128 * n + (r.val - 128 * n), by omega⟩ : Fin 1024) = r := Fin.ext (by show 128 * n + (r.val - 128 * n) = r.val; omega)
        exact congrArg (fun l : Fin 1024 => ∑ q : Fin 1536, (x (ix2 l q) * x (ix2 l q) : EReal)) this
    · refine (View.read_writes_cons_unit_of_not_mem arg8.view _ _ _ _ (ix2 0 r) (k0_off20_eq ⟨n, hn⟩) 1 (.inl (by show r.val < 128 * n; omega))).trans ?_
      exact loop_at x f r n (by omega) (by omega)

end Loop

/-- The squared lengths of a block's rows, as a row. -/
def lengths (x : Vec Ideal S1024x1536 .f32) : Vec Ideal S1x1024 .f32 :=
  fun y => (∑ q : Fin 1536, (x (ix2 (y 1) q) * x (ix2 (y 1) q) : EReal) : EReal)

variable (m : (ℓ : Loc nD τ sig) → Buf (Elt Ideal) ℓ)

/-- The payload at a point, its three operands read back. -/
theorem payload_eq (c : Dev nD) (i : grid0.Coords) (arg1 : Memref sig .tc .smem S18 .i32) (harg1 : arg1.IsWhole) (arg2 : Memref sig .tc .vmem S1568x1536 .f32) (harg2 : arg2.IsWhole) (arg3 : Memref sig .tc .vmem S1024x1536 .f32) (harg3 : arg3.IsWhole) (arg4 : Memref sig .tc .vmem S8x1536 .f32) (harg4 : arg4.IsWhole)
  (arg5 : Memref sig .tc .vmem S8x1536 .f32) (harg5 : arg5.IsWhole) (arg6 : Memref sig .tc .vmem S18x1024 .f32) (harg6 : arg6.IsWhole) (arg7 : Memref sig .tc .vmem S18x1536 .f32) (harg7 : arg7.IsWhole) (arg8 : Memref sig .tc .vmem S1x1024 .f32) (harg8 : arg8.IsWhole)
    (v : View sig .tc .vmem S18x1536 .f32) (f : v.ty.Contents (Elt Ideal)) (s : Vec Ideal S18x1536 .f32) (hs : v.read (Elt Ideal) f = s)
    (x : Vec Ideal S1024x1536 .f32) (g : arg8.view.ty.Contents (Elt Ideal)) :
    k0_pay3 (v.readAt (Elt Ideal) (Rect.unit ![0, 0] S18x1536.size inb_S18x1536_S18x1536_0_0).toLoadRect f)
      (arg3.view.readAt (Elt Ideal) (Rect.unit ![0, 0] S1024x1536.size inb_S1024x1536_S1024x1536_0_0).toLoadRect (harg3.unread x))
      (arg8.view.readAt (Elt Ideal) (Rect.unit ![0, 0] S1x1024.size inb_S1x1024_S1x1024_0_0).toLoadRect
        (arg8.view.writes (Elt Ideal) g (pb_k0_t1 (F := Ideal) Variants.none c none i arg1 harg1 arg2 harg2 arg3 harg3 arg4 harg4 arg5 harg5 arg6 harg6 arg7 harg7 arg8 harg8 (harg3.unread x) k0_t1_loop.trips)))
      = k0_pay3 s x (lengths x) := by
  rw [View.readAt_full, View.readAt_full, View.readAt_full, hs, Memref.IsWhole.read_unread]
  congr 1
  funext y
  obtain ⟨o, r, rfl⟩ : ∃ (o : Fin 1) (r : Fin 1024), y = ix2 o r := ⟨y 0, y 1, eq_ix2 y⟩
  obtain rfl : o = 0 := Subsingleton.elim _ _
  exact loop_at c _ _ _ _ _ _ _ _ _ _ _ _ _ _ _ arg8 _ x g r _ le_rfl (by rw [trips_eq]; have := r.isLt; omega)

theorem out_later (hO : Ok m) (hH : Hyps m hO) (c : Dev nD) (t : Fin (cfgM m hO).N) (h0 : ¬t.val % 16 = 0) :
    (outsAt0 m hO hH c t.val t.isLt).1 = k0_pay3 (outsAt0 m hO hH c t.val t.isLt).2 (iblk m hO c 1 t) (lengths (iblk m hO c 1 t)) := by
  rw [outsAt0_B m hO hH c t h0]
  unfold out0_B_4 sout0_B_0 kernelRun0_B
  generalize (outsAt0 m hO hH c _ _).2 = xs
  dsimp only
  rw [View.read_writes_full]
  exact payload_eq c (grid0.coords t) tbM0_0 htbM0_0 (ms0_0 m hO t) _ (ms0_1 m hO t) _ (ms0_2 m hO t) _ (ms0_3 m hO t) _ (ms0_4 m hO t) _ scM0_0 _ scM0_1 _
    (View.whole cc0_scratch0) _ xs (Memref.IsWhole.read_unread _ _) _ _

end Cert.QueryIdeal

end
-- ==== Proof.Query.First.lean ====
module

public import proofs.«01_k».proof.Proof.Query.Pieces
public import proofs.«01_k».proof.Proof.Query.Body
public import Idealize.ShloMosaic.Lib.WholeRead

/-! The first point: the block of distances it leaves, and the rows it keeps. -/

@[expose] public section

set_option maxRecDepth 131072

noncomputable section

namespace Cert.QueryIdeal

open Idealize.ShloMosaic Idealize.ShloMosaic.TcCoe
open Gen Cert.QueryProof

/-- The word read at a place. -/
abbrev wordAt {c : Dev nD} (xt0 : TbBuf0 (F := Ideal) c tbM0_0) (k : ℕ) (h : ∀ a, (![k] : Fin 1 → ℕ) a + S1.size a ≤ S18.size a) : BitVec 32 :=
  tbM0_0.view.readAt (Elt Ideal) (Rect.unit (s := S18) ![k] S1.size h).toLoadRect xt0 (Shape.Idx.first (numel1_S1.symm ▸ Nat.one_pos))

section First
variable (c : Dev nD)
  (i : grid0.Coords)
  (arg2 : Memref sig .tc .vmem S1568x1536 .f32)
  (harg2 : arg2.IsWhole)
  (arg3 : Memref sig .tc .vmem S1024x1536 .f32)
  (harg3 : arg3.IsWhole)
  (arg4 : Memref sig .tc .vmem S8x1536 .f32)
  (harg4 : arg4.IsWhole)
  (arg5 : Memref sig .tc .vmem S8x1536 .f32)
  (harg5 : arg5.IsWhole)
  (arg6 : Memref sig .tc .vmem S18x1024 .f32)
  (harg6 : arg6.IsWhole)
  (arg7 : Memref sig .tc .vmem S18x1536 .f32)
  (harg7 : arg7.IsWhole)
  (arg8 : Memref sig .tc .vmem S1x1024 .f32)
  (harg8 : arg8.IsWhole)
  (hc0 : cond0_0 i)
  (x0 : Vec Ideal S1568x1536 .f32)
  (x1 : Vec Ideal S1024x1536 .f32)
  (x2 : Vec Ideal S8x1536 .f32)
  (x3 : Vec Ideal S8x1536 .f32)
  (xt0 : TbBuf0 (F := Ideal) c tbM0_0)
  (k0_hw1 : k0_chk1 i (tbM0_0.view.readAt (Elt Ideal) (Rect.unit (s := S18) ![0] S1.size inb_S18_S1_0).toLoadRect xt0 (Shape.Idx.first (numel1_S1.symm ▸ Nat.one_pos))))
  (k0_hw2 : k0_chk2 i (tbM0_0.view.readAt (Elt Ideal) (Rect.unit (s := S18) ![1] S1.size inb_S18_S1_1).toLoadRect xt0 (Shape.Idx.first (numel1_S1.symm ▸ Nat.one_pos))))
  (k0_hw3 : k0_chk3 i (tbM0_0.view.readAt (Elt Ideal) (Rect.unit (s := S18) ![2] S1.size inb_S18_S1_2).toLoadRect xt0 (Shape.Idx.first (numel1_S1.symm ▸ Nat.one_pos))))
  (k0_hw4 : k0_chk4 i (tbM0_0.view.readAt (Elt Ideal) (Rect.unit (s := S18) ![3] S1.size inb_S18_S1_3).toLoadRect xt0 (Shape.Idx.first (numel1_S1.symm ▸ Nat.one_pos))))
  (k0_hw5 : k0_chk5 i (tbM0_0.view.readAt (Elt Ideal) (Rect.unit (s := S18) ![4] S1.size inb_S18_S1_4).toLoadRect xt0 (Shape.Idx.first (numel1_S1.symm ▸ Nat.one_pos))))
  (k0_hw6 : k0_chk6 i (tbM0_0.view.readAt (Elt Ideal) (Rect.unit (s := S18) ![5] S1.size inb_S18_S1_5).toLoadRect xt0 (Shape.Idx.first (numel1_S1.symm ▸ Nat.one_pos))))
  (k0_hw7 : k0_chk7 i (tbM0_0.view.readAt (Elt Ideal) (Rect.unit (s := S18) ![6] S1.size inb_S18_S1_6).toLoadRect xt0 (Shape.Idx.first (numel1_S1.symm ▸ Nat.one_pos))))
  (k0_hw8 : k0_chk8 i (tbM0_0.view.readAt (Elt Ideal) (Rect.unit (s := S18) ![7] S1.size inb_S18_S1_7).toLoadRect xt0 (Shape.Idx.first (numel1_S1.symm ▸ Nat.one_pos))))
  (k0_hw9 : k0_chk9 i (tbM0_0.view.readAt (Elt Ideal) (Rect.unit (s := S18) ![8] S1.size inb_S18_S1_8).toLoadRect xt0 (Shape.Idx.first (numel1_S1.symm ▸ Nat.one_pos))))
  (k0_hw10 : k0_chk10 i (tbM0_0.view.readAt (Elt Ideal) (Rect.unit (s := S18) ![9] S1.size inb_S18_S1_9).toLoadRect xt0 (Shape.Idx.first (numel1_S1.symm ▸ Nat.one_pos))))
  (k0_hw11 : k0_chk11 i (tbM0_0.view.readAt (Elt Ideal) (Rect.unit (s := S18) ![10] S1.size inb_S18_S1_10).toLoadRect xt0 (Shape.Idx.first (numel1_S1.symm ▸ Nat.one_pos))))
  (k0_hw12 : k0_chk12 i (tbM0_0.view.readAt (Elt Ideal) (Rect.unit (s := S18) ![11] S1.size inb_S18_S1_11).toLoadRect xt0 (Shape.Idx.first (numel1_S1.symm ▸ Nat.one_pos))))
  (k0_hw13 : k0_chk13 i (tbM0_0.view.readAt (Elt Ideal) (Rect.unit (s := S18) ![12] S1.size inb_S18_S1_12).toLoadRect xt0 (Shape.Idx.first (numel1_S1.symm ▸ Nat.one_pos))))
  (k0_hw14 : k0_chk14 i (tbM0_0.view.readAt (Elt Ideal) (Rect.unit (s := S18) ![13] S1.size inb_S18_S1_13).toLoadRect xt0 (Shape.Idx.first (numel1_S1.symm ▸ Nat.one_pos))))
  (k0_hw15 : k0_chk15 i (tbM0_0.view.readAt (Elt Ideal) (Rect.unit (s := S18) ![14] S1.size inb_S18_S1_14).toLoadRect xt0 (Shape.Idx.first (numel1_S1.symm ▸ Nat.one_pos))))
  (k0_hw16 : k0_chk16 i (tbM0_0.view.readAt (Elt Ideal) (Rect.unit (s := S18) ![15] S1.size inb_S18_S1_15).toLoadRect xt0 (Shape.Idx.first (numel1_S1.symm ▸ Nat.one_pos))))
  (k0_hw17 : k0_chk17 i (tbM0_0.view.readAt (Elt Ideal) (Rect.unit (s := S18) ![16] S1.size inb_S18_S1_16).toLoadRect xt0 (Shape.Idx.first (numel1_S1.symm ▸ Nat.one_pos))))
  (k0_hw18 : k0_chk18 i (tbM0_0.view.readAt (Elt Ideal) (Rect.unit (s := S18) ![17] S1.size inb_S18_S1_17).toLoadRect xt0 (Shape.Idx.first (numel1_S1.symm ▸ Nat.one_pos))))

theorem first_out : out0_A_4 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 = k0_pay3 (sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18) x1 (lengths x1) := by
  have hs := scover0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18
  unfold out0_A_4 sout0_A_0
  unfold kernelRun0_A at hs ⊢
  dsimp only at hs ⊢
  rw [View.read_writes_full]
  unfold kernelRun0_A.sl.v4
  exact payload_eq c i tbM0_0 htbM0_0 arg2 harg2 arg3 harg3 arg4 harg4 arg5 harg5 arg6 harg6 arg7 harg7 arg8 harg8
    arg7.view (arg7.view.writes (Elt Ideal) arg7.view.junk _) _ (View.read_writes_of_cover _ _ _ _ _ hs) _ _

theorem first_row0 (hb : (wordAt xt0 0 inb_S18_S1_0).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 0 d) = x0 (ix2 ⟨(wordAt xt0 0 inb_S18_S1_0).toNat, hb⟩ d) := by
  unfold sout0_A_0 kernelRun0_A
  dsimp only
  unfold kernelRun0_A.sl.HS0_18
  refine (row0 VS0_0 VS0_0.junk _ _ _ _ _ _ _ _ _ _ _ _ _ _ _ _ _ _ d).trans ?_
  unfold k0_pay4
  rw [shapeCast_self]
  refine (Memref.IsWhole.readAt_unread harg2 x0 _ _).trans (congrArg x0 ?_)
  funext a
  refine Fin.ext ?_
  match a with
  | ⟨0, _⟩ => show (wordAt xt0 0 inb_S18_S1_0).toNat + 1 * 0 = (wordAt xt0 0 inb_S18_S1_0).toNat; omega
  | ⟨1, _⟩ => show 0 + 1 * d.val = d.val; omega

theorem first_row1 (hb : (wordAt xt0 1 inb_S18_S1_1).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 1 d) = x0 (ix2 ⟨(wordAt xt0 1 inb_S18_S1_1).toNat, hb⟩ d) := by
  unfold sout0_A_0 kernelRun0_A
  dsimp only
  unfold kernelRun0_A.sl.HS0_18
  refine (row1 VS0_0 VS0_0.junk _ _ _ _ _ _ _ _ _ _ _ _ _ _ _ _ _ _ d).trans ?_
  unfold k0_pay5
  rw [shapeCast_self]
  refine (Memref.IsWhole.readAt_unread harg2 x0 _ _).trans (congrArg x0 ?_)
  funext a
  refine Fin.ext ?_
  match a with
  | ⟨0, _⟩ => show (wordAt xt0 1 inb_S18_S1_1).toNat + 1 * 0 = (wordAt xt0 1 inb_S18_S1_1).toNat; omega
  | ⟨1, _⟩ => show 0 + 1 * d.val = d.val; omega

theorem first_row2 (hb : (wordAt xt0 2 inb_S18_S1_2).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 2 d) = x0 (ix2 ⟨(wordAt xt0 2 inb_S18_S1_2).toNat, hb⟩ d) := by
  unfold sout0_A_0 kernelRun0_A
  dsimp only
  unfold kernelRun0_A.sl.HS0_18
  refine (row2 VS0_0 VS0_0.junk _ _ _ _ _ _ _ _ _ _ _ _ _ _ _ _ _ _ d).trans ?_
  unfold k0_pay6
  rw [shapeCast_self]
  refine (Memref.IsWhole.readAt_unread harg2 x0 _ _).trans (congrArg x0 ?_)
  funext a
  refine Fin.ext ?_
  match a with
  | ⟨0, _⟩ => show (wordAt xt0 2 inb_S18_S1_2).toNat + 1 * 0 = (wordAt xt0 2 inb_S18_S1_2).toNat; omega
  | ⟨1, _⟩ => show 0 + 1 * d.val = d.val; omega

theorem first_row3 (hb : (wordAt xt0 3 inb_S18_S1_3).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 3 d) = x0 (ix2 ⟨(wordAt xt0 3 inb_S18_S1_3).toNat, hb⟩ d) := by
  unfold sout0_A_0 kernelRun0_A
  dsimp only
  unfold kernelRun0_A.sl.HS0_18
  refine (row3 VS0_0 VS0_0.junk _ _ _ _ _ _ _ _ _ _ _ _ _ _ _ _ _ _ d).trans ?_
  unfold k0_pay7
  rw [shapeCast_self]
  refine (Memref.IsWhole.readAt_unread harg2 x0 _ _).trans (congrArg x0 ?_)
  funext a
  refine Fin.ext ?_
  match a with
  | ⟨0, _⟩ => show (wordAt xt0 3 inb_S18_S1_3).toNat + 1 * 0 = (wordAt xt0 3 inb_S18_S1_3).toNat; omega
  | ⟨1, _⟩ => show 0 + 1 * d.val = d.val; omega

theorem first_row4 (hb : (wordAt xt0 4 inb_S18_S1_4).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 4 d) = x0 (ix2 ⟨(wordAt xt0 4 inb_S18_S1_4).toNat, hb⟩ d) := by
  unfold sout0_A_0 kernelRun0_A
  dsimp only
  unfold kernelRun0_A.sl.HS0_18
  refine (row4 VS0_0 VS0_0.junk _ _ _ _ _ _ _ _ _ _ _ _ _ _ _ _ _ _ d).trans ?_
  unfold k0_pay8
  rw [shapeCast_self]
  refine (Memref.IsWhole.readAt_unread harg2 x0 _ _).trans (congrArg x0 ?_)
  funext a
  refine Fin.ext ?_
  match a with
  | ⟨0, _⟩ => show (wordAt xt0 4 inb_S18_S1_4).toNat + 1 * 0 = (wordAt xt0 4 inb_S18_S1_4).toNat; omega
  | ⟨1, _⟩ => show 0 + 1 * d.val = d.val; omega

theorem first_row5 (hb : (wordAt xt0 5 inb_S18_S1_5).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 5 d) = x0 (ix2 ⟨(wordAt xt0 5 inb_S18_S1_5).toNat, hb⟩ d) := by
  unfold sout0_A_0 kernelRun0_A
  dsimp only
  unfold kernelRun0_A.sl.HS0_18
  refine (row5 VS0_0 VS0_0.junk _ _ _ _ _ _ _ _ _ _ _ _ _ _ _ _ _ _ d).trans ?_
  unfold k0_pay9
  rw [shapeCast_self]
  refine (Memref.IsWhole.readAt_unread harg2 x0 _ _).trans (congrArg x0 ?_)
  funext a
  refine Fin.ext ?_
  match a with
  | ⟨0, _⟩ => show (wordAt xt0 5 inb_S18_S1_5).toNat + 1 * 0 = (wordAt xt0 5 inb_S18_S1_5).toNat; omega
  | ⟨1, _⟩ => show 0 + 1 * d.val = d.val; omega

theorem first_row6 (hb : (wordAt xt0 6 inb_S18_S1_6).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 6 d) = x0 (ix2 ⟨(wordAt xt0 6 inb_S18_S1_6).toNat, hb⟩ d) := by
  unfold sout0_A_0 kernelRun0_A
  dsimp only
  unfold kernelRun0_A.sl.HS0_18
  refine (row6 VS0_0 VS0_0.junk _ _ _ _ _ _ _ _ _ _ _ _ _ _ _ _ _ _ d).trans ?_
  unfold k0_pay10
  rw [shapeCast_self]
  refine (Memref.IsWhole.readAt_unread harg2 x0 _ _).trans (congrArg x0 ?_)
  funext a
  refine Fin.ext ?_
  match a with
  | ⟨0, _⟩ => show (wordAt xt0 6 inb_S18_S1_6).toNat + 1 * 0 = (wordAt xt0 6 inb_S18_S1_6).toNat; omega
  | ⟨1, _⟩ => show 0 + 1 * d.val = d.val; omega

theorem first_row7 (hb : (wordAt xt0 7 inb_S18_S1_7).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 7 d) = x0 (ix2 ⟨(wordAt xt0 7 inb_S18_S1_7).toNat, hb⟩ d) := by
  unfold sout0_A_0 kernelRun0_A
  dsimp only
  unfold kernelRun0_A.sl.HS0_18
  refine (row7 VS0_0 VS0_0.junk _ _ _ _ _ _ _ _ _ _ _ _ _ _ _ _ _ _ d).trans ?_
  unfold k0_pay11
  rw [shapeCast_self]
  refine (Memref.IsWhole.readAt_unread harg2 x0 _ _).trans (congrArg x0 ?_)
  funext a
  refine Fin.ext ?_
  match a with
  | ⟨0, _⟩ => show (wordAt xt0 7 inb_S18_S1_7).toNat + 1 * 0 = (wordAt xt0 7 inb_S18_S1_7).toNat; omega
  | ⟨1, _⟩ => show 0 + 1 * d.val = d.val; omega

theorem first_row8 (hb : (wordAt xt0 8 inb_S18_S1_8).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 8 d) = x0 (ix2 ⟨(wordAt xt0 8 inb_S18_S1_8).toNat, hb⟩ d) := by
  unfold sout0_A_0 kernelRun0_A
  dsimp only
  unfold kernelRun0_A.sl.HS0_18
  refine (row8 VS0_0 VS0_0.junk _ _ _ _ _ _ _ _ _ _ _ _ _ _ _ _ _ _ d).trans ?_
  unfold k0_pay12
  rw [shapeCast_self]
  refine (Memref.IsWhole.readAt_unread harg2 x0 _ _).trans (congrArg x0 ?_)
  funext a
  refine Fin.ext ?_
  match a with
  | ⟨0, _⟩ => show (wordAt xt0 8 inb_S18_S1_8).toNat + 1 * 0 = (wordAt xt0 8 inb_S18_S1_8).toNat; omega
  | ⟨1, _⟩ => show 0 + 1 * d.val = d.val; omega

theorem first_row9 (hb : (wordAt xt0 9 inb_S18_S1_9).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 9 d) = x0 (ix2 ⟨(wordAt xt0 9 inb_S18_S1_9).toNat, hb⟩ d) := by
  unfold sout0_A_0 kernelRun0_A
  dsimp only
  unfold kernelRun0_A.sl.HS0_18
  refine (row9 VS0_0 VS0_0.junk _ _ _ _ _ _ _ _ _ _ _ _ _ _ _ _ _ _ d).trans ?_
  unfold k0_pay13
  rw [shapeCast_self]
  refine (Memref.IsWhole.readAt_unread harg2 x0 _ _).trans (congrArg x0 ?_)
  funext a
  refine Fin.ext ?_
  match a with
  | ⟨0, _⟩ => show (wordAt xt0 9 inb_S18_S1_9).toNat + 1 * 0 = (wordAt xt0 9 inb_S18_S1_9).toNat; omega
  | ⟨1, _⟩ => show 0 + 1 * d.val = d.val; omega

theorem first_row10 (hb : (wordAt xt0 10 inb_S18_S1_10).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 10 d) = x0 (ix2 ⟨(wordAt xt0 10 inb_S18_S1_10).toNat, hb⟩ d) := by
  unfold sout0_A_0 kernelRun0_A
  dsimp only
  unfold kernelRun0_A.sl.HS0_18
  refine (row10 VS0_0 VS0_0.junk _ _ _ _ _ _ _ _ _ _ _ _ _ _ _ _ _ _ d).trans ?_
  unfold k0_pay14
  rw [shapeCast_self]
  refine (Memref.IsWhole.readAt_unread harg2 x0 _ _).trans (congrArg x0 ?_)
  funext a
  refine Fin.ext ?_
  match a with
  | ⟨0, _⟩ => show (wordAt xt0 10 inb_S18_S1_10).toNat + 1 * 0 = (wordAt xt0 10 inb_S18_S1_10).toNat; omega
  | ⟨1, _⟩ => show 0 + 1 * d.val = d.val; omega

theorem first_row11 (hb : (wordAt xt0 11 inb_S18_S1_11).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 11 d) = x0 (ix2 ⟨(wordAt xt0 11 inb_S18_S1_11).toNat, hb⟩ d) := by
  unfold sout0_A_0 kernelRun0_A
  dsimp only
  unfold kernelRun0_A.sl.HS0_18
  refine (row11 VS0_0 VS0_0.junk _ _ _ _ _ _ _ _ _ _ _ _ _ _ _ _ _ _ d).trans ?_
  unfold k0_pay15
  rw [shapeCast_self]
  refine (Memref.IsWhole.readAt_unread harg2 x0 _ _).trans (congrArg x0 ?_)
  funext a
  refine Fin.ext ?_
  match a with
  | ⟨0, _⟩ => show (wordAt xt0 11 inb_S18_S1_11).toNat + 1 * 0 = (wordAt xt0 11 inb_S18_S1_11).toNat; omega
  | ⟨1, _⟩ => show 0 + 1 * d.val = d.val; omega

theorem first_row12 (hb : (wordAt xt0 12 inb_S18_S1_12).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 12 d) = x0 (ix2 ⟨(wordAt xt0 12 inb_S18_S1_12).toNat, hb⟩ d) := by
  unfold sout0_A_0 kernelRun0_A
  dsimp only
  unfold kernelRun0_A.sl.HS0_18
  refine (row12 VS0_0 VS0_0.junk _ _ _ _ _ _ _ _ _ _ _ _ _ _ _ _ _ _ d).trans ?_
  unfold k0_pay16
  rw [shapeCast_self]
  refine (Memref.IsWhole.readAt_unread harg2 x0 _ _).trans (congrArg x0 ?_)
  funext a
  refine Fin.ext ?_
  match a with
  | ⟨0, _⟩ => show (wordAt xt0 12 inb_S18_S1_12).toNat + 1 * 0 = (wordAt xt0 12 inb_S18_S1_12).toNat; omega
  | ⟨1, _⟩ => show 0 + 1 * d.val = d.val; omega

theorem first_row13 (hb : (wordAt xt0 13 inb_S18_S1_13).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 13 d) = x0 (ix2 ⟨(wordAt xt0 13 inb_S18_S1_13).toNat, hb⟩ d) := by
  unfold sout0_A_0 kernelRun0_A
  dsimp only
  unfold kernelRun0_A.sl.HS0_18
  refine (row13 VS0_0 VS0_0.junk _ _ _ _ _ _ _ _ _ _ _ _ _ _ _ _ _ _ d).trans ?_
  unfold k0_pay17
  rw [shapeCast_self]
  refine (Memref.IsWhole.readAt_unread harg2 x0 _ _).trans (congrArg x0 ?_)
  funext a
  refine Fin.ext ?_
  match a with
  | ⟨0, _⟩ => show (wordAt xt0 13 inb_S18_S1_13).toNat + 1 * 0 = (wordAt xt0 13 inb_S18_S1_13).toNat; omega
  | ⟨1, _⟩ => show 0 + 1 * d.val = d.val; omega

theorem first_row14 (hb : (wordAt xt0 14 inb_S18_S1_14).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 14 d) = x0 (ix2 ⟨(wordAt xt0 14 inb_S18_S1_14).toNat, hb⟩ d) := by
  unfold sout0_A_0 kernelRun0_A
  dsimp only
  unfold kernelRun0_A.sl.HS0_18
  refine (row14 VS0_0 VS0_0.junk _ _ _ _ _ _ _ _ _ _ _ _ _ _ _ _ _ _ d).trans ?_
  unfold k0_pay18
  rw [shapeCast_self]
  refine (Memref.IsWhole.readAt_unread harg2 x0 _ _).trans (congrArg x0 ?_)
  funext a
  refine Fin.ext ?_
  match a with
  | ⟨0, _⟩ => show (wordAt xt0 14 inb_S18_S1_14).toNat + 1 * 0 = (wordAt xt0 14 inb_S18_S1_14).toNat; omega
  | ⟨1, _⟩ => show 0 + 1 * d.val = d.val; omega

theorem first_row15 (hb : (wordAt xt0 15 inb_S18_S1_15).toNat < 1568) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 15 d) = x0 (ix2 ⟨(wordAt xt0 15 inb_S18_S1_15).toNat, hb⟩ d) := by
  unfold sout0_A_0 kernelRun0_A
  dsimp only
  unfold kernelRun0_A.sl.HS0_18
  refine (row15 VS0_0 VS0_0.junk _ _ _ _ _ _ _ _ _ _ _ _ _ _ _ _ _ _ d).trans ?_
  unfold k0_pay19
  rw [shapeCast_self]
  refine (Memref.IsWhole.readAt_unread harg2 x0 _ _).trans (congrArg x0 ?_)
  funext a
  refine Fin.ext ?_
  match a with
  | ⟨0, _⟩ => show (wordAt xt0 15 inb_S18_S1_15).toNat + 1 * 0 = (wordAt xt0 15 inb_S18_S1_15).toNat; omega
  | ⟨1, _⟩ => show 0 + 1 * d.val = d.val; omega

theorem first_row16 (hb : (wordAt xt0 16 inb_S18_S1_16).toNat < 16384) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 16 d) = x2 (ix2 ⟨(wordAt xt0 16 inb_S18_S1_16).toNat % 8, Nat.mod_lt _ (by decide)⟩ d) := by
  unfold sout0_A_0 kernelRun0_A
  dsimp only
  unfold kernelRun0_A.sl.HS0_18
  refine (row16 VS0_0 VS0_0.junk _ _ _ _ _ _ _ _ _ _ _ _ _ _ _ _ _ _ d).trans ?_
  unfold k0_pay20
  rw [shapeCast_self]
  refine (Memref.IsWhole.readAt_unread harg4 x2 _ _).trans (congrArg x2 ?_)
  funext a
  refine Fin.ext ?_
  match a with
  | ⟨0, _⟩ => show k0_off17 (wordAt xt0 16 inb_S18_S1_16) 0 + 1 * 0 = (wordAt xt0 16 inb_S18_S1_16).toNat % 8; rw [show k0_off17 (wordAt xt0 16 inb_S18_S1_16) 0 = (wordAt xt0 16 inb_S18_S1_16).toNat % 8 from congrFun (mod_word _ hb) 0]; omega
  | ⟨1, _⟩ => show 0 + 1 * d.val = d.val; omega

theorem first_row17 (hb : (wordAt xt0 17 inb_S18_S1_17).toNat < 16384) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 17 d) = x3 (ix2 ⟨(wordAt xt0 17 inb_S18_S1_17).toNat % 8, Nat.mod_lt _ (by decide)⟩ d) := by
  unfold sout0_A_0 kernelRun0_A
  dsimp only
  unfold kernelRun0_A.sl.HS0_18
  refine (row17 VS0_0 VS0_0.junk _ _ _ _ _ _ _ _ _ _ _ _ _ _ _ _ _ _ d).trans ?_
  unfold k0_pay1
  rw [shapeCast_self]
  refine (Memref.IsWhole.readAt_unread harg5 x3 _ _).trans (congrArg x3 ?_)
  funext a
  refine Fin.ext ?_
  match a with
  | ⟨0, _⟩ => show k0_off18 (wordAt xt0 17 inb_S18_S1_17) 0 + 1 * 0 = (wordAt xt0 17 inb_S18_S1_17).toNat % 8; rw [show k0_off18 (wordAt xt0 17 inb_S18_S1_17) 0 = (wordAt xt0 17 inb_S18_S1_17).toNat % 8 from congrFun (mod_word' _ hb) 0]; omega
  | ⟨1, _⟩ => show 0 + 1 * d.val = d.val; omega

end First

end Cert.QueryIdeal

end
-- ==== Proof.Query.Blocks.lean ====
module

public import proofs.«01_k».proof.Proof.Query.First
public import Idealize.ShloMosaic.Lib.Pointwise
public import Idealize.ShloMosaic.PureOps.Ideal.Laws

/-! The distance call for the queries: what one block of its result is, and what its input blocks are. -/

@[expose] public section

set_option maxRecDepth 131072

noncomputable section

namespace Cert.QueryIdeal

open Idealize.ShloMosaic Idealize.ShloMosaic.TcCoe
open Idealize.SL.Sem
open Gen Cert.QueryProof

variable {m : (ℓ : Loc nD τ sig) → Buf (Elt Ideal) ℓ}

/-- A row's squared distance to a row, kept away from zero. -/
def apart (x y : Fin 1536 → EReal) : EReal :=
  max (((∑ q : Fin 1536, x q * x q) + ∑ q : Fin 1536, y q * y q) - Ideal.ofBits .f32 0x40000000#32 * ∑ q : Fin 1536, x q * y q) (Ideal.ofBits .f32 0x2B8CBCCC#32)

theorem payload_at (Q : Vec Ideal S18x1536 .f32) (x : Vec Ideal S1024x1536 .f32) (k : Fin 18) (n : Fin 1024) :
    k0_pay3 Q x (lengths x) (ix2 k n) = apart (fun q => Q (ix2 k q)) (fun q => x (ix2 n q)) := by
  have h : (lengths x (ix2 0 n) : EReal) = ∑ q : Fin 1536, (x (ix2 n q) * x (ix2 n q) : EReal) := rfl
  unfold apart
  generalize lengths x = L at h ⊢
  pointwise [k0_pay3]
  rw [h]

/-! ## The blocks -/

theorem emb_block (hO : Ok m) (c : Dev nD) (t : Fin (cfgM m hO).N) (r : Fin 1568) (d : Fin 1536) :
    (iblk m hO c 0 t : Vec Ideal S1568x1536 .f32) (ix2 r d) = (V m c main_arg1 : Vec Ideal S1568x1536 .f32) (ix2 r d) := by
  show (V m c main_arg1 : Vec Ideal S1568x1536 .f32) ((((cfgM m hO).win 0).blk t).view.emb (ix2 r d)) = _
  congr 1
  funext a
  refine Fin.ext ?_
  match a with
  | ⟨0, _⟩ => show 0 * 1568 + 1 * r.val = r.val; omega
  | ⟨1, _⟩ => show 0 * 1536 + 1 * d.val = d.val; omega

theorem point_lt (hO : Ok m) (t : Fin (cfgM m hO).N) : t.val < 16 := lt_of_lt_of_eq t.isLt N_0

theorem coord_val (hO : Ok m) (t : Fin (cfgM m hO).N) : (grid0.coords t 0).val = t.val / 1 % 16 := Pipeline.Grid.coords_val (G := grid0) t 0 (show grid0.stride 0 = 1 by decide) rfl

theorem bank_rows (hO : Ok m) (c : Dev nD) (t : Fin (cfgM m hO).N) (l : Fin 1024) (d : Fin 1536) (h : 1024 * t.val + l.val < 16384) :
    (iblk m hO c 1 t : Vec Ideal S1024x1536 .f32) (ix2 l d) = (V m c main_arg2 : Vec Ideal S16384x1536 .f32) (ix2 ⟨1024 * t.val + l.val, h⟩ d) := by
  have e0 : (grid0.coords t 0).val = t.val / 1 % 16 := coord_val hO t
  have hN : t.val < 16 := point_lt hO t
  show (V m c main_arg2 : Vec Ideal S16384x1536 .f32) ((((cfgM m hO).win 1).blk t).view.emb (ix2 l d)) = _
  congr 1
  funext a
  refine Fin.ext ?_
  match a with
  | ⟨0, _⟩ =>
    show (BitVec.ofNat 32 (grid0.coords t 0).val).toNat * 1024 + 1 * l.val = 1024 * t.val + l.val
    rw [BitVec.toNat_ofNat, e0]; omega
  | ⟨1, _⟩ => show 0 * 1536 + 1 * d.val = d.val; omega

theorem near16 (hO : Ok m) (hb : (place m 16).toNat < 16384) (c : Dev nD) (t : Fin (cfgM m hO).N) (d : Fin 1536) :
    (iblk m hO c 2 t : Vec Ideal S8x1536 .f32) (ix2 ⟨(place m 16).toNat % 8, Nat.mod_lt _ (by decide)⟩ d)
      = (V m c main_arg2 : Vec Ideal S16384x1536 .f32) (ix2 ⟨(place m 16).toNat, hb⟩ d) := by
  have e := quot16 (m := m) (grid0.coords t)
  show (V m c main_arg2 : Vec Ideal S16384x1536 .f32) ((((cfgM m hO).win 2).blk t).view.emb (ix2 ⟨(place m 16).toNat % 8, Nat.mod_lt _ (by decide)⟩ d)) = _
  congr 1
  funext a
  refine Fin.ext ?_
  match a with
  | ⟨0, _⟩ =>
    show cc0_transform_2 inb_S18_S1_16 numel1_S1 (tbl m) (grid0.coords t) 0 * 8 + 1 * ((place m 16).toNat % 8) = (place m 16).toNat
    rw [e]
    show (quot (place m 16)).toNat * 8 + 1 * ((place m 16).toNat % 8) = (place m 16).toNat
    rw [quot_eq _ hb]; omega
  | ⟨1, _⟩ =>
    show cc0_transform_2 inb_S18_S1_16 numel1_S1 (tbl m) (grid0.coords t) 1 * 1536 + 1 * d.val = d.val
    rw [e]
    show 0 * 1536 + 1 * d.val = d.val
    omega

theorem near17 (hO : Ok m) (hb : (place m 17).toNat < 16384) (c : Dev nD) (t : Fin (cfgM m hO).N) (d : Fin 1536) :
    (iblk m hO c 3 t : Vec Ideal S8x1536 .f32) (ix2 ⟨(place m 17).toNat % 8, Nat.mod_lt _ (by decide)⟩ d)
      = (V m c main_arg2 : Vec Ideal S16384x1536 .f32) (ix2 ⟨(place m 17).toNat, hb⟩ d) := by
  have e := quot17 (m := m) (grid0.coords t)
  show (V m c main_arg2 : Vec Ideal S16384x1536 .f32) ((((cfgM m hO).win 3).blk t).view.emb (ix2 ⟨(place m 17).toNat % 8, Nat.mod_lt _ (by decide)⟩ d)) = _
  congr 1
  funext a
  refine Fin.ext ?_
  match a with
  | ⟨0, _⟩ =>
    show cc0_transform_3 inb_S18_S1_17 numel1_S1 (tbl m) (grid0.coords t) 0 * 8 + 1 * ((place m 17).toNat % 8) = (place m 17).toNat
    rw [e]
    show (quot (place m 17)).toNat * 8 + 1 * ((place m 17).toNat % 8) = (place m 17).toNat
    rw [quot_eq _ hb]; omega
  | ⟨1, _⟩ =>
    show cc0_transform_3 inb_S18_S1_17 numel1_S1 (tbl m) (grid0.coords t) 1 * 1536 + 1 * d.val = d.val
    rw [e]
    show 0 * 1536 + 1 * d.val = d.val
    omega

end Cert.QueryIdeal

end
-- ==== Proof.Query.Rows.lean ====
module

public import proofs.«01_k».proof.Proof.Query.First

public import Idealize.ShloMosaic.Lib.WholeRead

/-! All the rows that the first point keeps, as one function of the places. -/

@[expose] public section

set_option maxRecDepth 131072

noncomputable section

namespace Cert.QueryIdeal

open Idealize.ShloMosaic Idealize.ShloMosaic.TcCoe
open Gen Cert.QueryProof

section First
variable (c : Dev nD)
  (i : grid0.Coords)
  (arg2 : Memref sig .tc .vmem S1568x1536 .f32)
  (harg2 : arg2.IsWhole)
  (arg3 : Memref sig .tc .vmem S1024x1536 .f32)
  (harg3 : arg3.IsWhole)
  (arg4 : Memref sig .tc .vmem S8x1536 .f32)
  (harg4 : arg4.IsWhole)
  (arg5 : Memref sig .tc .vmem S8x1536 .f32)
  (harg5 : arg5.IsWhole)
  (arg6 : Memref sig .tc .vmem S18x1024 .f32)
  (harg6 : arg6.IsWhole)
  (arg7 : Memref sig .tc .vmem S18x1536 .f32)
  (harg7 : arg7.IsWhole)
  (arg8 : Memref sig .tc .vmem S1x1024 .f32)
  (harg8 : arg8.IsWhole)
  (hc0 : cond0_0 i)
  (x0 : Vec Ideal S1568x1536 .f32)
  (x1 : Vec Ideal S1024x1536 .f32)
  (x2 : Vec Ideal S8x1536 .f32)
  (x3 : Vec Ideal S8x1536 .f32)
  (xt0 : TbBuf0 (F := Ideal) c tbM0_0)
  (k0_hw1 : k0_chk1 i (tbM0_0.view.readAt (Elt Ideal) (Rect.unit (s := S18) ![0] S1.size inb_S18_S1_0).toLoadRect xt0 (Shape.Idx.first (numel1_S1.symm ▸ Nat.one_pos))))
  (k0_hw2 : k0_chk2 i (tbM0_0.view.readAt (Elt Ideal) (Rect.unit (s := S18) ![1] S1.size inb_S18_S1_1).toLoadRect xt0 (Shape.Idx.first (numel1_S1.symm ▸ Nat.one_pos))))
  (k0_hw3 : k0_chk3 i (tbM0_0.view.readAt (Elt Ideal) (Rect.unit (s := S18) ![2] S1.size inb_S18_S1_2).toLoadRect xt0 (Shape.Idx.first (numel1_S1.symm ▸ Nat.one_pos))))
  (k0_hw4 : k0_chk4 i (tbM0_0.view.readAt (Elt Ideal) (Rect.unit (s := S18) ![3] S1.size inb_S18_S1_3).toLoadRect xt0 (Shape.Idx.first (numel1_S1.symm ▸ Nat.one_pos))))
  (k0_hw5 : k0_chk5 i (tbM0_0.view.readAt (Elt Ideal) (Rect.unit (s := S18) ![4] S1.size inb_S18_S1_4).toLoadRect xt0 (Shape.Idx.first (numel1_S1.symm ▸ Nat.one_pos))))
  (k0_hw6 : k0_chk6 i (tbM0_0.view.readAt (Elt Ideal) (Rect.unit (s := S18) ![5] S1.size inb_S18_S1_5).toLoadRect xt0 (Shape.Idx.first (numel1_S1.symm ▸ Nat.one_pos))))
  (k0_hw7 : k0_chk7 i (tbM0_0.view.readAt (Elt Ideal) (Rect.unit (s := S18) ![6] S1.size inb_S18_S1_6).toLoadRect xt0 (Shape.Idx.first (numel1_S1.symm ▸ Nat.one_pos))))
  (k0_hw8 : k0_chk8 i (tbM0_0.view.readAt (Elt Ideal) (Rect.unit (s := S18) ![7] S1.size inb_S18_S1_7).toLoadRect xt0 (Shape.Idx.first (numel1_S1.symm ▸ Nat.one_pos))))
  (k0_hw9 : k0_chk9 i (tbM0_0.view.readAt (Elt Ideal) (Rect.unit (s := S18) ![8] S1.size inb_S18_S1_8).toLoadRect xt0 (Shape.Idx.first (numel1_S1.symm ▸ Nat.one_pos))))
  (k0_hw10 : k0_chk10 i (tbM0_0.view.readAt (Elt Ideal) (Rect.unit (s := S18) ![9] S1.size inb_S18_S1_9).toLoadRect xt0 (Shape.Idx.first (numel1_S1.symm ▸ Nat.one_pos))))
  (k0_hw11 : k0_chk11 i (tbM0_0.view.readAt (Elt Ideal) (Rect.unit (s := S18) ![10] S1.size inb_S18_S1_10).toLoadRect xt0 (Shape.Idx.first (numel1_S1.symm ▸ Nat.one_pos))))
  (k0_hw12 : k0_chk12 i (tbM0_0.view.readAt (Elt Ideal) (Rect.unit (s := S18) ![11] S1.size inb_S18_S1_11).toLoadRect xt0 (Shape.Idx.first (numel1_S1.symm ▸ Nat.one_pos))))
  (k0_hw13 : k0_chk13 i (tbM0_0.view.readAt (Elt Ideal) (Rect.unit (s := S18) ![12] S1.size inb_S18_S1_12).toLoadRect xt0 (Shape.Idx.first (numel1_S1.symm ▸ Nat.one_pos))))
  (k0_hw14 : k0_chk14 i (tbM0_0.view.readAt (Elt Ideal) (Rect.unit (s := S18) ![13] S1.size inb_S18_S1_13).toLoadRect xt0 (Shape.Idx.first (numel1_S1.symm ▸ Nat.one_pos))))
  (k0_hw15 : k0_chk15 i (tbM0_0.view.readAt (Elt Ideal) (Rect.unit (s := S18) ![14] S1.size inb_S18_S1_14).toLoadRect xt0 (Shape.Idx.first (numel1_S1.symm ▸ Nat.one_pos))))
  (k0_hw16 : k0_chk16 i (tbM0_0.view.readAt (Elt Ideal) (Rect.unit (s := S18) ![15] S1.size inb_S18_S1_15).toLoadRect xt0 (Shape.Idx.first (numel1_S1.symm ▸ Nat.one_pos))))
  (k0_hw17 : k0_chk17 i (tbM0_0.view.readAt (Elt Ideal) (Rect.unit (s := S18) ![16] S1.size inb_S18_S1_16).toLoadRect xt0 (Shape.Idx.first (numel1_S1.symm ▸ Nat.one_pos))))
  (k0_hw18 : k0_chk18 i (tbM0_0.view.readAt (Elt Ideal) (Rect.unit (s := S18) ![17] S1.size inb_S18_S1_17).toLoadRect xt0 (Shape.Idx.first (numel1_S1.symm ▸ Nat.one_pos))))

theorem first_rows (w : Fin 18 → BitVec 32) (e0 : wordAt xt0 0 inb_S18_S1_0 = w 0) (e1 : wordAt xt0 1 inb_S18_S1_1 = w 1) (e2 : wordAt xt0 2 inb_S18_S1_2 = w 2) (e3 : wordAt xt0 3 inb_S18_S1_3 = w 3) (e4 : wordAt xt0 4 inb_S18_S1_4 = w 4) (e5 : wordAt xt0 5 inb_S18_S1_5 = w 5) (e6 : wordAt xt0 6 inb_S18_S1_6 = w 6) (e7 : wordAt xt0 7 inb_S18_S1_7 = w 7) (e8 : wordAt xt0 8 inb_S18_S1_8 = w 8) (e9 : wordAt xt0 9 inb_S18_S1_9 = w 9) (e10 : wordAt xt0 10 inb_S18_S1_10 = w 10) (e11 : wordAt xt0 11 inb_S18_S1_11 = w 11) (e12 : wordAt xt0 12 inb_S18_S1_12 = w 12) (e13 : wordAt xt0 13 inb_S18_S1_13 = w 13) (e14 : wordAt xt0 14 inb_S18_S1_14 = w 14) (e15 : wordAt xt0 15 inb_S18_S1_15 = w 15) (e16 : wordAt xt0 16 inb_S18_S1_16 = w 16) (e17 : wordAt xt0 17 inb_S18_S1_17 = w 17)
    (hw : ∀ k, (w k).toNat < bound k) (k : Fin 18) (d : Fin 1536) : sout0_A_0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (ix2 k d) =
      if hk : k.val < 16 then x0 (ix2 ⟨(w k).toNat, (lt_of_lt_of_eq (hw k) (if_pos hk))⟩ d)
      else if k.val = 16 then x2 (ix2 ⟨(w 16).toNat % 8, Nat.mod_lt _ (by decide)⟩ d) else x3 (ix2 ⟨(w 17).toNat % 8, Nat.mod_lt _ (by decide)⟩ d) := by
  match k with
  | ⟨0, _⟩ => exact (first_row0 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e0]; exact hw 0) d).trans ((congrArg (fun r : Fin 1568 => x0 (ix2 r d)) (Fin.ext (congrArg BitVec.toNat e0))).trans rfl)
  | ⟨1, _⟩ => exact (first_row1 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e1]; exact hw 1) d).trans ((congrArg (fun r : Fin 1568 => x0 (ix2 r d)) (Fin.ext (congrArg BitVec.toNat e1))).trans rfl)
  | ⟨2, _⟩ => exact (first_row2 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e2]; exact hw 2) d).trans ((congrArg (fun r : Fin 1568 => x0 (ix2 r d)) (Fin.ext (congrArg BitVec.toNat e2))).trans rfl)
  | ⟨3, _⟩ => exact (first_row3 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e3]; exact hw 3) d).trans ((congrArg (fun r : Fin 1568 => x0 (ix2 r d)) (Fin.ext (congrArg BitVec.toNat e3))).trans rfl)
  | ⟨4, _⟩ => exact (first_row4 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e4]; exact hw 4) d).trans ((congrArg (fun r : Fin 1568 => x0 (ix2 r d)) (Fin.ext (congrArg BitVec.toNat e4))).trans rfl)
  | ⟨5, _⟩ => exact (first_row5 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e5]; exact hw 5) d).trans ((congrArg (fun r : Fin 1568 => x0 (ix2 r d)) (Fin.ext (congrArg BitVec.toNat e5))).trans rfl)
  | ⟨6, _⟩ => exact (first_row6 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e6]; exact hw 6) d).trans ((congrArg (fun r : Fin 1568 => x0 (ix2 r d)) (Fin.ext (congrArg BitVec.toNat e6))).trans rfl)
  | ⟨7, _⟩ => exact (first_row7 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e7]; exact hw 7) d).trans ((congrArg (fun r : Fin 1568 => x0 (ix2 r d)) (Fin.ext (congrArg BitVec.toNat e7))).trans rfl)
  | ⟨8, _⟩ => exact (first_row8 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e8]; exact hw 8) d).trans ((congrArg (fun r : Fin 1568 => x0 (ix2 r d)) (Fin.ext (congrArg BitVec.toNat e8))).trans rfl)
  | ⟨9, _⟩ => exact (first_row9 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e9]; exact hw 9) d).trans ((congrArg (fun r : Fin 1568 => x0 (ix2 r d)) (Fin.ext (congrArg BitVec.toNat e9))).trans rfl)
  | ⟨10, _⟩ => exact (first_row10 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e10]; exact hw 10) d).trans ((congrArg (fun r : Fin 1568 => x0 (ix2 r d)) (Fin.ext (congrArg BitVec.toNat e10))).trans rfl)
  | ⟨11, _⟩ => exact (first_row11 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e11]; exact hw 11) d).trans ((congrArg (fun r : Fin 1568 => x0 (ix2 r d)) (Fin.ext (congrArg BitVec.toNat e11))).trans rfl)
  | ⟨12, _⟩ => exact (first_row12 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e12]; exact hw 12) d).trans ((congrArg (fun r : Fin 1568 => x0 (ix2 r d)) (Fin.ext (congrArg BitVec.toNat e12))).trans rfl)
  | ⟨13, _⟩ => exact (first_row13 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e13]; exact hw 13) d).trans ((congrArg (fun r : Fin 1568 => x0 (ix2 r d)) (Fin.ext (congrArg BitVec.toNat e13))).trans rfl)
  | ⟨14, _⟩ => exact (first_row14 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e14]; exact hw 14) d).trans ((congrArg (fun r : Fin 1568 => x0 (ix2 r d)) (Fin.ext (congrArg BitVec.toNat e14))).trans rfl)
  | ⟨15, _⟩ => exact (first_row15 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e15]; exact hw 15) d).trans ((congrArg (fun r : Fin 1568 => x0 (ix2 r d)) (Fin.ext (congrArg BitVec.toNat e15))).trans rfl)
  | ⟨16, _⟩ => exact (first_row16 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e16]; exact hw 16) d).trans ((congrArg (fun r : Fin 8 => x2 (ix2 r d)) (Fin.ext (congrArg (fun v : BitVec 32 => v.toNat % 8) e16))).trans rfl)
  | ⟨17, _⟩ => exact (first_row17 c i arg2 harg2 arg3 harg3 arg4 harg4 arg5 harg5 arg6 harg6 arg7 harg7 arg8 harg8 hc0 x0 x1 x2 x3 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 (by rw [e17]; exact hw 17) d).trans ((congrArg (fun r : Fin 8 => x3 (ix2 r d)) (Fin.ext (congrArg (fun v : BitVec 32 => v.toNat % 8) e17))).trans rfl)  | ⟨n + 18, hn⟩ => exact absurd hn (by omega)

end First

end Cert.QueryIdeal

end
-- ==== Proof.Query.Kept.lean ====
module

public import proofs.«01_k».proof.Proof.Query.Blocks
public import proofs.«01_k».proof.Proof.Query.Rows
public import Idealize.ShloMosaic.Lib.Pointwise
public import Idealize.ShloMosaic.PureOps.Ideal.Laws

/-! The distance call for the queries: the rows it keeps over all points. -/

@[expose] public section

set_option maxRecDepth 131072

noncomputable section

namespace Cert.QueryIdeal

open Idealize.ShloMosaic Idealize.ShloMosaic.TcCoe
open Idealize.SL.Sem
open Gen Cert.QueryProof

variable {m : (ℓ : Loc nD τ sig) → Buf (Elt Ideal) ℓ}

theorem out_first (hO : Ok m) (hH : Hyps m hO) (c : Dev nD) (t : Fin (cfgM m hO).N) (h0 : t.val % 16 = 0) :
    (outsAt0 m hO hH c t.val t.isLt).1 = k0_pay3 (outsAt0 m hO hH c t.val t.isLt).2 (iblk m hO c 1 t) (lengths (iblk m hO c 1 t)) := by
  have e := outsAt0_A m hO hH c t h0
  have f := first_out c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_0 t).mpr h0) (iblk m hO c 0 t) (iblk m hO c 1 t) (iblk m hO c 2 t) (iblk m hO c 3 t) (tbl m 0) ((Hyps.c0 hH c t) ((hcond0_0 t).mpr h0)) ((Hyps.c1 hH c t) ((hcond0_0 t).mpr h0)) ((Hyps.c2 hH c t) ((hcond0_0 t).mpr h0)) ((Hyps.c3 hH c t) ((hcond0_0 t).mpr h0)) ((Hyps.c4 hH c t) ((hcond0_0 t).mpr h0)) ((Hyps.c5 hH c t) ((hcond0_0 t).mpr h0)) ((Hyps.c6 hH c t) ((hcond0_0 t).mpr h0)) ((Hyps.c7 hH c t) ((hcond0_0 t).mpr h0)) ((Hyps.c8 hH c t) ((hcond0_0 t).mpr h0)) ((Hyps.c9 hH c t) ((hcond0_0 t).mpr h0)) ((Hyps.c10 hH c t) ((hcond0_0 t).mpr h0)) ((Hyps.c11 hH c t) ((hcond0_0 t).mpr h0)) ((Hyps.c12 hH c t) ((hcond0_0 t).mpr h0)) ((Hyps.c13 hH c t) ((hcond0_0 t).mpr h0)) ((Hyps.c14 hH c t) ((hcond0_0 t).mpr h0)) ((Hyps.c15 hH c t) ((hcond0_0 t).mpr h0)) ((Hyps.c16 hH c t) ((hcond0_0 t).mpr h0)) ((Hyps.c17 hH c t) ((hcond0_0 t).mpr h0))
  rw [e]
  dsimp only
  exact f

theorem kept_later (hO : Ok m) (hH : Hyps m hO) (c : Dev nD) (t : Fin (cfgM m hO).N) (h0 : ¬t.val % 16 = 0) :
    (outsAt0 m hO hH c t.val t.isLt).2 = (outsAt0 m hO hH c (t.val - 1) (Nat.lt_of_le_of_lt (Nat.sub_le _ _) t.isLt)).2 := by
  refine (congrArg Prod.snd (outsAt0_B m hO hH c t h0)).trans ?_
  rfl

theorem low (h : InRange m) (k : Fin 18) (hk : k.val < 16) : (place m k).toNat < 1568 := by
  have e := h k
  rwa [show bound k = 1568 from if_pos hk] at e

theorem high (h : InRange m) (k : Fin 18) (hk : ¬k.val < 16) : (place m k).toNat < 16384 := by
  have e := h k
  rwa [show bound k = 16384 from if_neg hk] at e

/-- The row at a place: of the embedding for the first sixteen, of the bank for the last two. -/
def query (h : InRange m) (c : Dev nD) (k : Fin 18) (d : Fin 1536) : EReal :=
  if hk : k.val < 16 then (V m c main_arg1 : Vec Ideal S1568x1536 .f32) (ix2 ⟨(place m k).toNat, low h k hk⟩ d)
  else (V m c main_arg2 : Vec Ideal S16384x1536 .f32) (ix2 ⟨(place m k).toNat, high h k hk⟩ d)

theorem kept_first (h : InRange m) (hO : Ok m) (hH : Hyps m hO) (c : Dev nD) (t : Fin (cfgM m hO).N) (h0 : t.val % 16 = 0) (k : Fin 18) (d : Fin 1536) :
    (outsAt0 m hO hH c t.val t.isLt).2 (ix2 k d) = query h c k d := by
  have f := first_rows c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_0 t).mpr h0) (iblk m hO c 0 t) (iblk m hO c 1 t) (iblk m hO c 2 t) (iblk m hO c 3 t) (tbl m 0) ((Hyps.c0 hH c t) ((hcond0_0 t).mpr h0)) ((Hyps.c1 hH c t) ((hcond0_0 t).mpr h0)) ((Hyps.c2 hH c t) ((hcond0_0 t).mpr h0)) ((Hyps.c3 hH c t) ((hcond0_0 t).mpr h0)) ((Hyps.c4 hH c t) ((hcond0_0 t).mpr h0)) ((Hyps.c5 hH c t) ((hcond0_0 t).mpr h0)) ((Hyps.c6 hH c t) ((hcond0_0 t).mpr h0)) ((Hyps.c7 hH c t) ((hcond0_0 t).mpr h0)) ((Hyps.c8 hH c t) ((hcond0_0 t).mpr h0)) ((Hyps.c9 hH c t) ((hcond0_0 t).mpr h0)) ((Hyps.c10 hH c t) ((hcond0_0 t).mpr h0)) ((Hyps.c11 hH c t) ((hcond0_0 t).mpr h0)) ((Hyps.c12 hH c t) ((hcond0_0 t).mpr h0)) ((Hyps.c13 hH c t) ((hcond0_0 t).mpr h0)) ((Hyps.c14 hH c t) ((hcond0_0 t).mpr h0)) ((Hyps.c15 hH c t) ((hcond0_0 t).mpr h0)) ((Hyps.c16 hH c t) ((hcond0_0 t).mpr h0)) ((Hyps.c17 hH c t) ((hcond0_0 t).mpr h0)) (place m) (word_eq m 0 inb_S18_S1_0) (word_eq m 1 inb_S18_S1_1) (word_eq m 2 inb_S18_S1_2) (word_eq m 3 inb_S18_S1_3) (word_eq m 4 inb_S18_S1_4) (word_eq m 5 inb_S18_S1_5) (word_eq m 6 inb_S18_S1_6) (word_eq m 7 inb_S18_S1_7) (word_eq m 8 inb_S18_S1_8) (word_eq m 9 inb_S18_S1_9) (word_eq m 10 inb_S18_S1_10) (word_eq m 11 inb_S18_S1_11) (word_eq m 12 inb_S18_S1_12) (word_eq m 13 inb_S18_S1_13) (word_eq m 14 inb_S18_S1_14) (word_eq m 15 inb_S18_S1_15) (word_eq m 16 inb_S18_S1_16) (word_eq m 17 inb_S18_S1_17) h k d
  rw [outsAt0_A m hO hH c t h0]
  dsimp only
  rw [f]
  unfold query
  by_cases hk : k.val < 16
  · refine (dif_pos hk).trans (Eq.trans ?_ (dif_pos hk).symm)
    exact emb_block hO c t _ d
  · refine (dif_neg hk).trans (Eq.trans ?_ (dif_neg hk).symm)
    by_cases h16 : k.val = 16
    · refine (if_pos h16).trans ?_
      obtain rfl : k = 16 := Fin.ext h16
      exact near16 hO _ c t d
    · refine (if_neg h16).trans ?_
      obtain rfl : k = 17 := Fin.ext (by show k.val = 17; omega)
      exact near17 hO _ c t d

theorem kept (h : InRange m) (hO : Ok m) (hH : Hyps m hO) (c : Dev nD) (k : Fin 18) (d : Fin 1536) (n : ℕ) (hn : n < (cfgM m hO).N) :
    (outsAt0 m hO hH c n hn).2 (ix2 k d) = query h c k d := by
  induction n with
  | zero => exact kept_first h hO hH c ⟨0, hn⟩ rfl k d
  | succ n ih =>
    have h0 : ¬(n + 1) % 16 = 0 := by
      have : n + 1 < 16 := lt_of_lt_of_eq hn N_0
      omega
    exact (congrFun (kept_later hO hH c ⟨n + 1, hn⟩ h0) (ix2 k d)).trans (ih (Nat.lt_of_succ_lt hn))

end Cert.QueryIdeal

end
-- ==== Proof.Query.Kernel.lean ====
module

public import proofs.«01_k».proof.Proof.Query.Kept
public import Idealize.ShloMosaic.Lib.Pointwise
public import Idealize.ShloMosaic.PureOps.Ideal.Laws

/-! The distance call for the queries: its result array. -/

@[expose] public section

set_option maxRecDepth 131072

noncomputable section

namespace Cert.QueryIdeal

open Idealize.ShloMosaic Idealize.ShloMosaic.TcCoe
open Idealize.SL.Sem
open Gen Cert.QueryProof

variable {m : (ℓ : Loc nD τ sig) → Buf (Elt Ideal) ℓ}

theorem out_at (h : InRange m) (hO : Ok m) (hH : Hyps m hO) (c : Dev nD) (t : Fin (cfgM m hO).N) (k : Fin 18) (l : Fin 1024) (hl : 1024 * t.val + l.val < 16384) :
    (outsAt0 m hO hH c t.val t.isLt).1 (ix2 k l)
      = apart (query h c k) (fun q => (V m c main_arg2 : Vec Ideal S16384x1536 .f32) (ix2 ⟨1024 * t.val + l.val, hl⟩ q)) := by
  have e : (outsAt0 m hO hH c t.val t.isLt).1 = k0_pay3 (outsAt0 m hO hH c t.val t.isLt).2 (iblk m hO c 1 t) (lengths (iblk m hO c 1 t)) := by
    by_cases h0 : t.val % 16 = 0
    · exact out_first hO hH c t h0
    · exact out_later m hO hH c t h0
  rw [e]
  refine (payload_at _ _ k l).trans ?_
  exact congrArg₂ apart (funext fun q => kept h hO hH c k q t.val t.isLt) (funext fun q => bank_rows hO c t l q hl)

/-! ## The result array -/

/-- Every query's distance to every row of the bank. -/
def G (h : InRange m) (c : Dev nD) : Vec Ideal S18x16384 .f32 :=
  fun y => apart (query h c (y 0)) (fun q => (V m c main_arg2 : Vec Ideal S16384x1536 .f32) (ix2 (y 1) q))

theorem final (h : InRange m) (hO : Ok m) (hH : Hyps m hO) (c : Dev nD) : (dats m hO hH 0 c).arrAt 4 (cfgM m hO).N = G h c :=
  (dats m hO hH 0 c).arrAt_eq_of_cover 4 (G h c)
    (fun t _ => by
      have e0 : (grid0.coords t 0).val = t.val / 1 % 16 := coord_val hO t
      have hN : t.val < 16 := point_lt hO t
      show (outsAt0 m hO hH c t.val t.isLt).1 = _
      funext y
      obtain ⟨k, l, rfl⟩ : ∃ (k : Fin 18) (l : Fin 1024), y = ix2 k l := ⟨y 0, y 1, eq_ix2 y⟩
      have hl : 1024 * t.val + l.val < 16384 := by have := l.isLt; omega
      refine (out_at h hO hH c t k l hl).trans ?_
      have e : (((cfgM m hO).win 4).blk t).view.emb (ix2 k l) = (ix2 k ⟨1024 * t.val + l.val, hl⟩ : S18x16384.Idx) := by
        funext a
        refine Fin.ext ?_
        match a with
        | ⟨0, _⟩ => show 0 * 18 + 1 * k.val = k.val; omega
        | ⟨1, _⟩ =>
          show (BitVec.ofNat 32 (grid0.coords t 0).val).toNat * 1024 + 1 * l.val = 1024 * t.val + l.val
          rw [BitVec.toNat_ofNat, e0]; omega
      show _ = G h c ((((cfgM m hO).win 4).blk t).view.emb (ix2 k l))
      rw [e]
      rfl)
    fun (i : S18x16384.Idx) => by
      have h0 : (i 0 : Nat) < 18 := (i 0).isLt
      have h1 : (i 1 : Nat) < 16384 := (i 1).isLt
      have ht : (i 1 : Nat) / 1024 < (cfgM m hO).N := lt_of_lt_of_eq (show (i 1 : Nat) / 1024 < 16 by omega) N_0.symm
      have e0 : (grid0.coords ⟨(i 1 : Nat) / 1024, ht⟩ 0).val = (i 1 : Nat) / 1024 / 1 % 16 := coord_val hO ⟨(i 1 : Nat) / 1024, ht⟩
      refine ⟨⟨(i 1 : Nat) / 1024, ht⟩, flush0_4 _ _, ?_⟩
      have key : ∀ R : Rect S18x16384, i ∈ R.set → i ∈ ((View.whole main_v0).slice R).set := fun R hR => by
        rw [View.set_slice_whole]; exact hR
      refine key (((cfgM m hO).win 4).rect ⟨(i 1 : Nat) / 1024, ht⟩) ?_
      refine Rect.mem_set_unit.mpr ?_
      intro a
      match a with
      | ⟨0, _⟩ => exact ⟨by show 0 * 18 ≤ (i 0 : Nat); omega, by show (i 0 : Nat) < 0 * 18 + 18; omega⟩
      | ⟨1, _⟩ => exact ⟨by show (BitVec.ofNat 32 (grid0.coords ⟨(i 1 : Nat) / 1024, ht⟩ 0).val).toNat * 1024 ≤ (i 1 : Nat); rw [BitVec.toNat_ofNat, e0]; omega,
          by show (i 1 : Nat) < (BitVec.ofNat 32 (grid0.coords ⟨(i 1 : Nat) / 1024, ht⟩ 0).val).toNat * 1024 + 1024; rw [BitVec.toNat_ofNat, e0]; omega⟩

/-- The run, its result array read. -/
theorem run_at (h : InRange m) (ρ : Dev nD → PrngReg) : θ_run defs (onTc (τ := τ) (main (F := Ideal))) ⟨m, fun _ => 0, ρ⟩ (fun r => ∀ c : Dev nD,
      r.2.mem ((c.tc : Thread nD τ).loc main_v0) = G h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r p c => ⟨((p.1 c).1 4).trans (final h (ok h) (hyps h (ok h)) c), p.2 c⟩)
    (θ_run_and (run_main m ρ (ok h) (hyps h (ok h))) (unchanged m ρ (ok h) (hyps h (ok h))))

end Cert.QueryIdeal

end
-- ==== Proof.Query.Reference.lean ====
module

public import proofs.«01_k».proof.Proof.Gen.QueryReferenceIdeal.Run
public import proofs.«01_k».proof.Proof.Query.Words
public import Idealize.ShloMosaic.Lib.Pointwise
public import Idealize.ShloMosaic.PureOps.Ideal.Laws

/-! The reference's distances at an index: the rows it gathers, and what it makes of them. -/

@[expose] public section

set_option maxRecDepth 16384

noncomputable section

namespace Cert.QueryReferenceIdeal

open Idealize.ShloMosaic Idealize.ShloMosaic.TcCoe
open Facts₀

/-- A place below zero counts from the end. -/
def placeE (p : IVec S18 32) : IVec S16 32 :=
  select (cmpi .slt (extractStridedSlice S16 ![0] p slices_S18_S16_0) (broadcastInDim S16 ![] bcast_S_S16 (constantI S_ 32 0#32)))
    (addi (extractStridedSlice S16 ![0] p slices_S18_S16_0) (broadcastInDim S16 ![] bcast_S_S16 (constantI S_ 32 1568#32)))
    (extractStridedSlice S16 ![0] p slices_S18_S16_0)

theorem placeE_at (p : IVec S18 32) (k : Fin 16) (j : Fin 18) (hj : j.val = 0 + k.val) (h : (p (ix1 j)).toNat < 1568) : placeE p (ix1 k) = p (ix1 j) := by
  have e : extractStridedSlice S16 ![0] p slices_S18_S16_0 (ix1 k) = p (ix1 j) := by
    refine congrArg p (funext fun a => Fin.ext ?_)
    match a with
    | ⟨0, _⟩ => exact hj.symm
  have c : IntOp.cmpi .slt (p (ix1 j)) 0#32 = 0#1 := by
    unfold IntOp.cmpi
    show BitVec.ofBool ((p (ix1 j)).slt 0#32) = 0#1
    rw [BitVec.slt_eq_decide, BitVec.toInt_eq_toNat_of_lt (by omega), decide_eq_false (by rw [show (0#32 : BitVec 32).toInt = 0 by decide]; omega)]
    rfl
  show (if IntOp.cmpi .slt (extractStridedSlice S16 ![0] p slices_S18_S16_0 (ix1 k)) 0#32 = 1#1 then _ else extractStridedSlice S16 ![0] p slices_S18_S16_0 (ix1 k)) = _
  rw [e, c]
  rfl

/-- The rows at the places. -/
def rowsE (p : IVec S18 32) (x : FVec Ideal S1568x1536 .f32) : FVec Ideal S16x1536 .f32 :=
  Host.gather gather_S1568x1536_S16x1_S16x1536_1_0_n_n_0_1_11536 x (broadcastInDim S16x1 ![0] bcast_S16_S16x1_0 (placeE p))

theorem rowsE_at (p : IVec S18 32) (x : FVec Ideal S1568x1536 .f32) (k : Fin 16) (d : Fin 1536) (j : Fin 18) (hj : j.val = 0 + k.val) (h : (p (ix1 j)).toNat < 1568) :
    rowsE p x (ix2 k d) = x (ix2 ⟨(p (ix1 j)).toNat, h⟩ d) := by
  have hi : broadcastInDim S16x1 ![0] bcast_S16_S16x1_0 (placeE p) (ix2 k 0) = p (ix1 j) := by
    rw [← placeE_at p k j hj h]
    pointwise []
  refine congrArg x (funext fun a => Fin.ext ?_)
  match a with
  | ⟨0, _⟩ =>
    show _ + _ + _ = (p (ix1 j)).toNat
    rw [GatherDims.batchCoord_eq_zero _ _ _ (by simp [gather_S1568x1536_S16x1_S16x1536_1_0_n_n_0_1_11536]),
      GatherDims.offCoord_eq_zero _ _ _ (fun h => ((GatherDims.mem_sKept _ _).mp h).1 (by simp [gather_S1568x1536_S16x1_S16x1536_1_0_n_n_0_1_11536]))]
    unfold GatherDims.start
    rw [dif_pos (by simp [gather_S1568x1536_S16x1_S16x1536_1_0_n_n_0_1_11536])]
    have hx : gather_S1568x1536_S16x1_S16x1536_1_0_n_n_0_1_11536.siIdx (ix2 k d : S16x1536.Idx) ⟨0, by decide⟩ = (ix2 k 0 : S16x1.Idx) := by
      funext c
      match c with
      | ⟨0, _⟩ => rfl
      | ⟨1, _⟩ => rfl
    show min ((broadcastInDim S16x1 ![0] bcast_S16_S16x1_0 (placeE p)) (gather_S1568x1536_S16x1_S16x1536_1_0_n_n_0_1_11536.siIdx (ix2 k d : S16x1536.Idx) ⟨0, by decide⟩)).toInt.toNat (1568 - 1) + 0 + 0 = (p (ix1 j)).toNat
    rw [hx, hi, BitVec.toInt_eq_toNat_of_lt (by omega), Int.toNat_natCast]
    omega
  | ⟨1, _⟩ =>
    show _ + _ + _ = d.val
    rw [GatherDims.batchCoord_eq_zero _ _ _ (by simp [gather_S1568x1536_S16x1_S16x1536_1_0_n_n_0_1_11536])]
    unfold GatherDims.start GatherDims.offCoord
    rw [dif_neg (by simp [gather_S1568x1536_S16x1_S16x1536_1_0_n_n_0_1_11536]), dif_pos ((GatherDims.mem_sKept _ _).mpr ⟨by simp [gather_S1568x1536_S16x1_S16x1536_1_0_n_n_0_1_11536], by simp [gather_S1568x1536_S16x1_S16x1536_1_0_n_n_0_1_11536]⟩)]
    exact (Nat.add_zero _).trans (Nat.zero_add _)

/-- A place below zero counts from the end. -/
def placeB (p : IVec S18 32) : IVec S2 32 :=
  select (cmpi .slt (extractStridedSlice S2 ![16] p slices_S18_S2_16) (broadcastInDim S2 ![] bcast_S_S2 (constantI S_ 32 0#32)))
    (addi (extractStridedSlice S2 ![16] p slices_S18_S2_16) (broadcastInDim S2 ![] bcast_S_S2 (constantI S_ 32 16384#32)))
    (extractStridedSlice S2 ![16] p slices_S18_S2_16)

theorem placeB_at (p : IVec S18 32) (k : Fin 2) (j : Fin 18) (hj : j.val = 16 + k.val) (h : (p (ix1 j)).toNat < 16384) : placeB p (ix1 k) = p (ix1 j) := by
  have e : extractStridedSlice S2 ![16] p slices_S18_S2_16 (ix1 k) = p (ix1 j) := by
    refine congrArg p (funext fun a => Fin.ext ?_)
    match a with
    | ⟨0, _⟩ => exact hj.symm
  have c : IntOp.cmpi .slt (p (ix1 j)) 0#32 = 0#1 := by
    unfold IntOp.cmpi
    show BitVec.ofBool ((p (ix1 j)).slt 0#32) = 0#1
    rw [BitVec.slt_eq_decide, BitVec.toInt_eq_toNat_of_lt (by omega), decide_eq_false (by rw [show (0#32 : BitVec 32).toInt = 0 by decide]; omega)]
    rfl
  show (if IntOp.cmpi .slt (extractStridedSlice S2 ![16] p slices_S18_S2_16 (ix1 k)) 0#32 = 1#1 then _ else extractStridedSlice S2 ![16] p slices_S18_S2_16 (ix1 k)) = _
  rw [e, c]
  rfl

/-- The rows at the places. -/
def rowsB (p : IVec S18 32) (x : FVec Ideal S16384x1536 .f32) : FVec Ideal S2x1536 .f32 :=
  Host.gather gather_S16384x1536_S2x1_S2x1536_1_0_n_n_0_1_11536 x (broadcastInDim S2x1 ![0] bcast_S2_S2x1_0 (placeB p))

theorem rowsB_at (p : IVec S18 32) (x : FVec Ideal S16384x1536 .f32) (k : Fin 2) (d : Fin 1536) (j : Fin 18) (hj : j.val = 16 + k.val) (h : (p (ix1 j)).toNat < 16384) :
    rowsB p x (ix2 k d) = x (ix2 ⟨(p (ix1 j)).toNat, h⟩ d) := by
  have hi : broadcastInDim S2x1 ![0] bcast_S2_S2x1_0 (placeB p) (ix2 k 0) = p (ix1 j) := by
    rw [← placeB_at p k j hj h]
    pointwise []
  refine congrArg x (funext fun a => Fin.ext ?_)
  match a with
  | ⟨0, _⟩ =>
    show _ + _ + _ = (p (ix1 j)).toNat
    rw [GatherDims.batchCoord_eq_zero _ _ _ (by simp [gather_S16384x1536_S2x1_S2x1536_1_0_n_n_0_1_11536]),
      GatherDims.offCoord_eq_zero _ _ _ (fun h => ((GatherDims.mem_sKept _ _).mp h).1 (by simp [gather_S16384x1536_S2x1_S2x1536_1_0_n_n_0_1_11536]))]
    unfold GatherDims.start
    rw [dif_pos (by simp [gather_S16384x1536_S2x1_S2x1536_1_0_n_n_0_1_11536])]
    have hx : gather_S16384x1536_S2x1_S2x1536_1_0_n_n_0_1_11536.siIdx (ix2 k d : S2x1536.Idx) ⟨0, by decide⟩ = (ix2 k 0 : S2x1.Idx) := by
      funext c
      match c with
      | ⟨0, _⟩ => rfl
      | ⟨1, _⟩ => rfl
    show min ((broadcastInDim S2x1 ![0] bcast_S2_S2x1_0 (placeB p)) (gather_S16384x1536_S2x1_S2x1536_1_0_n_n_0_1_11536.siIdx (ix2 k d : S2x1536.Idx) ⟨0, by decide⟩)).toInt.toNat (16384 - 1) + 0 + 0 = (p (ix1 j)).toNat
    rw [hx, hi, BitVec.toInt_eq_toNat_of_lt (by omega), Int.toNat_natCast]
    omega
  | ⟨1, _⟩ =>
    show _ + _ + _ = d.val
    rw [GatherDims.batchCoord_eq_zero _ _ _ (by simp [gather_S16384x1536_S2x1_S2x1536_1_0_n_n_0_1_11536])]
    unfold GatherDims.start GatherDims.offCoord
    rw [dif_neg (by simp [gather_S16384x1536_S2x1_S2x1536_1_0_n_n_0_1_11536]), dif_pos ((GatherDims.mem_sKept _ _).mpr ⟨by simp [gather_S16384x1536_S2x1_S2x1536_1_0_n_n_0_1_11536], by simp [gather_S16384x1536_S2x1_S2x1536_1_0_n_n_0_1_11536]⟩)]
    exact (Nat.add_zero _).trans (Nat.zero_add _)

/-- The queries: the rows of both. -/
def queries (p : IVec S18 32) (e : FVec Ideal S1568x1536 .f32) (b : FVec Ideal S16384x1536 .f32) : FVec Ideal S18x1536 .f32 :=
  concatenate S18x1536 0 [⟨S16x1536, rowsE p e⟩, ⟨S2x1536, rowsB p b⟩] concatenates_S16x1536_S2x1536_S18x1536_d0

theorem queries_low (p : IVec S18 32) (e : FVec Ideal S1568x1536 .f32) (b : FVec Ideal S16384x1536 .f32) (k : Fin 18) (hk : k.val < 16) (d : Fin 1536) :
    queries p e b (ix2 k d) = rowsE p e (ix2 ⟨k.val, hk⟩ d) := by
  unfold queries
  refine concatenate_pair_apply_left 0 (rowsE p e) (rowsB p b) concatenates_S16x1536_S2x1536_S18x1536_d0 (ix2 k d) rfl (ix2 ⟨k.val, hk⟩ d) fun a => ?_
  match a with
  | ⟨0, _⟩ => rfl
  | ⟨1, _⟩ => rfl

theorem queries_high (p : IVec S18 32) (e : FVec Ideal S1568x1536 .f32) (b : FVec Ideal S16384x1536 .f32) (k : Fin 18) (hk : 16 ≤ k.val) (d : Fin 1536) :
    queries p e b (ix2 k d) = rowsB p b (ix2 ⟨k.val - 16, by omega⟩ d) := by
  unfold queries
  refine concatenate_pair_apply_right 0 (rowsE p e) (rowsB p b) concatenates_S16x1536_S2x1536_S18x1536_d0 (ix2 k d) rfl rfl (ix2 ⟨k.val - 16, by omega⟩ d) (fun a ha => ?_) ?_
  · match a with
    | ⟨0, _⟩ => exact absurd rfl ha
    | ⟨1, _⟩ => rfl
  · show k.val - 16 + 16 = k.val
    omega

/-- The squared distances of rows to the bank's rows, kept away from zero. -/
def away (Q : FVec Ideal S18x1536 .f32) (b : FVec Ideal S16384x1536 .f32) : FVec Ideal S18x16384 .f32 :=
  maximumf (subf (addf (broadcastInDim S18x16384 ![0, 1] bcast_S18x1_S18x16384_0_1 (broadcastInDim S18x1 ![0] bcast_S18_S18x1_0 (Host.reduceAdd (mulf Q Q) (constant S_ .f32 0x00000000#32) reducesTo_S18x1536_S18_d1 h_S_)))
    (broadcastInDim S18x16384 ![0, 1] bcast_S1x16384_S18x16384_0_1 (broadcastInDim S1x16384 ![1] bcast_S16384_S1x16384_1 (Host.reduceAdd (mulf b b) (constant S_ .f32 0x00000000#32) reducesTo_S16384x1536_S16384_d1 h_S_))))
    (mulf (broadcastInDim S18x16384 ![] bcast_S_S18x16384 (constant S_ .f32 0x40000000#32))
      (Host.dotGeneral dot_S18x1536_S1536x16384_S18x16384_1_0_0_1_n_n none Q (transpose S1536x16384 [1, 0] b transposes_S16384x1536_S1536x16384_1_0))))
    (broadcastInDim S18x16384 ![] bcast_S_S18x16384 (constant S_ .f32 0x2B8CBCCC#32))

theorem away_at (Q : FVec Ideal S18x1536 .f32) (b : FVec Ideal S16384x1536 .f32) (k : Fin 18) (n : Fin 16384) :
    away Q b (ix2 k n) = max (((∑ q : Fin 1536, (Q (ix2 k q) * Q (ix2 k q) : EReal)) + ∑ q : Fin 1536, (b (ix2 n q) * b (ix2 n q) : EReal))
      - Ideal.ofBits .f32 0x40000000#32 * ∑ q : Fin 1536, (Q (ix2 k q) * b (ix2 n q) : EReal)) (Ideal.ofBits .f32 0x2B8CBCCC#32) := by
  pointwise [away]

theorem result_eq (m : (ℓ : Loc nD τ sig) → Buf (Elt Ideal) ℓ) (c : Dev nD) :
    Value.res_main_v32 m c = away (queries (m ((c.tc : Thread nD τ).loc main_arg0)) (m ((c.tc : Thread nD τ).loc main_arg1)) (m ((c.tc : Thread nD τ).loc main_arg2)))
      (m ((c.tc : Thread nD τ).loc main_arg2)) := by
  unfold Value.res_main_v32
  rfl

end Cert.QueryReferenceIdeal

end
-- ==== Proof.Query.Agree.lean ====
module

public import proofs.«01_k».proof.Defs
public import proofs.«01_k».proof.Proof.Query.Kernel
public import proofs.«01_k».proof.Proof.Query.Reference
public import proofs.«01_k».proof.Proof.Query.Range

/-! The claims of the queries' distances: every program runs, and kernel and reference end with one array. -/

@[expose] public section

noncomputable section

namespace Cert.QueryProof

open Idealize.ShloMosaic Idealize.ShloMosaic.TcCoe Idealize.SL.Sem

theorem in_range (m : (ℓ : Loc Cert.Query.nD Cert.Query.τ Cert.Query.sig) → Buf (Elt Bits) ℓ) (hp : Cert.Pre_Query (hPre_places_in_range := facts) m) :
    Cert.Query.InRange m := fun k => word_lt _ _ _ (hp 0) k

theorem in_range_ideal (m : (ℓ : Loc Cert.QueryIdeal.nD Cert.QueryIdeal.τ Cert.QueryIdeal.sig) → Buf (Elt Ideal) ℓ)
    (hp : Cert.Pre_QueryIdeal (hPre_places_in_range := facts) m) : Cert.QueryIdeal.InRange m := fun k => word_lt _ _ _ (hp 0) k

theorem frame_kernel : Cert.quiescent_Query (hQuery := Cert.Query.Gen.facts) (hPre_places_in_range := facts) :=
  fun m g hp => Cert.Query.Gen.frame m g (Cert.Query.ok (in_range m hp)) (Cert.Query.hyps (in_range m hp) _)

theorem frame_ideal : Cert.quiescent_QueryIdeal (hQueryIdeal := Cert.QueryIdeal.Gen.facts) (hPre_places_in_range := facts) :=
  fun m g hp => Cert.QueryIdeal.Gen.frame m g (Cert.QueryIdeal.ok (in_range_ideal m hp)) (Cert.QueryIdeal.hyps (in_range_ideal m hp) _)

theorem frame_reference : Cert.quiescent_QueryReferenceIdeal (hQueryReferenceIdeal := Cert.QueryReferenceIdeal.Gen.facts) :=
  fun m g _ => (θ_run _ _ _).mono (fun r h => ⟨fun c => (h c).2, sem_eq_zero_of_no_sems (by decide) r.2⟩)
    (Cert.QueryReferenceIdeal.Value.run m g)

theorem frame_reference_pre :
    Cert.quiescent_QueryReferenceIdeal_pre_places_in_range (hQueryReferenceIdeal := Cert.QueryReferenceIdeal.Gen.facts) (hPre_places_in_range := facts) :=
  fun m g _ => frame_reference m g trivial

/-- The reference's rows are the kernel's. -/
theorem query_eq (m : (ℓ : Loc Cert.QueryIdeal.nD Cert.QueryIdeal.τ Cert.QueryIdeal.sig) → Buf (Elt Ideal) ℓ) (h : Cert.QueryIdeal.InRange m)
    (c : Dev Cert.QueryIdeal.nD) (k : Fin 18) (d : Fin 1536) :
    Cert.QueryReferenceIdeal.queries (m ((c.tc : Thread Cert.QueryIdeal.nD Cert.QueryIdeal.τ).loc Cert.QueryIdeal.main_arg0))
      (m ((c.tc : Thread Cert.QueryIdeal.nD Cert.QueryIdeal.τ).loc Cert.QueryIdeal.main_arg1))
      (m ((c.tc : Thread Cert.QueryIdeal.nD Cert.QueryIdeal.τ).loc Cert.QueryIdeal.main_arg2)) (ix2 k d) = Cert.QueryIdeal.query h c k d := by
  obtain rfl : c = 0 := Subsingleton.elim (α := Fin 1) _ _
  unfold Cert.QueryIdeal.query
  by_cases hk : k.val < 16
  · refine (Cert.QueryReferenceIdeal.queries_low _ _ _ k hk d).trans (Eq.trans ?_ (dif_pos hk).symm)
    exact Cert.QueryReferenceIdeal.rowsE_at _ _ ⟨k.val, hk⟩ d k (Nat.zero_add _).symm (Cert.QueryIdeal.low h k hk)
  · refine (Cert.QueryReferenceIdeal.queries_high _ _ _ k (Nat.le_of_not_lt hk) d).trans (Eq.trans ?_ (dif_neg hk).symm)
    exact Cert.QueryReferenceIdeal.rowsB_at _ _ ⟨k.val - 16, by omega⟩ d k (by show k.val = 16 + (k.val - 16); omega) (Cert.QueryIdeal.high h k hk)

theorem results_eq (m : (ℓ : Loc Cert.QueryIdeal.nD Cert.QueryIdeal.τ Cert.QueryIdeal.sig) → Buf (Elt Ideal) ℓ) (h : Cert.QueryIdeal.InRange m)
    (c : Dev Cert.QueryIdeal.nD) :
    Cert.QueryReferenceIdeal.away (Cert.QueryReferenceIdeal.queries (m ((c.tc : Thread Cert.QueryIdeal.nD Cert.QueryIdeal.τ).loc Cert.QueryIdeal.main_arg0))
      (m ((c.tc : Thread Cert.QueryIdeal.nD Cert.QueryIdeal.τ).loc Cert.QueryIdeal.main_arg1))
      (m ((c.tc : Thread Cert.QueryIdeal.nD Cert.QueryIdeal.τ).loc Cert.QueryIdeal.main_arg2)))
      (m ((c.tc : Thread Cert.QueryIdeal.nD Cert.QueryIdeal.τ).loc Cert.QueryIdeal.main_arg2)) = Cert.QueryIdeal.G h c := by
  funext y
  obtain ⟨k, n, rfl⟩ : ∃ (k : Fin 18) (n : Fin 16384), y = ix2 k n := ⟨y 0, y 1, eq_ix2 y⟩
  refine (Cert.QueryReferenceIdeal.away_at _ _ k n).trans ?_
  simp only [query_eq m h c]
  rfl

theorem agree : Cert.algebraic_QueryIdeal_QueryReferenceIdeal (hQueryIdeal := Cert.QueryIdeal.Gen.facts)
    (hQueryReferenceIdeal := Cert.QueryReferenceIdeal.Gen.facts) (hPre_places_in_range := facts) := by
  intro m g m' g' hp hm
  refine ⟨_, Cert.QueryIdeal.run_at (in_range_ideal m hp) g, ?_⟩
  refine (θ_run _ _ _).mono (fun r h c => ⟨(h c).1.trans ?_, (h c).2⟩) (Cert.QueryReferenceIdeal.Value.run m' g')
  refine (Cert.QueryReferenceIdeal.result_eq m' c).trans ?_
  rw [(hm c).1, (hm c).2.1, (hm c).2.2]
  exact results_eq m (in_range_ideal m hp) c

end Cert.QueryProof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Score
public import proofs.«01_k».proof.Proof.Gen.Score.Frame
public import proofs.«01_k».proof.Proof.Gen.ScoreIdeal
public import proofs.«01_k».proof.Proof.Gen.ScoreIdeal.Value
public import proofs.«01_k».proof.Proof.Gen.ScoreReferenceIdeal
public import proofs.«01_k».proof.Proof.Gen.ScoreReferenceIdeal.Run
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Gen.QueryReferenceIdeal
public import proofs.«01_k».proof.Proof.Gen.QueryReferenceIdeal.Run
public import proofs.«01_k».proof.Proof.K.Run
public import proofs.«01_k».proof.Proof.I.Run
public import proofs.«01_k».proof.Proof.Value.Agree
public import proofs.«01_k».proof.Proof.Score.Agree
public import proofs.«01_k».proof.Proof.Query.Agree
public import Idealize.ShloMosaic.Adequacy
public import Idealize.ShloMosaic.Init

@[expose] public section

noncomputable section

namespace Cert.Proof

open Idealize.ShloMosaic Idealize.SL.Sem

/-- The kernel runs and leaves its arguments. -/
theorem frame_kernel : Cert.quiescent_Kernel (hKernel := Cert.Kernel.Gen.facts) :=
  fun m g _ => Cert.Kernel.frame_run m g

/-- So does its idealization. -/
theorem frame_ideal : Cert.quiescent_KernelIdeal (hKernelIdeal := Cert.KernelIdeal.Gen.facts) :=
  fun m g _ => Cert.KernelIdeal.frame_run m g

/-- So does the reference, which has no semaphore. -/
theorem frame_reference : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- The one rewritten constant stands for infinity. -/
theorem preserved : Cert.preserves_Kernel_KernelIdeal :=
  IdealRules.named_const.statement Cert.KernelIdeal.κ "inf" .f32 0x7F61B1E6#32 ⊤ rfl

/-- On arguments that agree, the idealized kernel and the idealized reference end with one anomaly map. -/
theorem agree : Cert.algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.W10 m g c (Proc.devRef .tc Cert.KernelIdeal.main_v41), ?_, ?_⟩
  · exact (θ_run _ _ _).mono (fun r h c => ⟨h.1 c _ (Cert.KernelIdeal.mem_uc Cert.KernelIdeal.main_v41 (by decide)),
      (h.1 c _ (Cert.KernelIdeal.mem_uc Cert.KernelIdeal.main_arg0 (by decide))).trans (Cert.KernelIdeal.W10_args m g c Cert.KernelIdeal.main_arg0 (by decide)),
      (h.1 c _ (Cert.KernelIdeal.mem_uc Cert.KernelIdeal.main_arg1 (by decide))).trans (Cert.KernelIdeal.W10_args m g c Cert.KernelIdeal.main_arg1 (by decide))⟩)
      (Cert.KernelIdeal.run m g)
  · exact (θ_run _ _ _).mono (fun r h c => ⟨(h c).1.trans (results_eq m g (StableHlo.launchContents m' c) c (hm c).1 (hm c).2), (h c).2⟩)
      (Cert.ReferenceIdeal.Value.run m' g')

theorem claim : Cert.Claim :=
  ⟨Cert.Kernel.Gen.facts, Cert.KernelIdeal.Gen.facts, Cert.ReferenceIdeal.Gen.facts,
    Cert.Score.Gen.facts, Cert.ScoreIdeal.Gen.facts, Cert.ScoreReferenceIdeal.Gen.facts,
    Cert.Query.Gen.facts, Cert.QueryIdeal.Gen.facts, Cert.QueryReferenceIdeal.Gen.facts, Cert.ScoreProof.facts, Cert.QueryProof.facts,
    frame_kernel, frame_ideal, frame_reference,
    Cert.ScoreProof.frame_kernel, Cert.ScoreProof.frame_ideal, Cert.ScoreProof.frame_ideal_pre, Cert.ScoreProof.frame_reference, Cert.ScoreProof.frame_reference_pre,
    Cert.QueryProof.frame_kernel, Cert.QueryProof.frame_ideal, Cert.QueryProof.frame_reference, Cert.QueryProof.frame_reference_pre,
    preserved, agree, trivial, Cert.ScoreProof.agree, trivial, Cert.QueryProof.agree⟩

end Cert.Proof

end
